-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x12x207 : Shape := ⟨3, ![4096, 12, 207]⟩
abbrev S32x2x16 : Shape := ⟨3, ![32, 2, 16]⟩
abbrev S4x12x207 : Shape := ⟨3, ![4, 12, 207]⟩
abbrev S2x16 : Shape := ⟨2, ![2, 16]⟩
abbrev S_ : Shape := ⟨0, ![]⟩
abbrev S16 : Shape := ⟨1, ![16]⟩
abbrev S1x1x16 : Shape := ⟨3, ![1, 1, 16]⟩
abbrev S1x16 : Shape := ⟨2, ![1, 16]⟩
abbrev S1x2x16 : Shape := ⟨3, ![1, 2, 16]⟩
abbrev S1x1 : Shape := ⟨2, ![1, 1]⟩
abbrev S256x12x207 : Shape := ⟨3, ![256, 12, 207]⟩
abbrev S1x256x12x207 : Shape := ⟨4, ![1, 256, 12, 207]⟩
abbrev S1 : Shape := ⟨1, ![1]⟩
abbrev S1x1x1x1 : Shape := ⟨4, ![1, 1, 1, 1]⟩
abbrev S32x1x16 : Shape := ⟨3, ![32, 1, 16]⟩
abbrev S32x16 : Shape := ⟨2, ![32, 16]⟩
abbrev S32x1x15 : Shape := ⟨3, ![32, 1, 15]⟩
abbrev S32x15 : Shape := ⟨2, ![32, 15]⟩

abbrev nBuf : Table → Nat
  | .hbm => 35
  | .local .tc .vmem => 4
  | .local .tc .smem => 2
  | .local .scVector .vmem => 6
  | _ => 0

abbrev bufTy : (tb : Table) → Fin (nBuf tb) → BufTy
  | .hbm, ⟨0, _⟩ => ⟨S4096x12x207, .f32⟩
  | .hbm, ⟨1, _⟩ => ⟨S4096x12x207, .f32⟩
  | .hbm, ⟨2, _⟩ => ⟨S32x2x16, .f32⟩
  | .hbm, ⟨3, _⟩ => ⟨S32x2x16, .f32⟩
  | .hbm, ⟨4, _⟩ => ⟨S1x1, .f32⟩
  | .hbm, ⟨5, _⟩ => ⟨S1x1, .f32⟩
  | .hbm, ⟨6, _⟩ => ⟨S32x1x16, .f32⟩
  | .hbm, ⟨7, _⟩ => ⟨S32x16, .f32⟩
  | .hbm, ⟨8, _⟩ => ⟨S_, .f32⟩
  | .hbm, ⟨9, _⟩ => ⟨S_, .f32⟩
  | .hbm, ⟨10, _⟩ => ⟨S32x1x15, .f32⟩
  | .hbm, ⟨11, _⟩ => ⟨S32x15, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S32x1x16, .f32⟩
  | .hbm, ⟨18, _⟩ => ⟨S32x16, .f32⟩
  | .hbm, ⟨19, _⟩ => ⟨S_, .f32⟩
  | .hbm, ⟨20, _⟩ => ⟨S_, .f32⟩
  | .hbm, ⟨21, _⟩ => ⟨S32x1x15, .f32⟩
  | .hbm, ⟨22, _⟩ => ⟨S32x15, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local .tc .vmem, ⟨0, _⟩ => ⟨S256x12x207, .f32⟩
  | .local .tc .vmem, ⟨1, _⟩ => ⟨S256x12x207, .f32⟩
  | .local .tc .vmem, ⟨2, _⟩ => ⟨S256x12x207, .f32⟩
  | .local .tc .vmem, ⟨3, _⟩ => ⟨S256x12x207, .f32⟩
  | .local .tc .smem, ⟨0, _⟩ => ⟨S1x1, .f32⟩
  | .local .tc .smem, ⟨1, _⟩ => ⟨S1x1, .f32⟩
  | .local .scVector .vmem, ⟨0, _⟩ => ⟨S4x12x207, .f32⟩
  | .local .scVector .vmem, ⟨1, _⟩ => ⟨S4x12x207, .f32⟩
  | .local .scVector .vmem, ⟨2, _⟩ => ⟨S4x12x207, .f32⟩
  | .local .scVector .vmem, ⟨3, _⟩ => ⟨S4x12x207, .f32⟩
  | .local .scVector .vmem, ⟨4, _⟩ => ⟨S2x16, .f32⟩
  | .local .scVector .vmem, ⟨5, _⟩ => ⟨S2x16, .f32⟩
  | _, _ => ⟨S4096x12x207, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 2, rfl⟩
abbrev main_v0_1_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.smem, 0, rfl⟩
abbrev cc1_stg3_0 : Ref sig .tc := ⟨.smem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v4 : BitVec 32 := Scalar.addi v2 c0_i32
  let c0_i32_0 : BitVec 32 := 0#32
  let c0_i32_1 : BitVec 32 := 0#32
  ![v4.toNat, 0, 0]
@[reducible] def k0_t1_loop : Scf.Loop 32 :=
  let c0_i32_16 : BitVec 32 := 0#32
  let c3_i32 : BitVec 32 := 3#32
  let v14 : BitVec 32 := Scalar.addi c0_i32_16 c3_i32
  let c1_i32 : BitVec 32 := 1#32
  ⟨c0_i32_16, v14, c1_i32⟩
@[reducible] def k0_t2_loop : Scf.Loop 32 :=
  let c0_i32_69 : BitVec 32 := 0#32
  let c4_i32_70 : BitVec 32 := 4#32
  let v52 : BitVec 32 := Scalar.addi c0_i32_69 c4_i32_70
  let c1_i32_71 : BitVec 32 := 1#32
  ⟨c0_i32_69, v52, c1_i32_71⟩
def k0_off2 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v76 : Index := Scalar.indexCast arg23
  let c0_i32_111 : BitVec 32 := 0#32
  let v77 : Index := Scalar.indexCast c0_i32_111
  let c0_112 : Index := 0#32
  ![v76.toNat, 0, 0]
def k0_off3 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v95 : Index := Scalar.indexCast arg23
  let c0_i32_119 : BitVec 32 := 0#32
  let v96 : Index := Scalar.indexCast c0_i32_119
  let c16 : Index := 16#32
  ![v95.toNat, 0, 16]
def k0_off4 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v114 : Index := Scalar.indexCast arg23
  let c0_i32_126 : BitVec 32 := 0#32
  let v115 : Index := Scalar.indexCast c0_i32_126
  let c32 : Index := 32#32
  ![v114.toNat, 0, 32]
def k0_off5 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v133 : Index := Scalar.indexCast arg23
  let c0_i32_133 : BitVec 32 := 0#32
  let v134 : Index := Scalar.indexCast c0_i32_133
  let c48 : Index := 48#32
  ![v133.toNat, 0, 48]
def k0_off6 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v152 : Index := Scalar.indexCast arg23
  let c0_i32_140 : BitVec 32 := 0#32
  let v153 : Index := Scalar.indexCast c0_i32_140
  let c64 : Index := 64#32
  ![v152.toNat, 0, 64]
def k0_off7 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v171 : Index := Scalar.indexCast arg23
  let c0_i32_147 : BitVec 32 := 0#32
  let v172 : Index := Scalar.indexCast c0_i32_147
  let c80 : Index := 80#32
  ![v171.toNat, 0, 80]
def k0_off8 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v190 : Index := Scalar.indexCast arg23
  let c0_i32_154 : BitVec 32 := 0#32
  let v191 : Index := Scalar.indexCast c0_i32_154
  let c96 : Index := 96#32
  ![v190.toNat, 0, 96]
def k0_off9 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v209 : Index := Scalar.indexCast arg23
  let c0_i32_161 : BitVec 32 := 0#32
  let v210 : Index := Scalar.indexCast c0_i32_161
  let c112 : Index := 112#32
  ![v209.toNat, 0, 112]
def k0_off10 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v228 : Index := Scalar.indexCast arg23
  let c0_i32_168 : BitVec 32 := 0#32
  let v229 : Index := Scalar.indexCast c0_i32_168
  let c128 : Index := 128#32
  ![v228.toNat, 0, 128]
def k0_off11 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v247 : Index := Scalar.indexCast arg23
  let c0_i32_175 : BitVec 32 := 0#32
  let v248 : Index := Scalar.indexCast c0_i32_175
  let c144 : Index := 144#32
  ![v247.toNat, 0, 144]
def k0_off12 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v266 : Index := Scalar.indexCast arg23
  let c0_i32_182 : BitVec 32 := 0#32
  let v267 : Index := Scalar.indexCast c0_i32_182
  let c160 : Index := 160#32
  ![v266.toNat, 0, 160]
def k0_off13 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v285 : Index := Scalar.indexCast arg23
  let c0_i32_189 : BitVec 32 := 0#32
  let v286 : Index := Scalar.indexCast c0_i32_189
  let c176 : Index := 176#32
  ![v285.toNat, 0, 176]
def k0_off14 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v304 : Index := Scalar.indexCast arg23
  let c0_i32_196 : BitVec 32 := 0#32
  let v305 : Index := Scalar.indexCast c0_i32_196
  let c191 : Index := 191#32
  ![v304.toNat, 0, 191]
def k0_off15 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v323 : Index := Scalar.indexCast arg23
  let c1_i32_203 : BitVec 32 := 1#32
  let v324 : Index := Scalar.indexCast c1_i32_203
  let c0_204 : Index := 0#32
  ![v323.toNat, 1, 0]
def k0_off16 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v342 : Index := Scalar.indexCast arg23
  let c1_i32_211 : BitVec 32 := 1#32
  let v343 : Index := Scalar.indexCast c1_i32_211
  let c16_212 : Index := 16#32
  ![v342.toNat, 1, 16]
def k0_off17 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v361 : Index := Scalar.indexCast arg23
  let c1_i32_219 : BitVec 32 := 1#32
  let v362 : Index := Scalar.indexCast c1_i32_219
  let c32_220 : Index := 32#32
  ![v361.toNat, 1, 32]
def k0_off18 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v380 : Index := Scalar.indexCast arg23
  let c1_i32_227 : BitVec 32 := 1#32
  let v381 : Index := Scalar.indexCast c1_i32_227
  let c48_228 : Index := 48#32
  ![v380.toNat, 1, 48]
def k0_off19 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v399 : Index := Scalar.indexCast arg23
  let c1_i32_235 : BitVec 32 := 1#32
  let v400 : Index := Scalar.indexCast c1_i32_235
  let c64_236 : Index := 64#32
  ![v399.toNat, 1, 64]
def k0_off20 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v418 : Index := Scalar.indexCast arg23
  let c1_i32_243 : BitVec 32 := 1#32
  let v419 : Index := Scalar.indexCast c1_i32_243
  let c80_244 : Index := 80#32
  ![v418.toNat, 1, 80]
def k0_off21 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v437 : Index := Scalar.indexCast arg23
  let c1_i32_251 : BitVec 32 := 1#32
  let v438 : Index := Scalar.indexCast c1_i32_251
  let c96_252 : Index := 96#32
  ![v437.toNat, 1, 96]
def k0_off22 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v456 : Index := Scalar.indexCast arg23
  let c1_i32_259 : BitVec 32 := 1#32
  let v457 : Index := Scalar.indexCast c1_i32_259
  let c112_260 : Index := 112#32
  ![v456.toNat, 1, 112]
def k0_off23 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v475 : Index := Scalar.indexCast arg23
  let c1_i32_267 : BitVec 32 := 1#32
  let v476 : Index := Scalar.indexCast c1_i32_267
  let c128_268 : Index := 128#32
  ![v475.toNat, 1, 128]
def k0_off24 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v494 : Index := Scalar.indexCast arg23
  let c1_i32_275 : BitVec 32 := 1#32
  let v495 : Index := Scalar.indexCast c1_i32_275
  let c144_276 : Index := 144#32
  ![v494.toNat, 1, 144]
def k0_off25 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v513 : Index := Scalar.indexCast arg23
  let c1_i32_283 : BitVec 32 := 1#32
  let v514 : Index := Scalar.indexCast c1_i32_283
  let c160_284 : Index := 160#32
  ![v513.toNat, 1, 160]
def k0_off26 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v532 : Index := Scalar.indexCast arg23
  let c1_i32_291 : BitVec 32 := 1#32
  let v533 : Index := Scalar.indexCast c1_i32_291
  let c176_292 : Index := 176#32
  ![v532.toNat, 1, 176]
def k0_off27 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v551 : Index := Scalar.indexCast arg23
  let c1_i32_299 : BitVec 32 := 1#32
  let v552 : Index := Scalar.indexCast c1_i32_299
  let c191_300 : Index := 191#32
  ![v551.toNat, 1, 191]
def k0_off28 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v570 : Index := Scalar.indexCast arg23
  let c2_i32_307 : BitVec 32 := 2#32
  let v571 : Index := Scalar.indexCast c2_i32_307
  let c0_308 : Index := 0#32
  ![v570.toNat, 2, 0]
def k0_off29 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v589 : Index := Scalar.indexCast arg23
  let c2_i32_315 : BitVec 32 := 2#32
  let v590 : Index := Scalar.indexCast c2_i32_315
  let c16_316 : Index := 16#32
  ![v589.toNat, 2, 16]
def k0_off30 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v608 : Index := Scalar.indexCast arg23
  let c2_i32_323 : BitVec 32 := 2#32
  let v609 : Index := Scalar.indexCast c2_i32_323
  let c32_324 : Index := 32#32
  ![v608.toNat, 2, 32]
def k0_off31 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v627 : Index := Scalar.indexCast arg23
  let c2_i32_331 : BitVec 32 := 2#32
  let v628 : Index := Scalar.indexCast c2_i32_331
  let c48_332 : Index := 48#32
  ![v627.toNat, 2, 48]
def k0_off32 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v646 : Index := Scalar.indexCast arg23
  let c2_i32_339 : BitVec 32 := 2#32
  let v647 : Index := Scalar.indexCast c2_i32_339
  let c64_340 : Index := 64#32
  ![v646.toNat, 2, 64]
def k0_off33 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v665 : Index := Scalar.indexCast arg23
  let c2_i32_347 : BitVec 32 := 2#32
  let v666 : Index := Scalar.indexCast c2_i32_347
  let c80_348 : Index := 80#32
  ![v665.toNat, 2, 80]
def k0_off34 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v684 : Index := Scalar.indexCast arg23
  let c2_i32_355 : BitVec 32 := 2#32
  let v685 : Index := Scalar.indexCast c2_i32_355
  let c96_356 : Index := 96#32
  ![v684.toNat, 2, 96]
def k0_off35 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v703 : Index := Scalar.indexCast arg23
  let c2_i32_363 : BitVec 32 := 2#32
  let v704 : Index := Scalar.indexCast c2_i32_363
  let c112_364 : Index := 112#32
  ![v703.toNat, 2, 112]
def k0_off36 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v722 : Index := Scalar.indexCast arg23
  let c2_i32_371 : BitVec 32 := 2#32
  let v723 : Index := Scalar.indexCast c2_i32_371
  let c128_372 : Index := 128#32
  ![v722.toNat, 2, 128]
def k0_off37 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v741 : Index := Scalar.indexCast arg23
  let c2_i32_379 : BitVec 32 := 2#32
  let v742 : Index := Scalar.indexCast c2_i32_379
  let c144_380 : Index := 144#32
  ![v741.toNat, 2, 144]
def k0_off38 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v760 : Index := Scalar.indexCast arg23
  let c2_i32_387 : BitVec 32 := 2#32
  let v761 : Index := Scalar.indexCast c2_i32_387
  let c160_388 : Index := 160#32
  ![v760.toNat, 2, 160]
def k0_off39 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v779 : Index := Scalar.indexCast arg23
  let c2_i32_395 : BitVec 32 := 2#32
  let v780 : Index := Scalar.indexCast c2_i32_395
  let c176_396 : Index := 176#32
  ![v779.toNat, 2, 176]
def k0_off40 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v798 : Index := Scalar.indexCast arg23
  let c2_i32_403 : BitVec 32 := 2#32
  let v799 : Index := Scalar.indexCast c2_i32_403
  let c191_404 : Index := 191#32
  ![v798.toNat, 2, 191]
def k0_off41 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v817 : Index := Scalar.indexCast arg23
  let c3_i32_411 : BitVec 32 := 3#32
  let v818 : Index := Scalar.indexCast c3_i32_411
  let c0_412 : Index := 0#32
  ![v817.toNat, 3, 0]
def k0_off42 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v836 : Index := Scalar.indexCast arg23
  let c3_i32_419 : BitVec 32 := 3#32
  let v837 : Index := Scalar.indexCast c3_i32_419
  let c16_420 : Index := 16#32
  ![v836.toNat, 3, 16]
def k0_off43 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v855 : Index := Scalar.indexCast arg23
  let c3_i32_427 : BitVec 32 := 3#32
  let v856 : Index := Scalar.indexCast c3_i32_427
  let c32_428 : Index := 32#32
  ![v855.toNat, 3, 32]
def k0_off44 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v874 : Index := Scalar.indexCast arg23
  let c3_i32_435 : BitVec 32 := 3#32
  let v875 : Index := Scalar.indexCast c3_i32_435
  let c48_436 : Index := 48#32
  ![v874.toNat, 3, 48]
def k0_off45 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v893 : Index := Scalar.indexCast arg23
  let c3_i32_443 : BitVec 32 := 3#32
  let v894 : Index := Scalar.indexCast c3_i32_443
  let c64_444 : Index := 64#32
  ![v893.toNat, 3, 64]
def k0_off46 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v912 : Index := Scalar.indexCast arg23
  let c3_i32_451 : BitVec 32 := 3#32
  let v913 : Index := Scalar.indexCast c3_i32_451
  let c80_452 : Index := 80#32
  ![v912.toNat, 3, 80]
def k0_off47 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v931 : Index := Scalar.indexCast arg23
  let c3_i32_459 : BitVec 32 := 3#32
  let v932 : Index := Scalar.indexCast c3_i32_459
  let c96_460 : Index := 96#32
  ![v931.toNat, 3, 96]
def k0_off48 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v950 : Index := Scalar.indexCast arg23
  let c3_i32_467 : BitVec 32 := 3#32
  let v951 : Index := Scalar.indexCast c3_i32_467
  let c112_468 : Index := 112#32
  ![v950.toNat, 3, 112]
def k0_off49 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v969 : Index := Scalar.indexCast arg23
  let c3_i32_475 : BitVec 32 := 3#32
  let v970 : Index := Scalar.indexCast c3_i32_475
  let c128_476 : Index := 128#32
  ![v969.toNat, 3, 128]
def k0_off50 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v988 : Index := Scalar.indexCast arg23
  let c3_i32_483 : BitVec 32 := 3#32
  let v989 : Index := Scalar.indexCast c3_i32_483
  let c144_484 : Index := 144#32
  ![v988.toNat, 3, 144]
def k0_off51 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1007 : Index := Scalar.indexCast arg23
  let c3_i32_491 : BitVec 32 := 3#32
  let v1008 : Index := Scalar.indexCast c3_i32_491
  let c160_492 : Index := 160#32
  ![v1007.toNat, 3, 160]
def k0_off52 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1026 : Index := Scalar.indexCast arg23
  let c3_i32_499 : BitVec 32 := 3#32
  let v1027 : Index := Scalar.indexCast c3_i32_499
  let c176_500 : Index := 176#32
  ![v1026.toNat, 3, 176]
def k0_off53 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1045 : Index := Scalar.indexCast arg23
  let c3_i32_507 : BitVec 32 := 3#32
  let v1046 : Index := Scalar.indexCast c3_i32_507
  let c191_508 : Index := 191#32
  ![v1045.toNat, 3, 191]
def k0_off54 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1064 : Index := Scalar.indexCast arg23
  let c4_i32_515 : BitVec 32 := 4#32
  let v1065 : Index := Scalar.indexCast c4_i32_515
  let c0_516 : Index := 0#32
  ![v1064.toNat, 4, 0]
def k0_off55 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1083 : Index := Scalar.indexCast arg23
  let c4_i32_523 : BitVec 32 := 4#32
  let v1084 : Index := Scalar.indexCast c4_i32_523
  let c16_524 : Index := 16#32
  ![v1083.toNat, 4, 16]
def k0_off56 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1102 : Index := Scalar.indexCast arg23
  let c4_i32_531 : BitVec 32 := 4#32
  let v1103 : Index := Scalar.indexCast c4_i32_531
  let c32_532 : Index := 32#32
  ![v1102.toNat, 4, 32]
def k0_off57 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1121 : Index := Scalar.indexCast arg23
  let c4_i32_539 : BitVec 32 := 4#32
  let v1122 : Index := Scalar.indexCast c4_i32_539
  let c48_540 : Index := 48#32
  ![v1121.toNat, 4, 48]
def k0_off58 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1140 : Index := Scalar.indexCast arg23
  let c4_i32_547 : BitVec 32 := 4#32
  let v1141 : Index := Scalar.indexCast c4_i32_547
  let c64_548 : Index := 64#32
  ![v1140.toNat, 4, 64]
def k0_off59 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1159 : Index := Scalar.indexCast arg23
  let c4_i32_555 : BitVec 32 := 4#32
  let v1160 : Index := Scalar.indexCast c4_i32_555
  let c80_556 : Index := 80#32
  ![v1159.toNat, 4, 80]
def k0_off60 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1178 : Index := Scalar.indexCast arg23
  let c4_i32_563 : BitVec 32 := 4#32
  let v1179 : Index := Scalar.indexCast c4_i32_563
  let c96_564 : Index := 96#32
  ![v1178.toNat, 4, 96]
def k0_off61 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1197 : Index := Scalar.indexCast arg23
  let c4_i32_571 : BitVec 32 := 4#32
  let v1198 : Index := Scalar.indexCast c4_i32_571
  let c112_572 : Index := 112#32
  ![v1197.toNat, 4, 112]
def k0_off62 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1216 : Index := Scalar.indexCast arg23
  let c4_i32_579 : BitVec 32 := 4#32
  let v1217 : Index := Scalar.indexCast c4_i32_579
  let c128_580 : Index := 128#32
  ![v1216.toNat, 4, 128]
def k0_off63 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1235 : Index := Scalar.indexCast arg23
  let c4_i32_587 : BitVec 32 := 4#32
  let v1236 : Index := Scalar.indexCast c4_i32_587
  let c144_588 : Index := 144#32
  ![v1235.toNat, 4, 144]
def k0_off64 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1254 : Index := Scalar.indexCast arg23
  let c4_i32_595 : BitVec 32 := 4#32
  let v1255 : Index := Scalar.indexCast c4_i32_595
  let c160_596 : Index := 160#32
  ![v1254.toNat, 4, 160]
def k0_off65 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1273 : Index := Scalar.indexCast arg23
  let c4_i32_603 : BitVec 32 := 4#32
  let v1274 : Index := Scalar.indexCast c4_i32_603
  let c176_604 : Index := 176#32
  ![v1273.toNat, 4, 176]
def k0_off66 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1292 : Index := Scalar.indexCast arg23
  let c4_i32_611 : BitVec 32 := 4#32
  let v1293 : Index := Scalar.indexCast c4_i32_611
  let c191_612 : Index := 191#32
  ![v1292.toNat, 4, 191]
def k0_off67 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1311 : Index := Scalar.indexCast arg23
  let c5_i32 : BitVec 32 := 5#32
  let v1312 : Index := Scalar.indexCast c5_i32
  let c0_619 : Index := 0#32
  ![v1311.toNat, 5, 0]
def k0_off68 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1330 : Index := Scalar.indexCast arg23
  let c5_i32_626 : BitVec 32 := 5#32
  let v1331 : Index := Scalar.indexCast c5_i32_626
  let c16_627 : Index := 16#32
  ![v1330.toNat, 5, 16]
def k0_off69 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1349 : Index := Scalar.indexCast arg23
  let c5_i32_634 : BitVec 32 := 5#32
  let v1350 : Index := Scalar.indexCast c5_i32_634
  let c32_635 : Index := 32#32
  ![v1349.toNat, 5, 32]
def k0_off70 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1368 : Index := Scalar.indexCast arg23
  let c5_i32_642 : BitVec 32 := 5#32
  let v1369 : Index := Scalar.indexCast c5_i32_642
  let c48_643 : Index := 48#32
  ![v1368.toNat, 5, 48]
def k0_off71 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1387 : Index := Scalar.indexCast arg23
  let c5_i32_650 : BitVec 32 := 5#32
  let v1388 : Index := Scalar.indexCast c5_i32_650
  let c64_651 : Index := 64#32
  ![v1387.toNat, 5, 64]
def k0_off72 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1406 : Index := Scalar.indexCast arg23
  let c5_i32_658 : BitVec 32 := 5#32
  let v1407 : Index := Scalar.indexCast c5_i32_658
  let c80_659 : Index := 80#32
  ![v1406.toNat, 5, 80]
def k0_off73 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1425 : Index := Scalar.indexCast arg23
  let c5_i32_666 : BitVec 32 := 5#32
  let v1426 : Index := Scalar.indexCast c5_i32_666
  let c96_667 : Index := 96#32
  ![v1425.toNat, 5, 96]
def k0_off74 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1444 : Index := Scalar.indexCast arg23
  let c5_i32_674 : BitVec 32 := 5#32
  let v1445 : Index := Scalar.indexCast c5_i32_674
  let c112_675 : Index := 112#32
  ![v1444.toNat, 5, 112]
def k0_off75 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1463 : Index := Scalar.indexCast arg23
  let c5_i32_682 : BitVec 32 := 5#32
  let v1464 : Index := Scalar.indexCast c5_i32_682
  let c128_683 : Index := 128#32
  ![v1463.toNat, 5, 128]
def k0_off76 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1482 : Index := Scalar.indexCast arg23
  let c5_i32_690 : BitVec 32 := 5#32
  let v1483 : Index := Scalar.indexCast c5_i32_690
  let c144_691 : Index := 144#32
  ![v1482.toNat, 5, 144]
def k0_off77 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1501 : Index := Scalar.indexCast arg23
  let c5_i32_698 : BitVec 32 := 5#32
  let v1502 : Index := Scalar.indexCast c5_i32_698
  let c160_699 : Index := 160#32
  ![v1501.toNat, 5, 160]
def k0_off78 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1520 : Index := Scalar.indexCast arg23
  let c5_i32_706 : BitVec 32 := 5#32
  let v1521 : Index := Scalar.indexCast c5_i32_706
  let c176_707 : Index := 176#32
  ![v1520.toNat, 5, 176]
def k0_off79 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1539 : Index := Scalar.indexCast arg23
  let c5_i32_714 : BitVec 32 := 5#32
  let v1540 : Index := Scalar.indexCast c5_i32_714
  let c191_715 : Index := 191#32
  ![v1539.toNat, 5, 191]
def k0_off80 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1558 : Index := Scalar.indexCast arg23
  let c6_i32 : BitVec 32 := 6#32
  let v1559 : Index := Scalar.indexCast c6_i32
  let c0_722 : Index := 0#32
  ![v1558.toNat, 6, 0]
def k0_off81 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1577 : Index := Scalar.indexCast arg23
  let c6_i32_729 : BitVec 32 := 6#32
  let v1578 : Index := Scalar.indexCast c6_i32_729
  let c16_730 : Index := 16#32
  ![v1577.toNat, 6, 16]
def k0_off82 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1596 : Index := Scalar.indexCast arg23
  let c6_i32_737 : BitVec 32 := 6#32
  let v1597 : Index := Scalar.indexCast c6_i32_737
  let c32_738 : Index := 32#32
  ![v1596.toNat, 6, 32]
def k0_off83 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1615 : Index := Scalar.indexCast arg23
  let c6_i32_745 : BitVec 32 := 6#32
  let v1616 : Index := Scalar.indexCast c6_i32_745
  let c48_746 : Index := 48#32
  ![v1615.toNat, 6, 48]
def k0_off84 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1634 : Index := Scalar.indexCast arg23
  let c6_i32_753 : BitVec 32 := 6#32
  let v1635 : Index := Scalar.indexCast c6_i32_753
  let c64_754 : Index := 64#32
  ![v1634.toNat, 6, 64]
def k0_off85 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1653 : Index := Scalar.indexCast arg23
  let c6_i32_761 : BitVec 32 := 6#32
  let v1654 : Index := Scalar.indexCast c6_i32_761
  let c80_762 : Index := 80#32
  ![v1653.toNat, 6, 80]
def k0_off86 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1672 : Index := Scalar.indexCast arg23
  let c6_i32_769 : BitVec 32 := 6#32
  let v1673 : Index := Scalar.indexCast c6_i32_769
  let c96_770 : Index := 96#32
  ![v1672.toNat, 6, 96]
def k0_off87 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1691 : Index := Scalar.indexCast arg23
  let c6_i32_777 : BitVec 32 := 6#32
  let v1692 : Index := Scalar.indexCast c6_i32_777
  let c112_778 : Index := 112#32
  ![v1691.toNat, 6, 112]
def k0_off88 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1710 : Index := Scalar.indexCast arg23
  let c6_i32_785 : BitVec 32 := 6#32
  let v1711 : Index := Scalar.indexCast c6_i32_785
  let c128_786 : Index := 128#32
  ![v1710.toNat, 6, 128]
def k0_off89 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1729 : Index := Scalar.indexCast arg23
  let c6_i32_793 : BitVec 32 := 6#32
  let v1730 : Index := Scalar.indexCast c6_i32_793
  let c144_794 : Index := 144#32
  ![v1729.toNat, 6, 144]
def k0_off90 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1748 : Index := Scalar.indexCast arg23
  let c6_i32_801 : BitVec 32 := 6#32
  let v1749 : Index := Scalar.indexCast c6_i32_801
  let c160_802 : Index := 160#32
  ![v1748.toNat, 6, 160]
def k0_off91 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1767 : Index := Scalar.indexCast arg23
  let c6_i32_809 : BitVec 32 := 6#32
  let v1768 : Index := Scalar.indexCast c6_i32_809
  let c176_810 : Index := 176#32
  ![v1767.toNat, 6, 176]
def k0_off92 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1786 : Index := Scalar.indexCast arg23
  let c6_i32_817 : BitVec 32 := 6#32
  let v1787 : Index := Scalar.indexCast c6_i32_817
  let c191_818 : Index := 191#32
  ![v1786.toNat, 6, 191]
def k0_off93 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1805 : Index := Scalar.indexCast arg23
  let c7_i32 : BitVec 32 := 7#32
  let v1806 : Index := Scalar.indexCast c7_i32
  let c0_825 : Index := 0#32
  ![v1805.toNat, 7, 0]
def k0_off94 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1824 : Index := Scalar.indexCast arg23
  let c7_i32_832 : BitVec 32 := 7#32
  let v1825 : Index := Scalar.indexCast c7_i32_832
  let c16_833 : Index := 16#32
  ![v1824.toNat, 7, 16]
def k0_off95 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1843 : Index := Scalar.indexCast arg23
  let c7_i32_840 : BitVec 32 := 7#32
  let v1844 : Index := Scalar.indexCast c7_i32_840
  let c32_841 : Index := 32#32
  ![v1843.toNat, 7, 32]
def k0_off96 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1862 : Index := Scalar.indexCast arg23
  let c7_i32_848 : BitVec 32 := 7#32
  let v1863 : Index := Scalar.indexCast c7_i32_848
  let c48_849 : Index := 48#32
  ![v1862.toNat, 7, 48]
def k0_off97 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1881 : Index := Scalar.indexCast arg23
  let c7_i32_856 : BitVec 32 := 7#32
  let v1882 : Index := Scalar.indexCast c7_i32_856
  let c64_857 : Index := 64#32
  ![v1881.toNat, 7, 64]
def k0_off98 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1900 : Index := Scalar.indexCast arg23
  let c7_i32_864 : BitVec 32 := 7#32
  let v1901 : Index := Scalar.indexCast c7_i32_864
  let c80_865 : Index := 80#32
  ![v1900.toNat, 7, 80]
def k0_off99 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1919 : Index := Scalar.indexCast arg23
  let c7_i32_872 : BitVec 32 := 7#32
  let v1920 : Index := Scalar.indexCast c7_i32_872
  let c96_873 : Index := 96#32
  ![v1919.toNat, 7, 96]
def k0_off100 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1938 : Index := Scalar.indexCast arg23
  let c7_i32_880 : BitVec 32 := 7#32
  let v1939 : Index := Scalar.indexCast c7_i32_880
  let c112_881 : Index := 112#32
  ![v1938.toNat, 7, 112]
def k0_off101 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1957 : Index := Scalar.indexCast arg23
  let c7_i32_888 : BitVec 32 := 7#32
  let v1958 : Index := Scalar.indexCast c7_i32_888
  let c128_889 : Index := 128#32
  ![v1957.toNat, 7, 128]
def k0_off102 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1976 : Index := Scalar.indexCast arg23
  let c7_i32_896 : BitVec 32 := 7#32
  let v1977 : Index := Scalar.indexCast c7_i32_896
  let c144_897 : Index := 144#32
  ![v1976.toNat, 7, 144]
def k0_off103 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v1995 : Index := Scalar.indexCast arg23
  let c7_i32_904 : BitVec 32 := 7#32
  let v1996 : Index := Scalar.indexCast c7_i32_904
  let c160_905 : Index := 160#32
  ![v1995.toNat, 7, 160]
def k0_off104 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2014 : Index := Scalar.indexCast arg23
  let c7_i32_912 : BitVec 32 := 7#32
  let v2015 : Index := Scalar.indexCast c7_i32_912
  let c176_913 : Index := 176#32
  ![v2014.toNat, 7, 176]
def k0_off105 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2033 : Index := Scalar.indexCast arg23
  let c7_i32_920 : BitVec 32 := 7#32
  let v2034 : Index := Scalar.indexCast c7_i32_920
  let c191_921 : Index := 191#32
  ![v2033.toNat, 7, 191]
def k0_off106 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2052 : Index := Scalar.indexCast arg23
  let c8_i32 : BitVec 32 := 8#32
  let v2053 : Index := Scalar.indexCast c8_i32
  let c0_928 : Index := 0#32
  ![v2052.toNat, 8, 0]
def k0_off107 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2071 : Index := Scalar.indexCast arg23
  let c8_i32_935 : BitVec 32 := 8#32
  let v2072 : Index := Scalar.indexCast c8_i32_935
  let c16_936 : Index := 16#32
  ![v2071.toNat, 8, 16]
def k0_off108 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2090 : Index := Scalar.indexCast arg23
  let c8_i32_943 : BitVec 32 := 8#32
  let v2091 : Index := Scalar.indexCast c8_i32_943
  let c32_944 : Index := 32#32
  ![v2090.toNat, 8, 32]
def k0_off109 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2109 : Index := Scalar.indexCast arg23
  let c8_i32_951 : BitVec 32 := 8#32
  let v2110 : Index := Scalar.indexCast c8_i32_951
  let c48_952 : Index := 48#32
  ![v2109.toNat, 8, 48]
def k0_off110 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2128 : Index := Scalar.indexCast arg23
  let c8_i32_959 : BitVec 32 := 8#32
  let v2129 : Index := Scalar.indexCast c8_i32_959
  let c64_960 : Index := 64#32
  ![v2128.toNat, 8, 64]
def k0_off111 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2147 : Index := Scalar.indexCast arg23
  let c8_i32_967 : BitVec 32 := 8#32
  let v2148 : Index := Scalar.indexCast c8_i32_967
  let c80_968 : Index := 80#32
  ![v2147.toNat, 8, 80]
def k0_off112 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2166 : Index := Scalar.indexCast arg23
  let c8_i32_975 : BitVec 32 := 8#32
  let v2167 : Index := Scalar.indexCast c8_i32_975
  let c96_976 : Index := 96#32
  ![v2166.toNat, 8, 96]
def k0_off113 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2185 : Index := Scalar.indexCast arg23
  let c8_i32_983 : BitVec 32 := 8#32
  let v2186 : Index := Scalar.indexCast c8_i32_983
  let c112_984 : Index := 112#32
  ![v2185.toNat, 8, 112]
def k0_off114 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2204 : Index := Scalar.indexCast arg23
  let c8_i32_991 : BitVec 32 := 8#32
  let v2205 : Index := Scalar.indexCast c8_i32_991
  let c128_992 : Index := 128#32
  ![v2204.toNat, 8, 128]
def k0_off115 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2223 : Index := Scalar.indexCast arg23
  let c8_i32_999 : BitVec 32 := 8#32
  let v2224 : Index := Scalar.indexCast c8_i32_999
  let c144_1000 : Index := 144#32
  ![v2223.toNat, 8, 144]
def k0_off116 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2242 : Index := Scalar.indexCast arg23
  let c8_i32_1007 : BitVec 32 := 8#32
  let v2243 : Index := Scalar.indexCast c8_i32_1007
  let c160_1008 : Index := 160#32
  ![v2242.toNat, 8, 160]
def k0_off117 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2261 : Index := Scalar.indexCast arg23
  let c8_i32_1015 : BitVec 32 := 8#32
  let v2262 : Index := Scalar.indexCast c8_i32_1015
  let c176_1016 : Index := 176#32
  ![v2261.toNat, 8, 176]
def k0_off118 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2280 : Index := Scalar.indexCast arg23
  let c8_i32_1023 : BitVec 32 := 8#32
  let v2281 : Index := Scalar.indexCast c8_i32_1023
  let c191_1024 : Index := 191#32
  ![v2280.toNat, 8, 191]
def k0_off119 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2299 : Index := Scalar.indexCast arg23
  let c9_i32 : BitVec 32 := 9#32
  let v2300 : Index := Scalar.indexCast c9_i32
  let c0_1031 : Index := 0#32
  ![v2299.toNat, 9, 0]
def k0_off120 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2318 : Index := Scalar.indexCast arg23
  let c9_i32_1038 : BitVec 32 := 9#32
  let v2319 : Index := Scalar.indexCast c9_i32_1038
  let c16_1039 : Index := 16#32
  ![v2318.toNat, 9, 16]
def k0_off121 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2337 : Index := Scalar.indexCast arg23
  let c9_i32_1046 : BitVec 32 := 9#32
  let v2338 : Index := Scalar.indexCast c9_i32_1046
  let c32_1047 : Index := 32#32
  ![v2337.toNat, 9, 32]
def k0_off122 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2356 : Index := Scalar.indexCast arg23
  let c9_i32_1054 : BitVec 32 := 9#32
  let v2357 : Index := Scalar.indexCast c9_i32_1054
  let c48_1055 : Index := 48#32
  ![v2356.toNat, 9, 48]
def k0_off123 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2375 : Index := Scalar.indexCast arg23
  let c9_i32_1062 : BitVec 32 := 9#32
  let v2376 : Index := Scalar.indexCast c9_i32_1062
  let c64_1063 : Index := 64#32
  ![v2375.toNat, 9, 64]
def k0_off124 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2394 : Index := Scalar.indexCast arg23
  let c9_i32_1070 : BitVec 32 := 9#32
  let v2395 : Index := Scalar.indexCast c9_i32_1070
  let c80_1071 : Index := 80#32
  ![v2394.toNat, 9, 80]
def k0_off125 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2413 : Index := Scalar.indexCast arg23
  let c9_i32_1078 : BitVec 32 := 9#32
  let v2414 : Index := Scalar.indexCast c9_i32_1078
  let c96_1079 : Index := 96#32
  ![v2413.toNat, 9, 96]
def k0_off126 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2432 : Index := Scalar.indexCast arg23
  let c9_i32_1086 : BitVec 32 := 9#32
  let v2433 : Index := Scalar.indexCast c9_i32_1086
  let c112_1087 : Index := 112#32
  ![v2432.toNat, 9, 112]
def k0_off127 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2451 : Index := Scalar.indexCast arg23
  let c9_i32_1094 : BitVec 32 := 9#32
  let v2452 : Index := Scalar.indexCast c9_i32_1094
  let c128_1095 : Index := 128#32
  ![v2451.toNat, 9, 128]
def k0_off128 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2470 : Index := Scalar.indexCast arg23
  let c9_i32_1102 : BitVec 32 := 9#32
  let v2471 : Index := Scalar.indexCast c9_i32_1102
  let c144_1103 : Index := 144#32
  ![v2470.toNat, 9, 144]
def k0_off129 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2489 : Index := Scalar.indexCast arg23
  let c9_i32_1110 : BitVec 32 := 9#32
  let v2490 : Index := Scalar.indexCast c9_i32_1110
  let c160_1111 : Index := 160#32
  ![v2489.toNat, 9, 160]
def k0_off130 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2508 : Index := Scalar.indexCast arg23
  let c9_i32_1118 : BitVec 32 := 9#32
  let v2509 : Index := Scalar.indexCast c9_i32_1118
  let c176_1119 : Index := 176#32
  ![v2508.toNat, 9, 176]
def k0_off131 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2527 : Index := Scalar.indexCast arg23
  let c9_i32_1126 : BitVec 32 := 9#32
  let v2528 : Index := Scalar.indexCast c9_i32_1126
  let c191_1127 : Index := 191#32
  ![v2527.toNat, 9, 191]
def k0_off132 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2546 : Index := Scalar.indexCast arg23
  let c10_i32 : BitVec 32 := 10#32
  let v2547 : Index := Scalar.indexCast c10_i32
  let c0_1134 : Index := 0#32
  ![v2546.toNat, 10, 0]
def k0_off133 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2565 : Index := Scalar.indexCast arg23
  let c10_i32_1141 : BitVec 32 := 10#32
  let v2566 : Index := Scalar.indexCast c10_i32_1141
  let c16_1142 : Index := 16#32
  ![v2565.toNat, 10, 16]
def k0_off134 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2584 : Index := Scalar.indexCast arg23
  let c10_i32_1149 : BitVec 32 := 10#32
  let v2585 : Index := Scalar.indexCast c10_i32_1149
  let c32_1150 : Index := 32#32
  ![v2584.toNat, 10, 32]
def k0_off135 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2603 : Index := Scalar.indexCast arg23
  let c10_i32_1157 : BitVec 32 := 10#32
  let v2604 : Index := Scalar.indexCast c10_i32_1157
  let c48_1158 : Index := 48#32
  ![v2603.toNat, 10, 48]
def k0_off136 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2622 : Index := Scalar.indexCast arg23
  let c10_i32_1165 : BitVec 32 := 10#32
  let v2623 : Index := Scalar.indexCast c10_i32_1165
  let c64_1166 : Index := 64#32
  ![v2622.toNat, 10, 64]
def k0_off137 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2641 : Index := Scalar.indexCast arg23
  let c10_i32_1173 : BitVec 32 := 10#32
  let v2642 : Index := Scalar.indexCast c10_i32_1173
  let c80_1174 : Index := 80#32
  ![v2641.toNat, 10, 80]
def k0_off138 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2660 : Index := Scalar.indexCast arg23
  let c10_i32_1181 : BitVec 32 := 10#32
  let v2661 : Index := Scalar.indexCast c10_i32_1181
  let c96_1182 : Index := 96#32
  ![v2660.toNat, 10, 96]
def k0_off139 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2679 : Index := Scalar.indexCast arg23
  let c10_i32_1189 : BitVec 32 := 10#32
  let v2680 : Index := Scalar.indexCast c10_i32_1189
  let c112_1190 : Index := 112#32
  ![v2679.toNat, 10, 112]
def k0_off140 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2698 : Index := Scalar.indexCast arg23
  let c10_i32_1197 : BitVec 32 := 10#32
  let v2699 : Index := Scalar.indexCast c10_i32_1197
  let c128_1198 : Index := 128#32
  ![v2698.toNat, 10, 128]
def k0_off141 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2717 : Index := Scalar.indexCast arg23
  let c10_i32_1205 : BitVec 32 := 10#32
  let v2718 : Index := Scalar.indexCast c10_i32_1205
  let c144_1206 : Index := 144#32
  ![v2717.toNat, 10, 144]
def k0_off142 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2736 : Index := Scalar.indexCast arg23
  let c10_i32_1213 : BitVec 32 := 10#32
  let v2737 : Index := Scalar.indexCast c10_i32_1213
  let c160_1214 : Index := 160#32
  ![v2736.toNat, 10, 160]
def k0_off143 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2755 : Index := Scalar.indexCast arg23
  let c10_i32_1221 : BitVec 32 := 10#32
  let v2756 : Index := Scalar.indexCast c10_i32_1221
  let c176_1222 : Index := 176#32
  ![v2755.toNat, 10, 176]
def k0_off144 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2774 : Index := Scalar.indexCast arg23
  let c10_i32_1229 : BitVec 32 := 10#32
  let v2775 : Index := Scalar.indexCast c10_i32_1229
  let c191_1230 : Index := 191#32
  ![v2774.toNat, 10, 191]
def k0_off145 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2793 : Index := Scalar.indexCast arg23
  let c11_i32 : BitVec 32 := 11#32
  let v2794 : Index := Scalar.indexCast c11_i32
  let c0_1237 : Index := 0#32
  ![v2793.toNat, 11, 0]
def k0_off146 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2812 : Index := Scalar.indexCast arg23
  let c11_i32_1244 : BitVec 32 := 11#32
  let v2813 : Index := Scalar.indexCast c11_i32_1244
  let c16_1245 : Index := 16#32
  ![v2812.toNat, 11, 16]
def k0_off147 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2831 : Index := Scalar.indexCast arg23
  let c11_i32_1252 : BitVec 32 := 11#32
  let v2832 : Index := Scalar.indexCast c11_i32_1252
  let c32_1253 : Index := 32#32
  ![v2831.toNat, 11, 32]
def k0_off148 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2850 : Index := Scalar.indexCast arg23
  let c11_i32_1260 : BitVec 32 := 11#32
  let v2851 : Index := Scalar.indexCast c11_i32_1260
  let c48_1261 : Index := 48#32
  ![v2850.toNat, 11, 48]
def k0_off149 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2869 : Index := Scalar.indexCast arg23
  let c11_i32_1268 : BitVec 32 := 11#32
  let v2870 : Index := Scalar.indexCast c11_i32_1268
  let c64_1269 : Index := 64#32
  ![v2869.toNat, 11, 64]
def k0_off150 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2888 : Index := Scalar.indexCast arg23
  let c11_i32_1276 : BitVec 32 := 11#32
  let v2889 : Index := Scalar.indexCast c11_i32_1276
  let c80_1277 : Index := 80#32
  ![v2888.toNat, 11, 80]
def k0_off151 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2907 : Index := Scalar.indexCast arg23
  let c11_i32_1284 : BitVec 32 := 11#32
  let v2908 : Index := Scalar.indexCast c11_i32_1284
  let c96_1285 : Index := 96#32
  ![v2907.toNat, 11, 96]
def k0_off152 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2926 : Index := Scalar.indexCast arg23
  let c11_i32_1292 : BitVec 32 := 11#32
  let v2927 : Index := Scalar.indexCast c11_i32_1292
  let c112_1293 : Index := 112#32
  ![v2926.toNat, 11, 112]
def k0_off153 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2945 : Index := Scalar.indexCast arg23
  let c11_i32_1300 : BitVec 32 := 11#32
  let v2946 : Index := Scalar.indexCast c11_i32_1300
  let c128_1301 : Index := 128#32
  ![v2945.toNat, 11, 128]
def k0_off154 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2964 : Index := Scalar.indexCast arg23
  let c11_i32_1308 : BitVec 32 := 11#32
  let v2965 : Index := Scalar.indexCast c11_i32_1308
  let c144_1309 : Index := 144#32
  ![v2964.toNat, 11, 144]
def k0_off155 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v2983 : Index := Scalar.indexCast arg23
  let c11_i32_1316 : BitVec 32 := 11#32
  let v2984 : Index := Scalar.indexCast c11_i32_1316
  let c160_1317 : Index := 160#32
  ![v2983.toNat, 11, 160]
def k0_off156 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v3002 : Index := Scalar.indexCast arg23
  let c11_i32_1324 : BitVec 32 := 11#32
  let v3003 : Index := Scalar.indexCast c11_i32_1324
  let c176_1325 : Index := 176#32
  ![v3002.toNat, 11, 176]
def k0_off157 (k0_t2 : Fin k0_t2_loop.trips) : Fin 3 → Nat :=
  let c0_i32_69 : BitVec 32 := 0#32
  let c1_i32_71 : BitVec 32 := 1#32
  let arg23 : BitVec 32 := Scf.iv c0_i32_69 c1_i32_71 k0_t2
  let v3021 : Index := Scalar.indexCast arg23
  let c11_i32_1332 : BitVec 32 := 11#32
  let v3022 : Index := Scalar.indexCast c11_i32_1332
  let c191_1333 : Index := 191#32
  ![v3021.toNat, 11, 191]
def k0_off158 (i : grid0.Coords) (k0_t1 : Fin k0_t1_loop.trips) (c2_i32_74 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_73 : BitVec 32 := 2#32
  let c0_i32_16 : BitVec 32 := 0#32
  let c1_i32 : BitVec 32 := 1#32
  let arg14 : BitVec 32 := Scf.iv c0_i32_16 c1_i32 k0_t1
  let v54 : BitVec 32 := Scalar.muli c2_i32_73 arg14
  let v55 : BitVec 32 := Scalar.addi v54 c2_i32_74
  let c4_i32_75 : BitVec 32 := 4#32
  let v56 : BitVec 32 := Scalar.muli v55 c4_i32_75
  let v57 : BitVec 32 := Scalar.addi v2 v56
  let c0_i32_76 : BitVec 32 := 0#32
  let c0_i32_77 : BitVec 32 := 0#32
  ![v57.toNat, 0, 0]
@[reducible] def k0_t3_loop : Scf.Loop 32 :=
  let c0_i32_96 : BitVec 32 := 0#32
  let c4_i32_97 : BitVec 32 := 4#32
  let v66 : BitVec 32 := Scalar.addi c0_i32_96 c4_i32_97
  let c1_i32_98 : BitVec 32 := 1#32
  ⟨c0_i32_96, v66, c1_i32_98⟩
def k0_off159 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v76 : Index := Scalar.indexCast arg23
  let c0_i32_111 : BitVec 32 := 0#32
  let v77 : Index := Scalar.indexCast c0_i32_111
  let c0_112 : Index := 0#32
  ![v76.toNat, 0, 0]
def k0_off160 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v95 : Index := Scalar.indexCast arg23
  let c0_i32_119 : BitVec 32 := 0#32
  let v96 : Index := Scalar.indexCast c0_i32_119
  let c16 : Index := 16#32
  ![v95.toNat, 0, 16]
def k0_off161 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v114 : Index := Scalar.indexCast arg23
  let c0_i32_126 : BitVec 32 := 0#32
  let v115 : Index := Scalar.indexCast c0_i32_126
  let c32 : Index := 32#32
  ![v114.toNat, 0, 32]
def k0_off162 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v133 : Index := Scalar.indexCast arg23
  let c0_i32_133 : BitVec 32 := 0#32
  let v134 : Index := Scalar.indexCast c0_i32_133
  let c48 : Index := 48#32
  ![v133.toNat, 0, 48]
def k0_off163 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v152 : Index := Scalar.indexCast arg23
  let c0_i32_140 : BitVec 32 := 0#32
  let v153 : Index := Scalar.indexCast c0_i32_140
  let c64 : Index := 64#32
  ![v152.toNat, 0, 64]
def k0_off164 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v171 : Index := Scalar.indexCast arg23
  let c0_i32_147 : BitVec 32 := 0#32
  let v172 : Index := Scalar.indexCast c0_i32_147
  let c80 : Index := 80#32
  ![v171.toNat, 0, 80]
def k0_off165 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v190 : Index := Scalar.indexCast arg23
  let c0_i32_154 : BitVec 32 := 0#32
  let v191 : Index := Scalar.indexCast c0_i32_154
  let c96 : Index := 96#32
  ![v190.toNat, 0, 96]
def k0_off166 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v209 : Index := Scalar.indexCast arg23
  let c0_i32_161 : BitVec 32 := 0#32
  let v210 : Index := Scalar.indexCast c0_i32_161
  let c112 : Index := 112#32
  ![v209.toNat, 0, 112]
def k0_off167 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v228 : Index := Scalar.indexCast arg23
  let c0_i32_168 : BitVec 32 := 0#32
  let v229 : Index := Scalar.indexCast c0_i32_168
  let c128 : Index := 128#32
  ![v228.toNat, 0, 128]
def k0_off168 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v247 : Index := Scalar.indexCast arg23
  let c0_i32_175 : BitVec 32 := 0#32
  let v248 : Index := Scalar.indexCast c0_i32_175
  let c144 : Index := 144#32
  ![v247.toNat, 0, 144]
def k0_off169 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v266 : Index := Scalar.indexCast arg23
  let c0_i32_182 : BitVec 32 := 0#32
  let v267 : Index := Scalar.indexCast c0_i32_182
  let c160 : Index := 160#32
  ![v266.toNat, 0, 160]
def k0_off170 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v285 : Index := Scalar.indexCast arg23
  let c0_i32_189 : BitVec 32 := 0#32
  let v286 : Index := Scalar.indexCast c0_i32_189
  let c176 : Index := 176#32
  ![v285.toNat, 0, 176]
def k0_off171 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v304 : Index := Scalar.indexCast arg23
  let c0_i32_196 : BitVec 32 := 0#32
  let v305 : Index := Scalar.indexCast c0_i32_196
  let c191 : Index := 191#32
  ![v304.toNat, 0, 191]
def k0_off172 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v323 : Index := Scalar.indexCast arg23
  let c1_i32_203 : BitVec 32 := 1#32
  let v324 : Index := Scalar.indexCast c1_i32_203
  let c0_204 : Index := 0#32
  ![v323.toNat, 1, 0]
def k0_off173 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v342 : Index := Scalar.indexCast arg23
  let c1_i32_211 : BitVec 32 := 1#32
  let v343 : Index := Scalar.indexCast c1_i32_211
  let c16_212 : Index := 16#32
  ![v342.toNat, 1, 16]
def k0_off174 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v361 : Index := Scalar.indexCast arg23
  let c1_i32_219 : BitVec 32 := 1#32
  let v362 : Index := Scalar.indexCast c1_i32_219
  let c32_220 : Index := 32#32
  ![v361.toNat, 1, 32]
def k0_off175 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v380 : Index := Scalar.indexCast arg23
  let c1_i32_227 : BitVec 32 := 1#32
  let v381 : Index := Scalar.indexCast c1_i32_227
  let c48_228 : Index := 48#32
  ![v380.toNat, 1, 48]
def k0_off176 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v399 : Index := Scalar.indexCast arg23
  let c1_i32_235 : BitVec 32 := 1#32
  let v400 : Index := Scalar.indexCast c1_i32_235
  let c64_236 : Index := 64#32
  ![v399.toNat, 1, 64]
def k0_off177 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v418 : Index := Scalar.indexCast arg23
  let c1_i32_243 : BitVec 32 := 1#32
  let v419 : Index := Scalar.indexCast c1_i32_243
  let c80_244 : Index := 80#32
  ![v418.toNat, 1, 80]
def k0_off178 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v437 : Index := Scalar.indexCast arg23
  let c1_i32_251 : BitVec 32 := 1#32
  let v438 : Index := Scalar.indexCast c1_i32_251
  let c96_252 : Index := 96#32
  ![v437.toNat, 1, 96]
def k0_off179 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v456 : Index := Scalar.indexCast arg23
  let c1_i32_259 : BitVec 32 := 1#32
  let v457 : Index := Scalar.indexCast c1_i32_259
  let c112_260 : Index := 112#32
  ![v456.toNat, 1, 112]
def k0_off180 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v475 : Index := Scalar.indexCast arg23
  let c1_i32_267 : BitVec 32 := 1#32
  let v476 : Index := Scalar.indexCast c1_i32_267
  let c128_268 : Index := 128#32
  ![v475.toNat, 1, 128]
def k0_off181 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v494 : Index := Scalar.indexCast arg23
  let c1_i32_275 : BitVec 32 := 1#32
  let v495 : Index := Scalar.indexCast c1_i32_275
  let c144_276 : Index := 144#32
  ![v494.toNat, 1, 144]
def k0_off182 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v513 : Index := Scalar.indexCast arg23
  let c1_i32_283 : BitVec 32 := 1#32
  let v514 : Index := Scalar.indexCast c1_i32_283
  let c160_284 : Index := 160#32
  ![v513.toNat, 1, 160]
def k0_off183 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v532 : Index := Scalar.indexCast arg23
  let c1_i32_291 : BitVec 32 := 1#32
  let v533 : Index := Scalar.indexCast c1_i32_291
  let c176_292 : Index := 176#32
  ![v532.toNat, 1, 176]
def k0_off184 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v551 : Index := Scalar.indexCast arg23
  let c1_i32_299 : BitVec 32 := 1#32
  let v552 : Index := Scalar.indexCast c1_i32_299
  let c191_300 : Index := 191#32
  ![v551.toNat, 1, 191]
def k0_off185 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v570 : Index := Scalar.indexCast arg23
  let c2_i32_307 : BitVec 32 := 2#32
  let v571 : Index := Scalar.indexCast c2_i32_307
  let c0_308 : Index := 0#32
  ![v570.toNat, 2, 0]
def k0_off186 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v589 : Index := Scalar.indexCast arg23
  let c2_i32_315 : BitVec 32 := 2#32
  let v590 : Index := Scalar.indexCast c2_i32_315
  let c16_316 : Index := 16#32
  ![v589.toNat, 2, 16]
def k0_off187 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v608 : Index := Scalar.indexCast arg23
  let c2_i32_323 : BitVec 32 := 2#32
  let v609 : Index := Scalar.indexCast c2_i32_323
  let c32_324 : Index := 32#32
  ![v608.toNat, 2, 32]
def k0_off188 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v627 : Index := Scalar.indexCast arg23
  let c2_i32_331 : BitVec 32 := 2#32
  let v628 : Index := Scalar.indexCast c2_i32_331
  let c48_332 : Index := 48#32
  ![v627.toNat, 2, 48]
def k0_off189 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v646 : Index := Scalar.indexCast arg23
  let c2_i32_339 : BitVec 32 := 2#32
  let v647 : Index := Scalar.indexCast c2_i32_339
  let c64_340 : Index := 64#32
  ![v646.toNat, 2, 64]
def k0_off190 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v665 : Index := Scalar.indexCast arg23
  let c2_i32_347 : BitVec 32 := 2#32
  let v666 : Index := Scalar.indexCast c2_i32_347
  let c80_348 : Index := 80#32
  ![v665.toNat, 2, 80]
def k0_off191 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v684 : Index := Scalar.indexCast arg23
  let c2_i32_355 : BitVec 32 := 2#32
  let v685 : Index := Scalar.indexCast c2_i32_355
  let c96_356 : Index := 96#32
  ![v684.toNat, 2, 96]
def k0_off192 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v703 : Index := Scalar.indexCast arg23
  let c2_i32_363 : BitVec 32 := 2#32
  let v704 : Index := Scalar.indexCast c2_i32_363
  let c112_364 : Index := 112#32
  ![v703.toNat, 2, 112]
def k0_off193 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v722 : Index := Scalar.indexCast arg23
  let c2_i32_371 : BitVec 32 := 2#32
  let v723 : Index := Scalar.indexCast c2_i32_371
  let c128_372 : Index := 128#32
  ![v722.toNat, 2, 128]
def k0_off194 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v741 : Index := Scalar.indexCast arg23
  let c2_i32_379 : BitVec 32 := 2#32
  let v742 : Index := Scalar.indexCast c2_i32_379
  let c144_380 : Index := 144#32
  ![v741.toNat, 2, 144]
def k0_off195 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v760 : Index := Scalar.indexCast arg23
  let c2_i32_387 : BitVec 32 := 2#32
  let v761 : Index := Scalar.indexCast c2_i32_387
  let c160_388 : Index := 160#32
  ![v760.toNat, 2, 160]
def k0_off196 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v779 : Index := Scalar.indexCast arg23
  let c2_i32_395 : BitVec 32 := 2#32
  let v780 : Index := Scalar.indexCast c2_i32_395
  let c176_396 : Index := 176#32
  ![v779.toNat, 2, 176]
def k0_off197 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v798 : Index := Scalar.indexCast arg23
  let c2_i32_403 : BitVec 32 := 2#32
  let v799 : Index := Scalar.indexCast c2_i32_403
  let c191_404 : Index := 191#32
  ![v798.toNat, 2, 191]
def k0_off198 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v817 : Index := Scalar.indexCast arg23
  let c3_i32_411 : BitVec 32 := 3#32
  let v818 : Index := Scalar.indexCast c3_i32_411
  let c0_412 : Index := 0#32
  ![v817.toNat, 3, 0]
def k0_off199 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v836 : Index := Scalar.indexCast arg23
  let c3_i32_419 : BitVec 32 := 3#32
  let v837 : Index := Scalar.indexCast c3_i32_419
  let c16_420 : Index := 16#32
  ![v836.toNat, 3, 16]
def k0_off200 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v855 : Index := Scalar.indexCast arg23
  let c3_i32_427 : BitVec 32 := 3#32
  let v856 : Index := Scalar.indexCast c3_i32_427
  let c32_428 : Index := 32#32
  ![v855.toNat, 3, 32]
def k0_off201 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v874 : Index := Scalar.indexCast arg23
  let c3_i32_435 : BitVec 32 := 3#32
  let v875 : Index := Scalar.indexCast c3_i32_435
  let c48_436 : Index := 48#32
  ![v874.toNat, 3, 48]
def k0_off202 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v893 : Index := Scalar.indexCast arg23
  let c3_i32_443 : BitVec 32 := 3#32
  let v894 : Index := Scalar.indexCast c3_i32_443
  let c64_444 : Index := 64#32
  ![v893.toNat, 3, 64]
def k0_off203 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v912 : Index := Scalar.indexCast arg23
  let c3_i32_451 : BitVec 32 := 3#32
  let v913 : Index := Scalar.indexCast c3_i32_451
  let c80_452 : Index := 80#32
  ![v912.toNat, 3, 80]
def k0_off204 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v931 : Index := Scalar.indexCast arg23
  let c3_i32_459 : BitVec 32 := 3#32
  let v932 : Index := Scalar.indexCast c3_i32_459
  let c96_460 : Index := 96#32
  ![v931.toNat, 3, 96]
def k0_off205 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v950 : Index := Scalar.indexCast arg23
  let c3_i32_467 : BitVec 32 := 3#32
  let v951 : Index := Scalar.indexCast c3_i32_467
  let c112_468 : Index := 112#32
  ![v950.toNat, 3, 112]
def k0_off206 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v969 : Index := Scalar.indexCast arg23
  let c3_i32_475 : BitVec 32 := 3#32
  let v970 : Index := Scalar.indexCast c3_i32_475
  let c128_476 : Index := 128#32
  ![v969.toNat, 3, 128]
def k0_off207 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v988 : Index := Scalar.indexCast arg23
  let c3_i32_483 : BitVec 32 := 3#32
  let v989 : Index := Scalar.indexCast c3_i32_483
  let c144_484 : Index := 144#32
  ![v988.toNat, 3, 144]
def k0_off208 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1007 : Index := Scalar.indexCast arg23
  let c3_i32_491 : BitVec 32 := 3#32
  let v1008 : Index := Scalar.indexCast c3_i32_491
  let c160_492 : Index := 160#32
  ![v1007.toNat, 3, 160]
def k0_off209 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1026 : Index := Scalar.indexCast arg23
  let c3_i32_499 : BitVec 32 := 3#32
  let v1027 : Index := Scalar.indexCast c3_i32_499
  let c176_500 : Index := 176#32
  ![v1026.toNat, 3, 176]
def k0_off210 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1045 : Index := Scalar.indexCast arg23
  let c3_i32_507 : BitVec 32 := 3#32
  let v1046 : Index := Scalar.indexCast c3_i32_507
  let c191_508 : Index := 191#32
  ![v1045.toNat, 3, 191]
def k0_off211 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1064 : Index := Scalar.indexCast arg23
  let c4_i32_515 : BitVec 32 := 4#32
  let v1065 : Index := Scalar.indexCast c4_i32_515
  let c0_516 : Index := 0#32
  ![v1064.toNat, 4, 0]
def k0_off212 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1083 : Index := Scalar.indexCast arg23
  let c4_i32_523 : BitVec 32 := 4#32
  let v1084 : Index := Scalar.indexCast c4_i32_523
  let c16_524 : Index := 16#32
  ![v1083.toNat, 4, 16]
def k0_off213 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1102 : Index := Scalar.indexCast arg23
  let c4_i32_531 : BitVec 32 := 4#32
  let v1103 : Index := Scalar.indexCast c4_i32_531
  let c32_532 : Index := 32#32
  ![v1102.toNat, 4, 32]
def k0_off214 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1121 : Index := Scalar.indexCast arg23
  let c4_i32_539 : BitVec 32 := 4#32
  let v1122 : Index := Scalar.indexCast c4_i32_539
  let c48_540 : Index := 48#32
  ![v1121.toNat, 4, 48]
def k0_off215 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1140 : Index := Scalar.indexCast arg23
  let c4_i32_547 : BitVec 32 := 4#32
  let v1141 : Index := Scalar.indexCast c4_i32_547
  let c64_548 : Index := 64#32
  ![v1140.toNat, 4, 64]
def k0_off216 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1159 : Index := Scalar.indexCast arg23
  let c4_i32_555 : BitVec 32 := 4#32
  let v1160 : Index := Scalar.indexCast c4_i32_555
  let c80_556 : Index := 80#32
  ![v1159.toNat, 4, 80]
def k0_off217 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1178 : Index := Scalar.indexCast arg23
  let c4_i32_563 : BitVec 32 := 4#32
  let v1179 : Index := Scalar.indexCast c4_i32_563
  let c96_564 : Index := 96#32
  ![v1178.toNat, 4, 96]
def k0_off218 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1197 : Index := Scalar.indexCast arg23
  let c4_i32_571 : BitVec 32 := 4#32
  let v1198 : Index := Scalar.indexCast c4_i32_571
  let c112_572 : Index := 112#32
  ![v1197.toNat, 4, 112]
def k0_off219 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1216 : Index := Scalar.indexCast arg23
  let c4_i32_579 : BitVec 32 := 4#32
  let v1217 : Index := Scalar.indexCast c4_i32_579
  let c128_580 : Index := 128#32
  ![v1216.toNat, 4, 128]
def k0_off220 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1235 : Index := Scalar.indexCast arg23
  let c4_i32_587 : BitVec 32 := 4#32
  let v1236 : Index := Scalar.indexCast c4_i32_587
  let c144_588 : Index := 144#32
  ![v1235.toNat, 4, 144]
def k0_off221 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1254 : Index := Scalar.indexCast arg23
  let c4_i32_595 : BitVec 32 := 4#32
  let v1255 : Index := Scalar.indexCast c4_i32_595
  let c160_596 : Index := 160#32
  ![v1254.toNat, 4, 160]
def k0_off222 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1273 : Index := Scalar.indexCast arg23
  let c4_i32_603 : BitVec 32 := 4#32
  let v1274 : Index := Scalar.indexCast c4_i32_603
  let c176_604 : Index := 176#32
  ![v1273.toNat, 4, 176]
def k0_off223 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1292 : Index := Scalar.indexCast arg23
  let c4_i32_611 : BitVec 32 := 4#32
  let v1293 : Index := Scalar.indexCast c4_i32_611
  let c191_612 : Index := 191#32
  ![v1292.toNat, 4, 191]
def k0_off224 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1311 : Index := Scalar.indexCast arg23
  let c5_i32 : BitVec 32 := 5#32
  let v1312 : Index := Scalar.indexCast c5_i32
  let c0_619 : Index := 0#32
  ![v1311.toNat, 5, 0]
def k0_off225 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1330 : Index := Scalar.indexCast arg23
  let c5_i32_626 : BitVec 32 := 5#32
  let v1331 : Index := Scalar.indexCast c5_i32_626
  let c16_627 : Index := 16#32
  ![v1330.toNat, 5, 16]
def k0_off226 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1349 : Index := Scalar.indexCast arg23
  let c5_i32_634 : BitVec 32 := 5#32
  let v1350 : Index := Scalar.indexCast c5_i32_634
  let c32_635 : Index := 32#32
  ![v1349.toNat, 5, 32]
def k0_off227 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1368 : Index := Scalar.indexCast arg23
  let c5_i32_642 : BitVec 32 := 5#32
  let v1369 : Index := Scalar.indexCast c5_i32_642
  let c48_643 : Index := 48#32
  ![v1368.toNat, 5, 48]
def k0_off228 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1387 : Index := Scalar.indexCast arg23
  let c5_i32_650 : BitVec 32 := 5#32
  let v1388 : Index := Scalar.indexCast c5_i32_650
  let c64_651 : Index := 64#32
  ![v1387.toNat, 5, 64]
def k0_off229 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1406 : Index := Scalar.indexCast arg23
  let c5_i32_658 : BitVec 32 := 5#32
  let v1407 : Index := Scalar.indexCast c5_i32_658
  let c80_659 : Index := 80#32
  ![v1406.toNat, 5, 80]
def k0_off230 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1425 : Index := Scalar.indexCast arg23
  let c5_i32_666 : BitVec 32 := 5#32
  let v1426 : Index := Scalar.indexCast c5_i32_666
  let c96_667 : Index := 96#32
  ![v1425.toNat, 5, 96]
def k0_off231 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1444 : Index := Scalar.indexCast arg23
  let c5_i32_674 : BitVec 32 := 5#32
  let v1445 : Index := Scalar.indexCast c5_i32_674
  let c112_675 : Index := 112#32
  ![v1444.toNat, 5, 112]
def k0_off232 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1463 : Index := Scalar.indexCast arg23
  let c5_i32_682 : BitVec 32 := 5#32
  let v1464 : Index := Scalar.indexCast c5_i32_682
  let c128_683 : Index := 128#32
  ![v1463.toNat, 5, 128]
def k0_off233 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1482 : Index := Scalar.indexCast arg23
  let c5_i32_690 : BitVec 32 := 5#32
  let v1483 : Index := Scalar.indexCast c5_i32_690
  let c144_691 : Index := 144#32
  ![v1482.toNat, 5, 144]
def k0_off234 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1501 : Index := Scalar.indexCast arg23
  let c5_i32_698 : BitVec 32 := 5#32
  let v1502 : Index := Scalar.indexCast c5_i32_698
  let c160_699 : Index := 160#32
  ![v1501.toNat, 5, 160]
def k0_off235 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1520 : Index := Scalar.indexCast arg23
  let c5_i32_706 : BitVec 32 := 5#32
  let v1521 : Index := Scalar.indexCast c5_i32_706
  let c176_707 : Index := 176#32
  ![v1520.toNat, 5, 176]
def k0_off236 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1539 : Index := Scalar.indexCast arg23
  let c5_i32_714 : BitVec 32 := 5#32
  let v1540 : Index := Scalar.indexCast c5_i32_714
  let c191_715 : Index := 191#32
  ![v1539.toNat, 5, 191]
def k0_off237 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1558 : Index := Scalar.indexCast arg23
  let c6_i32 : BitVec 32 := 6#32
  let v1559 : Index := Scalar.indexCast c6_i32
  let c0_722 : Index := 0#32
  ![v1558.toNat, 6, 0]
def k0_off238 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1577 : Index := Scalar.indexCast arg23
  let c6_i32_729 : BitVec 32 := 6#32
  let v1578 : Index := Scalar.indexCast c6_i32_729
  let c16_730 : Index := 16#32
  ![v1577.toNat, 6, 16]
def k0_off239 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1596 : Index := Scalar.indexCast arg23
  let c6_i32_737 : BitVec 32 := 6#32
  let v1597 : Index := Scalar.indexCast c6_i32_737
  let c32_738 : Index := 32#32
  ![v1596.toNat, 6, 32]
def k0_off240 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1615 : Index := Scalar.indexCast arg23
  let c6_i32_745 : BitVec 32 := 6#32
  let v1616 : Index := Scalar.indexCast c6_i32_745
  let c48_746 : Index := 48#32
  ![v1615.toNat, 6, 48]
def k0_off241 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1634 : Index := Scalar.indexCast arg23
  let c6_i32_753 : BitVec 32 := 6#32
  let v1635 : Index := Scalar.indexCast c6_i32_753
  let c64_754 : Index := 64#32
  ![v1634.toNat, 6, 64]
def k0_off242 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1653 : Index := Scalar.indexCast arg23
  let c6_i32_761 : BitVec 32 := 6#32
  let v1654 : Index := Scalar.indexCast c6_i32_761
  let c80_762 : Index := 80#32
  ![v1653.toNat, 6, 80]
def k0_off243 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1672 : Index := Scalar.indexCast arg23
  let c6_i32_769 : BitVec 32 := 6#32
  let v1673 : Index := Scalar.indexCast c6_i32_769
  let c96_770 : Index := 96#32
  ![v1672.toNat, 6, 96]
def k0_off244 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1691 : Index := Scalar.indexCast arg23
  let c6_i32_777 : BitVec 32 := 6#32
  let v1692 : Index := Scalar.indexCast c6_i32_777
  let c112_778 : Index := 112#32
  ![v1691.toNat, 6, 112]
def k0_off245 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1710 : Index := Scalar.indexCast arg23
  let c6_i32_785 : BitVec 32 := 6#32
  let v1711 : Index := Scalar.indexCast c6_i32_785
  let c128_786 : Index := 128#32
  ![v1710.toNat, 6, 128]
def k0_off246 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1729 : Index := Scalar.indexCast arg23
  let c6_i32_793 : BitVec 32 := 6#32
  let v1730 : Index := Scalar.indexCast c6_i32_793
  let c144_794 : Index := 144#32
  ![v1729.toNat, 6, 144]
def k0_off247 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1748 : Index := Scalar.indexCast arg23
  let c6_i32_801 : BitVec 32 := 6#32
  let v1749 : Index := Scalar.indexCast c6_i32_801
  let c160_802 : Index := 160#32
  ![v1748.toNat, 6, 160]
def k0_off248 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1767 : Index := Scalar.indexCast arg23
  let c6_i32_809 : BitVec 32 := 6#32
  let v1768 : Index := Scalar.indexCast c6_i32_809
  let c176_810 : Index := 176#32
  ![v1767.toNat, 6, 176]
def k0_off249 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1786 : Index := Scalar.indexCast arg23
  let c6_i32_817 : BitVec 32 := 6#32
  let v1787 : Index := Scalar.indexCast c6_i32_817
  let c191_818 : Index := 191#32
  ![v1786.toNat, 6, 191]
def k0_off250 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1805 : Index := Scalar.indexCast arg23
  let c7_i32 : BitVec 32 := 7#32
  let v1806 : Index := Scalar.indexCast c7_i32
  let c0_825 : Index := 0#32
  ![v1805.toNat, 7, 0]
def k0_off251 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1824 : Index := Scalar.indexCast arg23
  let c7_i32_832 : BitVec 32 := 7#32
  let v1825 : Index := Scalar.indexCast c7_i32_832
  let c16_833 : Index := 16#32
  ![v1824.toNat, 7, 16]
def k0_off252 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1843 : Index := Scalar.indexCast arg23
  let c7_i32_840 : BitVec 32 := 7#32
  let v1844 : Index := Scalar.indexCast c7_i32_840
  let c32_841 : Index := 32#32
  ![v1843.toNat, 7, 32]
def k0_off253 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1862 : Index := Scalar.indexCast arg23
  let c7_i32_848 : BitVec 32 := 7#32
  let v1863 : Index := Scalar.indexCast c7_i32_848
  let c48_849 : Index := 48#32
  ![v1862.toNat, 7, 48]
def k0_off254 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1881 : Index := Scalar.indexCast arg23
  let c7_i32_856 : BitVec 32 := 7#32
  let v1882 : Index := Scalar.indexCast c7_i32_856
  let c64_857 : Index := 64#32
  ![v1881.toNat, 7, 64]
def k0_off255 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1900 : Index := Scalar.indexCast arg23
  let c7_i32_864 : BitVec 32 := 7#32
  let v1901 : Index := Scalar.indexCast c7_i32_864
  let c80_865 : Index := 80#32
  ![v1900.toNat, 7, 80]
def k0_off256 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1919 : Index := Scalar.indexCast arg23
  let c7_i32_872 : BitVec 32 := 7#32
  let v1920 : Index := Scalar.indexCast c7_i32_872
  let c96_873 : Index := 96#32
  ![v1919.toNat, 7, 96]
def k0_off257 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1938 : Index := Scalar.indexCast arg23
  let c7_i32_880 : BitVec 32 := 7#32
  let v1939 : Index := Scalar.indexCast c7_i32_880
  let c112_881 : Index := 112#32
  ![v1938.toNat, 7, 112]
def k0_off258 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1957 : Index := Scalar.indexCast arg23
  let c7_i32_888 : BitVec 32 := 7#32
  let v1958 : Index := Scalar.indexCast c7_i32_888
  let c128_889 : Index := 128#32
  ![v1957.toNat, 7, 128]
def k0_off259 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1976 : Index := Scalar.indexCast arg23
  let c7_i32_896 : BitVec 32 := 7#32
  let v1977 : Index := Scalar.indexCast c7_i32_896
  let c144_897 : Index := 144#32
  ![v1976.toNat, 7, 144]
def k0_off260 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v1995 : Index := Scalar.indexCast arg23
  let c7_i32_904 : BitVec 32 := 7#32
  let v1996 : Index := Scalar.indexCast c7_i32_904
  let c160_905 : Index := 160#32
  ![v1995.toNat, 7, 160]
def k0_off261 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2014 : Index := Scalar.indexCast arg23
  let c7_i32_912 : BitVec 32 := 7#32
  let v2015 : Index := Scalar.indexCast c7_i32_912
  let c176_913 : Index := 176#32
  ![v2014.toNat, 7, 176]
def k0_off262 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2033 : Index := Scalar.indexCast arg23
  let c7_i32_920 : BitVec 32 := 7#32
  let v2034 : Index := Scalar.indexCast c7_i32_920
  let c191_921 : Index := 191#32
  ![v2033.toNat, 7, 191]
def k0_off263 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2052 : Index := Scalar.indexCast arg23
  let c8_i32 : BitVec 32 := 8#32
  let v2053 : Index := Scalar.indexCast c8_i32
  let c0_928 : Index := 0#32
  ![v2052.toNat, 8, 0]
def k0_off264 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2071 : Index := Scalar.indexCast arg23
  let c8_i32_935 : BitVec 32 := 8#32
  let v2072 : Index := Scalar.indexCast c8_i32_935
  let c16_936 : Index := 16#32
  ![v2071.toNat, 8, 16]
def k0_off265 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2090 : Index := Scalar.indexCast arg23
  let c8_i32_943 : BitVec 32 := 8#32
  let v2091 : Index := Scalar.indexCast c8_i32_943
  let c32_944 : Index := 32#32
  ![v2090.toNat, 8, 32]
def k0_off266 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2109 : Index := Scalar.indexCast arg23
  let c8_i32_951 : BitVec 32 := 8#32
  let v2110 : Index := Scalar.indexCast c8_i32_951
  let c48_952 : Index := 48#32
  ![v2109.toNat, 8, 48]
def k0_off267 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2128 : Index := Scalar.indexCast arg23
  let c8_i32_959 : BitVec 32 := 8#32
  let v2129 : Index := Scalar.indexCast c8_i32_959
  let c64_960 : Index := 64#32
  ![v2128.toNat, 8, 64]
def k0_off268 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2147 : Index := Scalar.indexCast arg23
  let c8_i32_967 : BitVec 32 := 8#32
  let v2148 : Index := Scalar.indexCast c8_i32_967
  let c80_968 : Index := 80#32
  ![v2147.toNat, 8, 80]
def k0_off269 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2166 : Index := Scalar.indexCast arg23
  let c8_i32_975 : BitVec 32 := 8#32
  let v2167 : Index := Scalar.indexCast c8_i32_975
  let c96_976 : Index := 96#32
  ![v2166.toNat, 8, 96]
def k0_off270 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2185 : Index := Scalar.indexCast arg23
  let c8_i32_983 : BitVec 32 := 8#32
  let v2186 : Index := Scalar.indexCast c8_i32_983
  let c112_984 : Index := 112#32
  ![v2185.toNat, 8, 112]
def k0_off271 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2204 : Index := Scalar.indexCast arg23
  let c8_i32_991 : BitVec 32 := 8#32
  let v2205 : Index := Scalar.indexCast c8_i32_991
  let c128_992 : Index := 128#32
  ![v2204.toNat, 8, 128]
def k0_off272 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2223 : Index := Scalar.indexCast arg23
  let c8_i32_999 : BitVec 32 := 8#32
  let v2224 : Index := Scalar.indexCast c8_i32_999
  let c144_1000 : Index := 144#32
  ![v2223.toNat, 8, 144]
def k0_off273 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2242 : Index := Scalar.indexCast arg23
  let c8_i32_1007 : BitVec 32 := 8#32
  let v2243 : Index := Scalar.indexCast c8_i32_1007
  let c160_1008 : Index := 160#32
  ![v2242.toNat, 8, 160]
def k0_off274 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2261 : Index := Scalar.indexCast arg23
  let c8_i32_1015 : BitVec 32 := 8#32
  let v2262 : Index := Scalar.indexCast c8_i32_1015
  let c176_1016 : Index := 176#32
  ![v2261.toNat, 8, 176]
def k0_off275 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2280 : Index := Scalar.indexCast arg23
  let c8_i32_1023 : BitVec 32 := 8#32
  let v2281 : Index := Scalar.indexCast c8_i32_1023
  let c191_1024 : Index := 191#32
  ![v2280.toNat, 8, 191]
def k0_off276 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2299 : Index := Scalar.indexCast arg23
  let c9_i32 : BitVec 32 := 9#32
  let v2300 : Index := Scalar.indexCast c9_i32
  let c0_1031 : Index := 0#32
  ![v2299.toNat, 9, 0]
def k0_off277 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2318 : Index := Scalar.indexCast arg23
  let c9_i32_1038 : BitVec 32 := 9#32
  let v2319 : Index := Scalar.indexCast c9_i32_1038
  let c16_1039 : Index := 16#32
  ![v2318.toNat, 9, 16]
def k0_off278 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2337 : Index := Scalar.indexCast arg23
  let c9_i32_1046 : BitVec 32 := 9#32
  let v2338 : Index := Scalar.indexCast c9_i32_1046
  let c32_1047 : Index := 32#32
  ![v2337.toNat, 9, 32]
def k0_off279 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2356 : Index := Scalar.indexCast arg23
  let c9_i32_1054 : BitVec 32 := 9#32
  let v2357 : Index := Scalar.indexCast c9_i32_1054
  let c48_1055 : Index := 48#32
  ![v2356.toNat, 9, 48]
def k0_off280 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2375 : Index := Scalar.indexCast arg23
  let c9_i32_1062 : BitVec 32 := 9#32
  let v2376 : Index := Scalar.indexCast c9_i32_1062
  let c64_1063 : Index := 64#32
  ![v2375.toNat, 9, 64]
def k0_off281 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2394 : Index := Scalar.indexCast arg23
  let c9_i32_1070 : BitVec 32 := 9#32
  let v2395 : Index := Scalar.indexCast c9_i32_1070
  let c80_1071 : Index := 80#32
  ![v2394.toNat, 9, 80]
def k0_off282 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2413 : Index := Scalar.indexCast arg23
  let c9_i32_1078 : BitVec 32 := 9#32
  let v2414 : Index := Scalar.indexCast c9_i32_1078
  let c96_1079 : Index := 96#32
  ![v2413.toNat, 9, 96]
def k0_off283 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2432 : Index := Scalar.indexCast arg23
  let c9_i32_1086 : BitVec 32 := 9#32
  let v2433 : Index := Scalar.indexCast c9_i32_1086
  let c112_1087 : Index := 112#32
  ![v2432.toNat, 9, 112]
def k0_off284 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2451 : Index := Scalar.indexCast arg23
  let c9_i32_1094 : BitVec 32 := 9#32
  let v2452 : Index := Scalar.indexCast c9_i32_1094
  let c128_1095 : Index := 128#32
  ![v2451.toNat, 9, 128]
def k0_off285 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2470 : Index := Scalar.indexCast arg23
  let c9_i32_1102 : BitVec 32 := 9#32
  let v2471 : Index := Scalar.indexCast c9_i32_1102
  let c144_1103 : Index := 144#32
  ![v2470.toNat, 9, 144]
def k0_off286 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2489 : Index := Scalar.indexCast arg23
  let c9_i32_1110 : BitVec 32 := 9#32
  let v2490 : Index := Scalar.indexCast c9_i32_1110
  let c160_1111 : Index := 160#32
  ![v2489.toNat, 9, 160]
def k0_off287 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2508 : Index := Scalar.indexCast arg23
  let c9_i32_1118 : BitVec 32 := 9#32
  let v2509 : Index := Scalar.indexCast c9_i32_1118
  let c176_1119 : Index := 176#32
  ![v2508.toNat, 9, 176]
def k0_off288 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2527 : Index := Scalar.indexCast arg23
  let c9_i32_1126 : BitVec 32 := 9#32
  let v2528 : Index := Scalar.indexCast c9_i32_1126
  let c191_1127 : Index := 191#32
  ![v2527.toNat, 9, 191]
def k0_off289 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2546 : Index := Scalar.indexCast arg23
  let c10_i32 : BitVec 32 := 10#32
  let v2547 : Index := Scalar.indexCast c10_i32
  let c0_1134 : Index := 0#32
  ![v2546.toNat, 10, 0]
def k0_off290 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2565 : Index := Scalar.indexCast arg23
  let c10_i32_1141 : BitVec 32 := 10#32
  let v2566 : Index := Scalar.indexCast c10_i32_1141
  let c16_1142 : Index := 16#32
  ![v2565.toNat, 10, 16]
def k0_off291 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2584 : Index := Scalar.indexCast arg23
  let c10_i32_1149 : BitVec 32 := 10#32
  let v2585 : Index := Scalar.indexCast c10_i32_1149
  let c32_1150 : Index := 32#32
  ![v2584.toNat, 10, 32]
def k0_off292 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2603 : Index := Scalar.indexCast arg23
  let c10_i32_1157 : BitVec 32 := 10#32
  let v2604 : Index := Scalar.indexCast c10_i32_1157
  let c48_1158 : Index := 48#32
  ![v2603.toNat, 10, 48]
def k0_off293 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2622 : Index := Scalar.indexCast arg23
  let c10_i32_1165 : BitVec 32 := 10#32
  let v2623 : Index := Scalar.indexCast c10_i32_1165
  let c64_1166 : Index := 64#32
  ![v2622.toNat, 10, 64]
def k0_off294 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2641 : Index := Scalar.indexCast arg23
  let c10_i32_1173 : BitVec 32 := 10#32
  let v2642 : Index := Scalar.indexCast c10_i32_1173
  let c80_1174 : Index := 80#32
  ![v2641.toNat, 10, 80]
def k0_off295 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2660 : Index := Scalar.indexCast arg23
  let c10_i32_1181 : BitVec 32 := 10#32
  let v2661 : Index := Scalar.indexCast c10_i32_1181
  let c96_1182 : Index := 96#32
  ![v2660.toNat, 10, 96]
def k0_off296 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2679 : Index := Scalar.indexCast arg23
  let c10_i32_1189 : BitVec 32 := 10#32
  let v2680 : Index := Scalar.indexCast c10_i32_1189
  let c112_1190 : Index := 112#32
  ![v2679.toNat, 10, 112]
def k0_off297 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2698 : Index := Scalar.indexCast arg23
  let c10_i32_1197 : BitVec 32 := 10#32
  let v2699 : Index := Scalar.indexCast c10_i32_1197
  let c128_1198 : Index := 128#32
  ![v2698.toNat, 10, 128]
def k0_off298 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2717 : Index := Scalar.indexCast arg23
  let c10_i32_1205 : BitVec 32 := 10#32
  let v2718 : Index := Scalar.indexCast c10_i32_1205
  let c144_1206 : Index := 144#32
  ![v2717.toNat, 10, 144]
def k0_off299 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2736 : Index := Scalar.indexCast arg23
  let c10_i32_1213 : BitVec 32 := 10#32
  let v2737 : Index := Scalar.indexCast c10_i32_1213
  let c160_1214 : Index := 160#32
  ![v2736.toNat, 10, 160]
def k0_off300 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2755 : Index := Scalar.indexCast arg23
  let c10_i32_1221 : BitVec 32 := 10#32
  let v2756 : Index := Scalar.indexCast c10_i32_1221
  let c176_1222 : Index := 176#32
  ![v2755.toNat, 10, 176]
def k0_off301 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2774 : Index := Scalar.indexCast arg23
  let c10_i32_1229 : BitVec 32 := 10#32
  let v2775 : Index := Scalar.indexCast c10_i32_1229
  let c191_1230 : Index := 191#32
  ![v2774.toNat, 10, 191]
def k0_off302 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2793 : Index := Scalar.indexCast arg23
  let c11_i32 : BitVec 32 := 11#32
  let v2794 : Index := Scalar.indexCast c11_i32
  let c0_1237 : Index := 0#32
  ![v2793.toNat, 11, 0]
def k0_off303 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2812 : Index := Scalar.indexCast arg23
  let c11_i32_1244 : BitVec 32 := 11#32
  let v2813 : Index := Scalar.indexCast c11_i32_1244
  let c16_1245 : Index := 16#32
  ![v2812.toNat, 11, 16]
def k0_off304 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2831 : Index := Scalar.indexCast arg23
  let c11_i32_1252 : BitVec 32 := 11#32
  let v2832 : Index := Scalar.indexCast c11_i32_1252
  let c32_1253 : Index := 32#32
  ![v2831.toNat, 11, 32]
def k0_off305 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2850 : Index := Scalar.indexCast arg23
  let c11_i32_1260 : BitVec 32 := 11#32
  let v2851 : Index := Scalar.indexCast c11_i32_1260
  let c48_1261 : Index := 48#32
  ![v2850.toNat, 11, 48]
def k0_off306 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2869 : Index := Scalar.indexCast arg23
  let c11_i32_1268 : BitVec 32 := 11#32
  let v2870 : Index := Scalar.indexCast c11_i32_1268
  let c64_1269 : Index := 64#32
  ![v2869.toNat, 11, 64]
def k0_off307 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2888 : Index := Scalar.indexCast arg23
  let c11_i32_1276 : BitVec 32 := 11#32
  let v2889 : Index := Scalar.indexCast c11_i32_1276
  let c80_1277 : Index := 80#32
  ![v2888.toNat, 11, 80]
def k0_off308 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2907 : Index := Scalar.indexCast arg23
  let c11_i32_1284 : BitVec 32 := 11#32
  let v2908 : Index := Scalar.indexCast c11_i32_1284
  let c96_1285 : Index := 96#32
  ![v2907.toNat, 11, 96]
def k0_off309 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2926 : Index := Scalar.indexCast arg23
  let c11_i32_1292 : BitVec 32 := 11#32
  let v2927 : Index := Scalar.indexCast c11_i32_1292
  let c112_1293 : Index := 112#32
  ![v2926.toNat, 11, 112]
def k0_off310 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2945 : Index := Scalar.indexCast arg23
  let c11_i32_1300 : BitVec 32 := 11#32
  let v2946 : Index := Scalar.indexCast c11_i32_1300
  let c128_1301 : Index := 128#32
  ![v2945.toNat, 11, 128]
def k0_off311 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2964 : Index := Scalar.indexCast arg23
  let c11_i32_1308 : BitVec 32 := 11#32
  let v2965 : Index := Scalar.indexCast c11_i32_1308
  let c144_1309 : Index := 144#32
  ![v2964.toNat, 11, 144]
def k0_off312 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v2983 : Index := Scalar.indexCast arg23
  let c11_i32_1316 : BitVec 32 := 11#32
  let v2984 : Index := Scalar.indexCast c11_i32_1316
  let c160_1317 : Index := 160#32
  ![v2983.toNat, 11, 160]
def k0_off313 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v3002 : Index := Scalar.indexCast arg23
  let c11_i32_1324 : BitVec 32 := 11#32
  let v3003 : Index := Scalar.indexCast c11_i32_1324
  let c176_1325 : Index := 176#32
  ![v3002.toNat, 11, 176]
def k0_off314 (k0_t3 : Fin k0_t3_loop.trips) : Fin 3 → Nat :=
  let c0_i32_96 : BitVec 32 := 0#32
  let c1_i32_98 : BitVec 32 := 1#32
  let arg23 : BitVec 32 := Scf.iv c0_i32_96 c1_i32_98 k0_t3
  let v3021 : Index := Scalar.indexCast arg23
  let c11_i32_1332 : BitVec 32 := 11#32
  let v3022 : Index := Scalar.indexCast c11_i32_1332
  let c191_1333 : Index := 191#32
  ![v3021.toNat, 11, 191]
@[reducible] def k0_t4_loop : Scf.Loop 32 :=
  let c0_i32_30 : BitVec 32 := 0#32
  let c4_i32_31 : BitVec 32 := 4#32
  let v20 : BitVec 32 := Scalar.addi c0_i32_30 c4_i32_31
  let c1_i32_32 : BitVec 32 := 1#32
  ⟨c0_i32_30, v20, c1_i32_32⟩
def k0_off315 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v48 : Index := Scalar.indexCast arg14
  let c0_i32_57 : BitVec 32 := 0#32
  let v49 : Index := Scalar.indexCast c0_i32_57
  let c0_58 : Index := 0#32
  ![v48.toNat, 0, 0]
def k0_off316 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v67 : Index := Scalar.indexCast arg14
  let c0_i32_65 : BitVec 32 := 0#32
  let v68 : Index := Scalar.indexCast c0_i32_65
  let c16 : Index := 16#32
  ![v67.toNat, 0, 16]
def k0_off317 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v86 : Index := Scalar.indexCast arg14
  let c0_i32_72 : BitVec 32 := 0#32
  let v87 : Index := Scalar.indexCast c0_i32_72
  let c32 : Index := 32#32
  ![v86.toNat, 0, 32]
def k0_off318 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v105 : Index := Scalar.indexCast arg14
  let c0_i32_79 : BitVec 32 := 0#32
  let v106 : Index := Scalar.indexCast c0_i32_79
  let c48 : Index := 48#32
  ![v105.toNat, 0, 48]
def k0_off319 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v124 : Index := Scalar.indexCast arg14
  let c0_i32_86 : BitVec 32 := 0#32
  let v125 : Index := Scalar.indexCast c0_i32_86
  let c64 : Index := 64#32
  ![v124.toNat, 0, 64]
def k0_off320 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v143 : Index := Scalar.indexCast arg14
  let c0_i32_93 : BitVec 32 := 0#32
  let v144 : Index := Scalar.indexCast c0_i32_93
  let c80 : Index := 80#32
  ![v143.toNat, 0, 80]
def k0_off321 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v162 : Index := Scalar.indexCast arg14
  let c0_i32_100 : BitVec 32 := 0#32
  let v163 : Index := Scalar.indexCast c0_i32_100
  let c96 : Index := 96#32
  ![v162.toNat, 0, 96]
def k0_off322 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v181 : Index := Scalar.indexCast arg14
  let c0_i32_107 : BitVec 32 := 0#32
  let v182 : Index := Scalar.indexCast c0_i32_107
  let c112 : Index := 112#32
  ![v181.toNat, 0, 112]
def k0_off323 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v200 : Index := Scalar.indexCast arg14
  let c0_i32_114 : BitVec 32 := 0#32
  let v201 : Index := Scalar.indexCast c0_i32_114
  let c128 : Index := 128#32
  ![v200.toNat, 0, 128]
def k0_off324 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v219 : Index := Scalar.indexCast arg14
  let c0_i32_121 : BitVec 32 := 0#32
  let v220 : Index := Scalar.indexCast c0_i32_121
  let c144 : Index := 144#32
  ![v219.toNat, 0, 144]
def k0_off325 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v238 : Index := Scalar.indexCast arg14
  let c0_i32_128 : BitVec 32 := 0#32
  let v239 : Index := Scalar.indexCast c0_i32_128
  let c160 : Index := 160#32
  ![v238.toNat, 0, 160]
def k0_off326 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v257 : Index := Scalar.indexCast arg14
  let c0_i32_135 : BitVec 32 := 0#32
  let v258 : Index := Scalar.indexCast c0_i32_135
  let c176 : Index := 176#32
  ![v257.toNat, 0, 176]
def k0_off327 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v276 : Index := Scalar.indexCast arg14
  let c0_i32_142 : BitVec 32 := 0#32
  let v277 : Index := Scalar.indexCast c0_i32_142
  let c191 : Index := 191#32
  ![v276.toNat, 0, 191]
def k0_off328 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v295 : Index := Scalar.indexCast arg14
  let c1_i32_149 : BitVec 32 := 1#32
  let v296 : Index := Scalar.indexCast c1_i32_149
  let c0_150 : Index := 0#32
  ![v295.toNat, 1, 0]
def k0_off329 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v314 : Index := Scalar.indexCast arg14
  let c1_i32_157 : BitVec 32 := 1#32
  let v315 : Index := Scalar.indexCast c1_i32_157
  let c16_158 : Index := 16#32
  ![v314.toNat, 1, 16]
def k0_off330 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v333 : Index := Scalar.indexCast arg14
  let c1_i32_165 : BitVec 32 := 1#32
  let v334 : Index := Scalar.indexCast c1_i32_165
  let c32_166 : Index := 32#32
  ![v333.toNat, 1, 32]
def k0_off331 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v352 : Index := Scalar.indexCast arg14
  let c1_i32_173 : BitVec 32 := 1#32
  let v353 : Index := Scalar.indexCast c1_i32_173
  let c48_174 : Index := 48#32
  ![v352.toNat, 1, 48]
def k0_off332 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v371 : Index := Scalar.indexCast arg14
  let c1_i32_181 : BitVec 32 := 1#32
  let v372 : Index := Scalar.indexCast c1_i32_181
  let c64_182 : Index := 64#32
  ![v371.toNat, 1, 64]
def k0_off333 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v390 : Index := Scalar.indexCast arg14
  let c1_i32_189 : BitVec 32 := 1#32
  let v391 : Index := Scalar.indexCast c1_i32_189
  let c80_190 : Index := 80#32
  ![v390.toNat, 1, 80]
def k0_off334 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v409 : Index := Scalar.indexCast arg14
  let c1_i32_197 : BitVec 32 := 1#32
  let v410 : Index := Scalar.indexCast c1_i32_197
  let c96_198 : Index := 96#32
  ![v409.toNat, 1, 96]
def k0_off335 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v428 : Index := Scalar.indexCast arg14
  let c1_i32_205 : BitVec 32 := 1#32
  let v429 : Index := Scalar.indexCast c1_i32_205
  let c112_206 : Index := 112#32
  ![v428.toNat, 1, 112]
def k0_off336 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v447 : Index := Scalar.indexCast arg14
  let c1_i32_213 : BitVec 32 := 1#32
  let v448 : Index := Scalar.indexCast c1_i32_213
  let c128_214 : Index := 128#32
  ![v447.toNat, 1, 128]
def k0_off337 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v466 : Index := Scalar.indexCast arg14
  let c1_i32_221 : BitVec 32 := 1#32
  let v467 : Index := Scalar.indexCast c1_i32_221
  let c144_222 : Index := 144#32
  ![v466.toNat, 1, 144]
def k0_off338 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v485 : Index := Scalar.indexCast arg14
  let c1_i32_229 : BitVec 32 := 1#32
  let v486 : Index := Scalar.indexCast c1_i32_229
  let c160_230 : Index := 160#32
  ![v485.toNat, 1, 160]
def k0_off339 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v504 : Index := Scalar.indexCast arg14
  let c1_i32_237 : BitVec 32 := 1#32
  let v505 : Index := Scalar.indexCast c1_i32_237
  let c176_238 : Index := 176#32
  ![v504.toNat, 1, 176]
def k0_off340 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v523 : Index := Scalar.indexCast arg14
  let c1_i32_245 : BitVec 32 := 1#32
  let v524 : Index := Scalar.indexCast c1_i32_245
  let c191_246 : Index := 191#32
  ![v523.toNat, 1, 191]
def k0_off341 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v542 : Index := Scalar.indexCast arg14
  let c2_i32_253 : BitVec 32 := 2#32
  let v543 : Index := Scalar.indexCast c2_i32_253
  let c0_254 : Index := 0#32
  ![v542.toNat, 2, 0]
def k0_off342 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v561 : Index := Scalar.indexCast arg14
  let c2_i32_261 : BitVec 32 := 2#32
  let v562 : Index := Scalar.indexCast c2_i32_261
  let c16_262 : Index := 16#32
  ![v561.toNat, 2, 16]
def k0_off343 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v580 : Index := Scalar.indexCast arg14
  let c2_i32_269 : BitVec 32 := 2#32
  let v581 : Index := Scalar.indexCast c2_i32_269
  let c32_270 : Index := 32#32
  ![v580.toNat, 2, 32]
def k0_off344 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v599 : Index := Scalar.indexCast arg14
  let c2_i32_277 : BitVec 32 := 2#32
  let v600 : Index := Scalar.indexCast c2_i32_277
  let c48_278 : Index := 48#32
  ![v599.toNat, 2, 48]
def k0_off345 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v618 : Index := Scalar.indexCast arg14
  let c2_i32_285 : BitVec 32 := 2#32
  let v619 : Index := Scalar.indexCast c2_i32_285
  let c64_286 : Index := 64#32
  ![v618.toNat, 2, 64]
def k0_off346 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v637 : Index := Scalar.indexCast arg14
  let c2_i32_293 : BitVec 32 := 2#32
  let v638 : Index := Scalar.indexCast c2_i32_293
  let c80_294 : Index := 80#32
  ![v637.toNat, 2, 80]
def k0_off347 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v656 : Index := Scalar.indexCast arg14
  let c2_i32_301 : BitVec 32 := 2#32
  let v657 : Index := Scalar.indexCast c2_i32_301
  let c96_302 : Index := 96#32
  ![v656.toNat, 2, 96]
def k0_off348 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v675 : Index := Scalar.indexCast arg14
  let c2_i32_309 : BitVec 32 := 2#32
  let v676 : Index := Scalar.indexCast c2_i32_309
  let c112_310 : Index := 112#32
  ![v675.toNat, 2, 112]
def k0_off349 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v694 : Index := Scalar.indexCast arg14
  let c2_i32_317 : BitVec 32 := 2#32
  let v695 : Index := Scalar.indexCast c2_i32_317
  let c128_318 : Index := 128#32
  ![v694.toNat, 2, 128]
def k0_off350 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v713 : Index := Scalar.indexCast arg14
  let c2_i32_325 : BitVec 32 := 2#32
  let v714 : Index := Scalar.indexCast c2_i32_325
  let c144_326 : Index := 144#32
  ![v713.toNat, 2, 144]
def k0_off351 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v732 : Index := Scalar.indexCast arg14
  let c2_i32_333 : BitVec 32 := 2#32
  let v733 : Index := Scalar.indexCast c2_i32_333
  let c160_334 : Index := 160#32
  ![v732.toNat, 2, 160]
def k0_off352 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v751 : Index := Scalar.indexCast arg14
  let c2_i32_341 : BitVec 32 := 2#32
  let v752 : Index := Scalar.indexCast c2_i32_341
  let c176_342 : Index := 176#32
  ![v751.toNat, 2, 176]
def k0_off353 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v770 : Index := Scalar.indexCast arg14
  let c2_i32_349 : BitVec 32 := 2#32
  let v771 : Index := Scalar.indexCast c2_i32_349
  let c191_350 : Index := 191#32
  ![v770.toNat, 2, 191]
def k0_off354 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v789 : Index := Scalar.indexCast arg14
  let c3_i32_357 : BitVec 32 := 3#32
  let v790 : Index := Scalar.indexCast c3_i32_357
  let c0_358 : Index := 0#32
  ![v789.toNat, 3, 0]
def k0_off355 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v808 : Index := Scalar.indexCast arg14
  let c3_i32_365 : BitVec 32 := 3#32
  let v809 : Index := Scalar.indexCast c3_i32_365
  let c16_366 : Index := 16#32
  ![v808.toNat, 3, 16]
def k0_off356 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v827 : Index := Scalar.indexCast arg14
  let c3_i32_373 : BitVec 32 := 3#32
  let v828 : Index := Scalar.indexCast c3_i32_373
  let c32_374 : Index := 32#32
  ![v827.toNat, 3, 32]
def k0_off357 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v846 : Index := Scalar.indexCast arg14
  let c3_i32_381 : BitVec 32 := 3#32
  let v847 : Index := Scalar.indexCast c3_i32_381
  let c48_382 : Index := 48#32
  ![v846.toNat, 3, 48]
def k0_off358 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v865 : Index := Scalar.indexCast arg14
  let c3_i32_389 : BitVec 32 := 3#32
  let v866 : Index := Scalar.indexCast c3_i32_389
  let c64_390 : Index := 64#32
  ![v865.toNat, 3, 64]
def k0_off359 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v884 : Index := Scalar.indexCast arg14
  let c3_i32_397 : BitVec 32 := 3#32
  let v885 : Index := Scalar.indexCast c3_i32_397
  let c80_398 : Index := 80#32
  ![v884.toNat, 3, 80]
def k0_off360 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v903 : Index := Scalar.indexCast arg14
  let c3_i32_405 : BitVec 32 := 3#32
  let v904 : Index := Scalar.indexCast c3_i32_405
  let c96_406 : Index := 96#32
  ![v903.toNat, 3, 96]
def k0_off361 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v922 : Index := Scalar.indexCast arg14
  let c3_i32_413 : BitVec 32 := 3#32
  let v923 : Index := Scalar.indexCast c3_i32_413
  let c112_414 : Index := 112#32
  ![v922.toNat, 3, 112]
def k0_off362 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v941 : Index := Scalar.indexCast arg14
  let c3_i32_421 : BitVec 32 := 3#32
  let v942 : Index := Scalar.indexCast c3_i32_421
  let c128_422 : Index := 128#32
  ![v941.toNat, 3, 128]
def k0_off363 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v960 : Index := Scalar.indexCast arg14
  let c3_i32_429 : BitVec 32 := 3#32
  let v961 : Index := Scalar.indexCast c3_i32_429
  let c144_430 : Index := 144#32
  ![v960.toNat, 3, 144]
def k0_off364 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v979 : Index := Scalar.indexCast arg14
  let c3_i32_437 : BitVec 32 := 3#32
  let v980 : Index := Scalar.indexCast c3_i32_437
  let c160_438 : Index := 160#32
  ![v979.toNat, 3, 160]
def k0_off365 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v998 : Index := Scalar.indexCast arg14
  let c3_i32_445 : BitVec 32 := 3#32
  let v999 : Index := Scalar.indexCast c3_i32_445
  let c176_446 : Index := 176#32
  ![v998.toNat, 3, 176]
def k0_off366 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1017 : Index := Scalar.indexCast arg14
  let c3_i32_453 : BitVec 32 := 3#32
  let v1018 : Index := Scalar.indexCast c3_i32_453
  let c191_454 : Index := 191#32
  ![v1017.toNat, 3, 191]
def k0_off367 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1036 : Index := Scalar.indexCast arg14
  let c4_i32_461 : BitVec 32 := 4#32
  let v1037 : Index := Scalar.indexCast c4_i32_461
  let c0_462 : Index := 0#32
  ![v1036.toNat, 4, 0]
def k0_off368 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1055 : Index := Scalar.indexCast arg14
  let c4_i32_469 : BitVec 32 := 4#32
  let v1056 : Index := Scalar.indexCast c4_i32_469
  let c16_470 : Index := 16#32
  ![v1055.toNat, 4, 16]
def k0_off369 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1074 : Index := Scalar.indexCast arg14
  let c4_i32_477 : BitVec 32 := 4#32
  let v1075 : Index := Scalar.indexCast c4_i32_477
  let c32_478 : Index := 32#32
  ![v1074.toNat, 4, 32]
def k0_off370 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1093 : Index := Scalar.indexCast arg14
  let c4_i32_485 : BitVec 32 := 4#32
  let v1094 : Index := Scalar.indexCast c4_i32_485
  let c48_486 : Index := 48#32
  ![v1093.toNat, 4, 48]
def k0_off371 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1112 : Index := Scalar.indexCast arg14
  let c4_i32_493 : BitVec 32 := 4#32
  let v1113 : Index := Scalar.indexCast c4_i32_493
  let c64_494 : Index := 64#32
  ![v1112.toNat, 4, 64]
def k0_off372 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1131 : Index := Scalar.indexCast arg14
  let c4_i32_501 : BitVec 32 := 4#32
  let v1132 : Index := Scalar.indexCast c4_i32_501
  let c80_502 : Index := 80#32
  ![v1131.toNat, 4, 80]
def k0_off373 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1150 : Index := Scalar.indexCast arg14
  let c4_i32_509 : BitVec 32 := 4#32
  let v1151 : Index := Scalar.indexCast c4_i32_509
  let c96_510 : Index := 96#32
  ![v1150.toNat, 4, 96]
def k0_off374 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1169 : Index := Scalar.indexCast arg14
  let c4_i32_517 : BitVec 32 := 4#32
  let v1170 : Index := Scalar.indexCast c4_i32_517
  let c112_518 : Index := 112#32
  ![v1169.toNat, 4, 112]
def k0_off375 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1188 : Index := Scalar.indexCast arg14
  let c4_i32_525 : BitVec 32 := 4#32
  let v1189 : Index := Scalar.indexCast c4_i32_525
  let c128_526 : Index := 128#32
  ![v1188.toNat, 4, 128]
def k0_off376 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1207 : Index := Scalar.indexCast arg14
  let c4_i32_533 : BitVec 32 := 4#32
  let v1208 : Index := Scalar.indexCast c4_i32_533
  let c144_534 : Index := 144#32
  ![v1207.toNat, 4, 144]
def k0_off377 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1226 : Index := Scalar.indexCast arg14
  let c4_i32_541 : BitVec 32 := 4#32
  let v1227 : Index := Scalar.indexCast c4_i32_541
  let c160_542 : Index := 160#32
  ![v1226.toNat, 4, 160]
def k0_off378 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1245 : Index := Scalar.indexCast arg14
  let c4_i32_549 : BitVec 32 := 4#32
  let v1246 : Index := Scalar.indexCast c4_i32_549
  let c176_550 : Index := 176#32
  ![v1245.toNat, 4, 176]
def k0_off379 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1264 : Index := Scalar.indexCast arg14
  let c4_i32_557 : BitVec 32 := 4#32
  let v1265 : Index := Scalar.indexCast c4_i32_557
  let c191_558 : Index := 191#32
  ![v1264.toNat, 4, 191]
def k0_off380 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1283 : Index := Scalar.indexCast arg14
  let c5_i32 : BitVec 32 := 5#32
  let v1284 : Index := Scalar.indexCast c5_i32
  let c0_565 : Index := 0#32
  ![v1283.toNat, 5, 0]
def k0_off381 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1302 : Index := Scalar.indexCast arg14
  let c5_i32_572 : BitVec 32 := 5#32
  let v1303 : Index := Scalar.indexCast c5_i32_572
  let c16_573 : Index := 16#32
  ![v1302.toNat, 5, 16]
def k0_off382 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1321 : Index := Scalar.indexCast arg14
  let c5_i32_580 : BitVec 32 := 5#32
  let v1322 : Index := Scalar.indexCast c5_i32_580
  let c32_581 : Index := 32#32
  ![v1321.toNat, 5, 32]
def k0_off383 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1340 : Index := Scalar.indexCast arg14
  let c5_i32_588 : BitVec 32 := 5#32
  let v1341 : Index := Scalar.indexCast c5_i32_588
  let c48_589 : Index := 48#32
  ![v1340.toNat, 5, 48]
def k0_off384 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1359 : Index := Scalar.indexCast arg14
  let c5_i32_596 : BitVec 32 := 5#32
  let v1360 : Index := Scalar.indexCast c5_i32_596
  let c64_597 : Index := 64#32
  ![v1359.toNat, 5, 64]
def k0_off385 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1378 : Index := Scalar.indexCast arg14
  let c5_i32_604 : BitVec 32 := 5#32
  let v1379 : Index := Scalar.indexCast c5_i32_604
  let c80_605 : Index := 80#32
  ![v1378.toNat, 5, 80]
def k0_off386 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1397 : Index := Scalar.indexCast arg14
  let c5_i32_612 : BitVec 32 := 5#32
  let v1398 : Index := Scalar.indexCast c5_i32_612
  let c96_613 : Index := 96#32
  ![v1397.toNat, 5, 96]
def k0_off387 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1416 : Index := Scalar.indexCast arg14
  let c5_i32_620 : BitVec 32 := 5#32
  let v1417 : Index := Scalar.indexCast c5_i32_620
  let c112_621 : Index := 112#32
  ![v1416.toNat, 5, 112]
def k0_off388 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1435 : Index := Scalar.indexCast arg14
  let c5_i32_628 : BitVec 32 := 5#32
  let v1436 : Index := Scalar.indexCast c5_i32_628
  let c128_629 : Index := 128#32
  ![v1435.toNat, 5, 128]
def k0_off389 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1454 : Index := Scalar.indexCast arg14
  let c5_i32_636 : BitVec 32 := 5#32
  let v1455 : Index := Scalar.indexCast c5_i32_636
  let c144_637 : Index := 144#32
  ![v1454.toNat, 5, 144]
def k0_off390 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1473 : Index := Scalar.indexCast arg14
  let c5_i32_644 : BitVec 32 := 5#32
  let v1474 : Index := Scalar.indexCast c5_i32_644
  let c160_645 : Index := 160#32
  ![v1473.toNat, 5, 160]
def k0_off391 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1492 : Index := Scalar.indexCast arg14
  let c5_i32_652 : BitVec 32 := 5#32
  let v1493 : Index := Scalar.indexCast c5_i32_652
  let c176_653 : Index := 176#32
  ![v1492.toNat, 5, 176]
def k0_off392 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1511 : Index := Scalar.indexCast arg14
  let c5_i32_660 : BitVec 32 := 5#32
  let v1512 : Index := Scalar.indexCast c5_i32_660
  let c191_661 : Index := 191#32
  ![v1511.toNat, 5, 191]
def k0_off393 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1530 : Index := Scalar.indexCast arg14
  let c6_i32 : BitVec 32 := 6#32
  let v1531 : Index := Scalar.indexCast c6_i32
  let c0_668 : Index := 0#32
  ![v1530.toNat, 6, 0]
def k0_off394 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1549 : Index := Scalar.indexCast arg14
  let c6_i32_675 : BitVec 32 := 6#32
  let v1550 : Index := Scalar.indexCast c6_i32_675
  let c16_676 : Index := 16#32
  ![v1549.toNat, 6, 16]
def k0_off395 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1568 : Index := Scalar.indexCast arg14
  let c6_i32_683 : BitVec 32 := 6#32
  let v1569 : Index := Scalar.indexCast c6_i32_683
  let c32_684 : Index := 32#32
  ![v1568.toNat, 6, 32]
def k0_off396 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1587 : Index := Scalar.indexCast arg14
  let c6_i32_691 : BitVec 32 := 6#32
  let v1588 : Index := Scalar.indexCast c6_i32_691
  let c48_692 : Index := 48#32
  ![v1587.toNat, 6, 48]
def k0_off397 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1606 : Index := Scalar.indexCast arg14
  let c6_i32_699 : BitVec 32 := 6#32
  let v1607 : Index := Scalar.indexCast c6_i32_699
  let c64_700 : Index := 64#32
  ![v1606.toNat, 6, 64]
def k0_off398 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1625 : Index := Scalar.indexCast arg14
  let c6_i32_707 : BitVec 32 := 6#32
  let v1626 : Index := Scalar.indexCast c6_i32_707
  let c80_708 : Index := 80#32
  ![v1625.toNat, 6, 80]
def k0_off399 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1644 : Index := Scalar.indexCast arg14
  let c6_i32_715 : BitVec 32 := 6#32
  let v1645 : Index := Scalar.indexCast c6_i32_715
  let c96_716 : Index := 96#32
  ![v1644.toNat, 6, 96]
def k0_off400 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1663 : Index := Scalar.indexCast arg14
  let c6_i32_723 : BitVec 32 := 6#32
  let v1664 : Index := Scalar.indexCast c6_i32_723
  let c112_724 : Index := 112#32
  ![v1663.toNat, 6, 112]
def k0_off401 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1682 : Index := Scalar.indexCast arg14
  let c6_i32_731 : BitVec 32 := 6#32
  let v1683 : Index := Scalar.indexCast c6_i32_731
  let c128_732 : Index := 128#32
  ![v1682.toNat, 6, 128]
def k0_off402 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1701 : Index := Scalar.indexCast arg14
  let c6_i32_739 : BitVec 32 := 6#32
  let v1702 : Index := Scalar.indexCast c6_i32_739
  let c144_740 : Index := 144#32
  ![v1701.toNat, 6, 144]
def k0_off403 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1720 : Index := Scalar.indexCast arg14
  let c6_i32_747 : BitVec 32 := 6#32
  let v1721 : Index := Scalar.indexCast c6_i32_747
  let c160_748 : Index := 160#32
  ![v1720.toNat, 6, 160]
def k0_off404 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1739 : Index := Scalar.indexCast arg14
  let c6_i32_755 : BitVec 32 := 6#32
  let v1740 : Index := Scalar.indexCast c6_i32_755
  let c176_756 : Index := 176#32
  ![v1739.toNat, 6, 176]
def k0_off405 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1758 : Index := Scalar.indexCast arg14
  let c6_i32_763 : BitVec 32 := 6#32
  let v1759 : Index := Scalar.indexCast c6_i32_763
  let c191_764 : Index := 191#32
  ![v1758.toNat, 6, 191]
def k0_off406 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1777 : Index := Scalar.indexCast arg14
  let c7_i32 : BitVec 32 := 7#32
  let v1778 : Index := Scalar.indexCast c7_i32
  let c0_771 : Index := 0#32
  ![v1777.toNat, 7, 0]
def k0_off407 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1796 : Index := Scalar.indexCast arg14
  let c7_i32_778 : BitVec 32 := 7#32
  let v1797 : Index := Scalar.indexCast c7_i32_778
  let c16_779 : Index := 16#32
  ![v1796.toNat, 7, 16]
def k0_off408 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1815 : Index := Scalar.indexCast arg14
  let c7_i32_786 : BitVec 32 := 7#32
  let v1816 : Index := Scalar.indexCast c7_i32_786
  let c32_787 : Index := 32#32
  ![v1815.toNat, 7, 32]
def k0_off409 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1834 : Index := Scalar.indexCast arg14
  let c7_i32_794 : BitVec 32 := 7#32
  let v1835 : Index := Scalar.indexCast c7_i32_794
  let c48_795 : Index := 48#32
  ![v1834.toNat, 7, 48]
def k0_off410 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1853 : Index := Scalar.indexCast arg14
  let c7_i32_802 : BitVec 32 := 7#32
  let v1854 : Index := Scalar.indexCast c7_i32_802
  let c64_803 : Index := 64#32
  ![v1853.toNat, 7, 64]
def k0_off411 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1872 : Index := Scalar.indexCast arg14
  let c7_i32_810 : BitVec 32 := 7#32
  let v1873 : Index := Scalar.indexCast c7_i32_810
  let c80_811 : Index := 80#32
  ![v1872.toNat, 7, 80]
def k0_off412 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1891 : Index := Scalar.indexCast arg14
  let c7_i32_818 : BitVec 32 := 7#32
  let v1892 : Index := Scalar.indexCast c7_i32_818
  let c96_819 : Index := 96#32
  ![v1891.toNat, 7, 96]
def k0_off413 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1910 : Index := Scalar.indexCast arg14
  let c7_i32_826 : BitVec 32 := 7#32
  let v1911 : Index := Scalar.indexCast c7_i32_826
  let c112_827 : Index := 112#32
  ![v1910.toNat, 7, 112]
def k0_off414 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1929 : Index := Scalar.indexCast arg14
  let c7_i32_834 : BitVec 32 := 7#32
  let v1930 : Index := Scalar.indexCast c7_i32_834
  let c128_835 : Index := 128#32
  ![v1929.toNat, 7, 128]
def k0_off415 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1948 : Index := Scalar.indexCast arg14
  let c7_i32_842 : BitVec 32 := 7#32
  let v1949 : Index := Scalar.indexCast c7_i32_842
  let c144_843 : Index := 144#32
  ![v1948.toNat, 7, 144]
def k0_off416 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1967 : Index := Scalar.indexCast arg14
  let c7_i32_850 : BitVec 32 := 7#32
  let v1968 : Index := Scalar.indexCast c7_i32_850
  let c160_851 : Index := 160#32
  ![v1967.toNat, 7, 160]
def k0_off417 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v1986 : Index := Scalar.indexCast arg14
  let c7_i32_858 : BitVec 32 := 7#32
  let v1987 : Index := Scalar.indexCast c7_i32_858
  let c176_859 : Index := 176#32
  ![v1986.toNat, 7, 176]
def k0_off418 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2005 : Index := Scalar.indexCast arg14
  let c7_i32_866 : BitVec 32 := 7#32
  let v2006 : Index := Scalar.indexCast c7_i32_866
  let c191_867 : Index := 191#32
  ![v2005.toNat, 7, 191]
def k0_off419 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2024 : Index := Scalar.indexCast arg14
  let c8_i32 : BitVec 32 := 8#32
  let v2025 : Index := Scalar.indexCast c8_i32
  let c0_874 : Index := 0#32
  ![v2024.toNat, 8, 0]
def k0_off420 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2043 : Index := Scalar.indexCast arg14
  let c8_i32_881 : BitVec 32 := 8#32
  let v2044 : Index := Scalar.indexCast c8_i32_881
  let c16_882 : Index := 16#32
  ![v2043.toNat, 8, 16]
def k0_off421 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2062 : Index := Scalar.indexCast arg14
  let c8_i32_889 : BitVec 32 := 8#32
  let v2063 : Index := Scalar.indexCast c8_i32_889
  let c32_890 : Index := 32#32
  ![v2062.toNat, 8, 32]
def k0_off422 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2081 : Index := Scalar.indexCast arg14
  let c8_i32_897 : BitVec 32 := 8#32
  let v2082 : Index := Scalar.indexCast c8_i32_897
  let c48_898 : Index := 48#32
  ![v2081.toNat, 8, 48]
def k0_off423 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2100 : Index := Scalar.indexCast arg14
  let c8_i32_905 : BitVec 32 := 8#32
  let v2101 : Index := Scalar.indexCast c8_i32_905
  let c64_906 : Index := 64#32
  ![v2100.toNat, 8, 64]
def k0_off424 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2119 : Index := Scalar.indexCast arg14
  let c8_i32_913 : BitVec 32 := 8#32
  let v2120 : Index := Scalar.indexCast c8_i32_913
  let c80_914 : Index := 80#32
  ![v2119.toNat, 8, 80]
def k0_off425 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2138 : Index := Scalar.indexCast arg14
  let c8_i32_921 : BitVec 32 := 8#32
  let v2139 : Index := Scalar.indexCast c8_i32_921
  let c96_922 : Index := 96#32
  ![v2138.toNat, 8, 96]
def k0_off426 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2157 : Index := Scalar.indexCast arg14
  let c8_i32_929 : BitVec 32 := 8#32
  let v2158 : Index := Scalar.indexCast c8_i32_929
  let c112_930 : Index := 112#32
  ![v2157.toNat, 8, 112]
def k0_off427 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2176 : Index := Scalar.indexCast arg14
  let c8_i32_937 : BitVec 32 := 8#32
  let v2177 : Index := Scalar.indexCast c8_i32_937
  let c128_938 : Index := 128#32
  ![v2176.toNat, 8, 128]
def k0_off428 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2195 : Index := Scalar.indexCast arg14
  let c8_i32_945 : BitVec 32 := 8#32
  let v2196 : Index := Scalar.indexCast c8_i32_945
  let c144_946 : Index := 144#32
  ![v2195.toNat, 8, 144]
def k0_off429 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2214 : Index := Scalar.indexCast arg14
  let c8_i32_953 : BitVec 32 := 8#32
  let v2215 : Index := Scalar.indexCast c8_i32_953
  let c160_954 : Index := 160#32
  ![v2214.toNat, 8, 160]
def k0_off430 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2233 : Index := Scalar.indexCast arg14
  let c8_i32_961 : BitVec 32 := 8#32
  let v2234 : Index := Scalar.indexCast c8_i32_961
  let c176_962 : Index := 176#32
  ![v2233.toNat, 8, 176]
def k0_off431 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2252 : Index := Scalar.indexCast arg14
  let c8_i32_969 : BitVec 32 := 8#32
  let v2253 : Index := Scalar.indexCast c8_i32_969
  let c191_970 : Index := 191#32
  ![v2252.toNat, 8, 191]
def k0_off432 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2271 : Index := Scalar.indexCast arg14
  let c9_i32 : BitVec 32 := 9#32
  let v2272 : Index := Scalar.indexCast c9_i32
  let c0_977 : Index := 0#32
  ![v2271.toNat, 9, 0]
def k0_off433 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2290 : Index := Scalar.indexCast arg14
  let c9_i32_984 : BitVec 32 := 9#32
  let v2291 : Index := Scalar.indexCast c9_i32_984
  let c16_985 : Index := 16#32
  ![v2290.toNat, 9, 16]
def k0_off434 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2309 : Index := Scalar.indexCast arg14
  let c9_i32_992 : BitVec 32 := 9#32
  let v2310 : Index := Scalar.indexCast c9_i32_992
  let c32_993 : Index := 32#32
  ![v2309.toNat, 9, 32]
def k0_off435 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2328 : Index := Scalar.indexCast arg14
  let c9_i32_1000 : BitVec 32 := 9#32
  let v2329 : Index := Scalar.indexCast c9_i32_1000
  let c48_1001 : Index := 48#32
  ![v2328.toNat, 9, 48]
def k0_off436 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2347 : Index := Scalar.indexCast arg14
  let c9_i32_1008 : BitVec 32 := 9#32
  let v2348 : Index := Scalar.indexCast c9_i32_1008
  let c64_1009 : Index := 64#32
  ![v2347.toNat, 9, 64]
def k0_off437 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2366 : Index := Scalar.indexCast arg14
  let c9_i32_1016 : BitVec 32 := 9#32
  let v2367 : Index := Scalar.indexCast c9_i32_1016
  let c80_1017 : Index := 80#32
  ![v2366.toNat, 9, 80]
def k0_off438 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2385 : Index := Scalar.indexCast arg14
  let c9_i32_1024 : BitVec 32 := 9#32
  let v2386 : Index := Scalar.indexCast c9_i32_1024
  let c96_1025 : Index := 96#32
  ![v2385.toNat, 9, 96]
def k0_off439 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2404 : Index := Scalar.indexCast arg14
  let c9_i32_1032 : BitVec 32 := 9#32
  let v2405 : Index := Scalar.indexCast c9_i32_1032
  let c112_1033 : Index := 112#32
  ![v2404.toNat, 9, 112]
def k0_off440 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2423 : Index := Scalar.indexCast arg14
  let c9_i32_1040 : BitVec 32 := 9#32
  let v2424 : Index := Scalar.indexCast c9_i32_1040
  let c128_1041 : Index := 128#32
  ![v2423.toNat, 9, 128]
def k0_off441 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2442 : Index := Scalar.indexCast arg14
  let c9_i32_1048 : BitVec 32 := 9#32
  let v2443 : Index := Scalar.indexCast c9_i32_1048
  let c144_1049 : Index := 144#32
  ![v2442.toNat, 9, 144]
def k0_off442 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2461 : Index := Scalar.indexCast arg14
  let c9_i32_1056 : BitVec 32 := 9#32
  let v2462 : Index := Scalar.indexCast c9_i32_1056
  let c160_1057 : Index := 160#32
  ![v2461.toNat, 9, 160]
def k0_off443 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2480 : Index := Scalar.indexCast arg14
  let c9_i32_1064 : BitVec 32 := 9#32
  let v2481 : Index := Scalar.indexCast c9_i32_1064
  let c176_1065 : Index := 176#32
  ![v2480.toNat, 9, 176]
def k0_off444 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2499 : Index := Scalar.indexCast arg14
  let c9_i32_1072 : BitVec 32 := 9#32
  let v2500 : Index := Scalar.indexCast c9_i32_1072
  let c191_1073 : Index := 191#32
  ![v2499.toNat, 9, 191]
def k0_off445 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2518 : Index := Scalar.indexCast arg14
  let c10_i32 : BitVec 32 := 10#32
  let v2519 : Index := Scalar.indexCast c10_i32
  let c0_1080 : Index := 0#32
  ![v2518.toNat, 10, 0]
def k0_off446 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2537 : Index := Scalar.indexCast arg14
  let c10_i32_1087 : BitVec 32 := 10#32
  let v2538 : Index := Scalar.indexCast c10_i32_1087
  let c16_1088 : Index := 16#32
  ![v2537.toNat, 10, 16]
def k0_off447 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2556 : Index := Scalar.indexCast arg14
  let c10_i32_1095 : BitVec 32 := 10#32
  let v2557 : Index := Scalar.indexCast c10_i32_1095
  let c32_1096 : Index := 32#32
  ![v2556.toNat, 10, 32]
def k0_off448 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2575 : Index := Scalar.indexCast arg14
  let c10_i32_1103 : BitVec 32 := 10#32
  let v2576 : Index := Scalar.indexCast c10_i32_1103
  let c48_1104 : Index := 48#32
  ![v2575.toNat, 10, 48]
def k0_off449 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2594 : Index := Scalar.indexCast arg14
  let c10_i32_1111 : BitVec 32 := 10#32
  let v2595 : Index := Scalar.indexCast c10_i32_1111
  let c64_1112 : Index := 64#32
  ![v2594.toNat, 10, 64]
def k0_off450 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2613 : Index := Scalar.indexCast arg14
  let c10_i32_1119 : BitVec 32 := 10#32
  let v2614 : Index := Scalar.indexCast c10_i32_1119
  let c80_1120 : Index := 80#32
  ![v2613.toNat, 10, 80]
def k0_off451 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2632 : Index := Scalar.indexCast arg14
  let c10_i32_1127 : BitVec 32 := 10#32
  let v2633 : Index := Scalar.indexCast c10_i32_1127
  let c96_1128 : Index := 96#32
  ![v2632.toNat, 10, 96]
def k0_off452 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2651 : Index := Scalar.indexCast arg14
  let c10_i32_1135 : BitVec 32 := 10#32
  let v2652 : Index := Scalar.indexCast c10_i32_1135
  let c112_1136 : Index := 112#32
  ![v2651.toNat, 10, 112]
def k0_off453 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2670 : Index := Scalar.indexCast arg14
  let c10_i32_1143 : BitVec 32 := 10#32
  let v2671 : Index := Scalar.indexCast c10_i32_1143
  let c128_1144 : Index := 128#32
  ![v2670.toNat, 10, 128]
def k0_off454 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2689 : Index := Scalar.indexCast arg14
  let c10_i32_1151 : BitVec 32 := 10#32
  let v2690 : Index := Scalar.indexCast c10_i32_1151
  let c144_1152 : Index := 144#32
  ![v2689.toNat, 10, 144]
def k0_off455 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2708 : Index := Scalar.indexCast arg14
  let c10_i32_1159 : BitVec 32 := 10#32
  let v2709 : Index := Scalar.indexCast c10_i32_1159
  let c160_1160 : Index := 160#32
  ![v2708.toNat, 10, 160]
def k0_off456 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2727 : Index := Scalar.indexCast arg14
  let c10_i32_1167 : BitVec 32 := 10#32
  let v2728 : Index := Scalar.indexCast c10_i32_1167
  let c176_1168 : Index := 176#32
  ![v2727.toNat, 10, 176]
def k0_off457 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2746 : Index := Scalar.indexCast arg14
  let c10_i32_1175 : BitVec 32 := 10#32
  let v2747 : Index := Scalar.indexCast c10_i32_1175
  let c191_1176 : Index := 191#32
  ![v2746.toNat, 10, 191]
def k0_off458 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2765 : Index := Scalar.indexCast arg14
  let c11_i32 : BitVec 32 := 11#32
  let v2766 : Index := Scalar.indexCast c11_i32
  let c0_1183 : Index := 0#32
  ![v2765.toNat, 11, 0]
def k0_off459 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2784 : Index := Scalar.indexCast arg14
  let c11_i32_1190 : BitVec 32 := 11#32
  let v2785 : Index := Scalar.indexCast c11_i32_1190
  let c16_1191 : Index := 16#32
  ![v2784.toNat, 11, 16]
def k0_off460 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2803 : Index := Scalar.indexCast arg14
  let c11_i32_1198 : BitVec 32 := 11#32
  let v2804 : Index := Scalar.indexCast c11_i32_1198
  let c32_1199 : Index := 32#32
  ![v2803.toNat, 11, 32]
def k0_off461 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2822 : Index := Scalar.indexCast arg14
  let c11_i32_1206 : BitVec 32 := 11#32
  let v2823 : Index := Scalar.indexCast c11_i32_1206
  let c48_1207 : Index := 48#32
  ![v2822.toNat, 11, 48]
def k0_off462 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2841 : Index := Scalar.indexCast arg14
  let c11_i32_1214 : BitVec 32 := 11#32
  let v2842 : Index := Scalar.indexCast c11_i32_1214
  let c64_1215 : Index := 64#32
  ![v2841.toNat, 11, 64]
def k0_off463 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2860 : Index := Scalar.indexCast arg14
  let c11_i32_1222 : BitVec 32 := 11#32
  let v2861 : Index := Scalar.indexCast c11_i32_1222
  let c80_1223 : Index := 80#32
  ![v2860.toNat, 11, 80]
def k0_off464 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2879 : Index := Scalar.indexCast arg14
  let c11_i32_1230 : BitVec 32 := 11#32
  let v2880 : Index := Scalar.indexCast c11_i32_1230
  let c96_1231 : Index := 96#32
  ![v2879.toNat, 11, 96]
def k0_off465 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2898 : Index := Scalar.indexCast arg14
  let c11_i32_1238 : BitVec 32 := 11#32
  let v2899 : Index := Scalar.indexCast c11_i32_1238
  let c112_1239 : Index := 112#32
  ![v2898.toNat, 11, 112]
def k0_off466 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2917 : Index := Scalar.indexCast arg14
  let c11_i32_1246 : BitVec 32 := 11#32
  let v2918 : Index := Scalar.indexCast c11_i32_1246
  let c128_1247 : Index := 128#32
  ![v2917.toNat, 11, 128]
def k0_off467 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2936 : Index := Scalar.indexCast arg14
  let c11_i32_1254 : BitVec 32 := 11#32
  let v2937 : Index := Scalar.indexCast c11_i32_1254
  let c144_1255 : Index := 144#32
  ![v2936.toNat, 11, 144]
def k0_off468 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2955 : Index := Scalar.indexCast arg14
  let c11_i32_1262 : BitVec 32 := 11#32
  let v2956 : Index := Scalar.indexCast c11_i32_1262
  let c160_1263 : Index := 160#32
  ![v2955.toNat, 11, 160]
def k0_off469 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2974 : Index := Scalar.indexCast arg14
  let c11_i32_1270 : BitVec 32 := 11#32
  let v2975 : Index := Scalar.indexCast c11_i32_1270
  let c176_1271 : Index := 176#32
  ![v2974.toNat, 11, 176]
def k0_off470 (k0_t4 : Fin k0_t4_loop.trips) : Fin 3 → Nat :=
  let c0_i32_30 : BitVec 32 := 0#32
  let c1_i32_32 : BitVec 32 := 1#32
  let arg14 : BitVec 32 := Scf.iv c0_i32_30 c1_i32_32 k0_t4
  let v2993 : Index := Scalar.indexCast arg14
  let c11_i32_1278 : BitVec 32 := 11#32
  let v2994 : Index := Scalar.indexCast c11_i32_1278
  let c191_1279 : Index := 191#32
  ![v2993.toNat, 11, 191]
@[reducible] def k0_t5_loop : Scf.Loop 32 :=
  let c0_i32_46 : BitVec 32 := 0#32
  let c4_i32_47 : BitVec 32 := 4#32
  let v26 : BitVec 32 := Scalar.addi c0_i32_46 c4_i32_47
  let c1_i32_48 : BitVec 32 := 1#32
  ⟨c0_i32_46, v26, c1_i32_48⟩
def k0_off471 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v48 : Index := Scalar.indexCast arg14
  let c0_i32_57 : BitVec 32 := 0#32
  let v49 : Index := Scalar.indexCast c0_i32_57
  let c0_58 : Index := 0#32
  ![v48.toNat, 0, 0]
def k0_off472 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v67 : Index := Scalar.indexCast arg14
  let c0_i32_65 : BitVec 32 := 0#32
  let v68 : Index := Scalar.indexCast c0_i32_65
  let c16 : Index := 16#32
  ![v67.toNat, 0, 16]
def k0_off473 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v86 : Index := Scalar.indexCast arg14
  let c0_i32_72 : BitVec 32 := 0#32
  let v87 : Index := Scalar.indexCast c0_i32_72
  let c32 : Index := 32#32
  ![v86.toNat, 0, 32]
def k0_off474 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v105 : Index := Scalar.indexCast arg14
  let c0_i32_79 : BitVec 32 := 0#32
  let v106 : Index := Scalar.indexCast c0_i32_79
  let c48 : Index := 48#32
  ![v105.toNat, 0, 48]
def k0_off475 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v124 : Index := Scalar.indexCast arg14
  let c0_i32_86 : BitVec 32 := 0#32
  let v125 : Index := Scalar.indexCast c0_i32_86
  let c64 : Index := 64#32
  ![v124.toNat, 0, 64]
def k0_off476 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v143 : Index := Scalar.indexCast arg14
  let c0_i32_93 : BitVec 32 := 0#32
  let v144 : Index := Scalar.indexCast c0_i32_93
  let c80 : Index := 80#32
  ![v143.toNat, 0, 80]
def k0_off477 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v162 : Index := Scalar.indexCast arg14
  let c0_i32_100 : BitVec 32 := 0#32
  let v163 : Index := Scalar.indexCast c0_i32_100
  let c96 : Index := 96#32
  ![v162.toNat, 0, 96]
def k0_off478 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v181 : Index := Scalar.indexCast arg14
  let c0_i32_107 : BitVec 32 := 0#32
  let v182 : Index := Scalar.indexCast c0_i32_107
  let c112 : Index := 112#32
  ![v181.toNat, 0, 112]
def k0_off479 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v200 : Index := Scalar.indexCast arg14
  let c0_i32_114 : BitVec 32 := 0#32
  let v201 : Index := Scalar.indexCast c0_i32_114
  let c128 : Index := 128#32
  ![v200.toNat, 0, 128]
def k0_off480 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v219 : Index := Scalar.indexCast arg14
  let c0_i32_121 : BitVec 32 := 0#32
  let v220 : Index := Scalar.indexCast c0_i32_121
  let c144 : Index := 144#32
  ![v219.toNat, 0, 144]
def k0_off481 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v238 : Index := Scalar.indexCast arg14
  let c0_i32_128 : BitVec 32 := 0#32
  let v239 : Index := Scalar.indexCast c0_i32_128
  let c160 : Index := 160#32
  ![v238.toNat, 0, 160]
def k0_off482 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v257 : Index := Scalar.indexCast arg14
  let c0_i32_135 : BitVec 32 := 0#32
  let v258 : Index := Scalar.indexCast c0_i32_135
  let c176 : Index := 176#32
  ![v257.toNat, 0, 176]
def k0_off483 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v276 : Index := Scalar.indexCast arg14
  let c0_i32_142 : BitVec 32 := 0#32
  let v277 : Index := Scalar.indexCast c0_i32_142
  let c191 : Index := 191#32
  ![v276.toNat, 0, 191]
def k0_off484 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v295 : Index := Scalar.indexCast arg14
  let c1_i32_149 : BitVec 32 := 1#32
  let v296 : Index := Scalar.indexCast c1_i32_149
  let c0_150 : Index := 0#32
  ![v295.toNat, 1, 0]
def k0_off485 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v314 : Index := Scalar.indexCast arg14
  let c1_i32_157 : BitVec 32 := 1#32
  let v315 : Index := Scalar.indexCast c1_i32_157
  let c16_158 : Index := 16#32
  ![v314.toNat, 1, 16]
def k0_off486 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v333 : Index := Scalar.indexCast arg14
  let c1_i32_165 : BitVec 32 := 1#32
  let v334 : Index := Scalar.indexCast c1_i32_165
  let c32_166 : Index := 32#32
  ![v333.toNat, 1, 32]
def k0_off487 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v352 : Index := Scalar.indexCast arg14
  let c1_i32_173 : BitVec 32 := 1#32
  let v353 : Index := Scalar.indexCast c1_i32_173
  let c48_174 : Index := 48#32
  ![v352.toNat, 1, 48]
def k0_off488 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v371 : Index := Scalar.indexCast arg14
  let c1_i32_181 : BitVec 32 := 1#32
  let v372 : Index := Scalar.indexCast c1_i32_181
  let c64_182 : Index := 64#32
  ![v371.toNat, 1, 64]
def k0_off489 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v390 : Index := Scalar.indexCast arg14
  let c1_i32_189 : BitVec 32 := 1#32
  let v391 : Index := Scalar.indexCast c1_i32_189
  let c80_190 : Index := 80#32
  ![v390.toNat, 1, 80]
def k0_off490 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v409 : Index := Scalar.indexCast arg14
  let c1_i32_197 : BitVec 32 := 1#32
  let v410 : Index := Scalar.indexCast c1_i32_197
  let c96_198 : Index := 96#32
  ![v409.toNat, 1, 96]
def k0_off491 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v428 : Index := Scalar.indexCast arg14
  let c1_i32_205 : BitVec 32 := 1#32
  let v429 : Index := Scalar.indexCast c1_i32_205
  let c112_206 : Index := 112#32
  ![v428.toNat, 1, 112]
def k0_off492 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v447 : Index := Scalar.indexCast arg14
  let c1_i32_213 : BitVec 32 := 1#32
  let v448 : Index := Scalar.indexCast c1_i32_213
  let c128_214 : Index := 128#32
  ![v447.toNat, 1, 128]
def k0_off493 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v466 : Index := Scalar.indexCast arg14
  let c1_i32_221 : BitVec 32 := 1#32
  let v467 : Index := Scalar.indexCast c1_i32_221
  let c144_222 : Index := 144#32
  ![v466.toNat, 1, 144]
def k0_off494 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v485 : Index := Scalar.indexCast arg14
  let c1_i32_229 : BitVec 32 := 1#32
  let v486 : Index := Scalar.indexCast c1_i32_229
  let c160_230 : Index := 160#32
  ![v485.toNat, 1, 160]
def k0_off495 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v504 : Index := Scalar.indexCast arg14
  let c1_i32_237 : BitVec 32 := 1#32
  let v505 : Index := Scalar.indexCast c1_i32_237
  let c176_238 : Index := 176#32
  ![v504.toNat, 1, 176]
def k0_off496 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v523 : Index := Scalar.indexCast arg14
  let c1_i32_245 : BitVec 32 := 1#32
  let v524 : Index := Scalar.indexCast c1_i32_245
  let c191_246 : Index := 191#32
  ![v523.toNat, 1, 191]
def k0_off497 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v542 : Index := Scalar.indexCast arg14
  let c2_i32_253 : BitVec 32 := 2#32
  let v543 : Index := Scalar.indexCast c2_i32_253
  let c0_254 : Index := 0#32
  ![v542.toNat, 2, 0]
def k0_off498 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v561 : Index := Scalar.indexCast arg14
  let c2_i32_261 : BitVec 32 := 2#32
  let v562 : Index := Scalar.indexCast c2_i32_261
  let c16_262 : Index := 16#32
  ![v561.toNat, 2, 16]
def k0_off499 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v580 : Index := Scalar.indexCast arg14
  let c2_i32_269 : BitVec 32 := 2#32
  let v581 : Index := Scalar.indexCast c2_i32_269
  let c32_270 : Index := 32#32
  ![v580.toNat, 2, 32]
def k0_off500 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v599 : Index := Scalar.indexCast arg14
  let c2_i32_277 : BitVec 32 := 2#32
  let v600 : Index := Scalar.indexCast c2_i32_277
  let c48_278 : Index := 48#32
  ![v599.toNat, 2, 48]
def k0_off501 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v618 : Index := Scalar.indexCast arg14
  let c2_i32_285 : BitVec 32 := 2#32
  let v619 : Index := Scalar.indexCast c2_i32_285
  let c64_286 : Index := 64#32
  ![v618.toNat, 2, 64]
def k0_off502 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v637 : Index := Scalar.indexCast arg14
  let c2_i32_293 : BitVec 32 := 2#32
  let v638 : Index := Scalar.indexCast c2_i32_293
  let c80_294 : Index := 80#32
  ![v637.toNat, 2, 80]
def k0_off503 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v656 : Index := Scalar.indexCast arg14
  let c2_i32_301 : BitVec 32 := 2#32
  let v657 : Index := Scalar.indexCast c2_i32_301
  let c96_302 : Index := 96#32
  ![v656.toNat, 2, 96]
def k0_off504 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v675 : Index := Scalar.indexCast arg14
  let c2_i32_309 : BitVec 32 := 2#32
  let v676 : Index := Scalar.indexCast c2_i32_309
  let c112_310 : Index := 112#32
  ![v675.toNat, 2, 112]
def k0_off505 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v694 : Index := Scalar.indexCast arg14
  let c2_i32_317 : BitVec 32 := 2#32
  let v695 : Index := Scalar.indexCast c2_i32_317
  let c128_318 : Index := 128#32
  ![v694.toNat, 2, 128]
def k0_off506 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v713 : Index := Scalar.indexCast arg14
  let c2_i32_325 : BitVec 32 := 2#32
  let v714 : Index := Scalar.indexCast c2_i32_325
  let c144_326 : Index := 144#32
  ![v713.toNat, 2, 144]
def k0_off507 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v732 : Index := Scalar.indexCast arg14
  let c2_i32_333 : BitVec 32 := 2#32
  let v733 : Index := Scalar.indexCast c2_i32_333
  let c160_334 : Index := 160#32
  ![v732.toNat, 2, 160]
def k0_off508 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v751 : Index := Scalar.indexCast arg14
  let c2_i32_341 : BitVec 32 := 2#32
  let v752 : Index := Scalar.indexCast c2_i32_341
  let c176_342 : Index := 176#32
  ![v751.toNat, 2, 176]
def k0_off509 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v770 : Index := Scalar.indexCast arg14
  let c2_i32_349 : BitVec 32 := 2#32
  let v771 : Index := Scalar.indexCast c2_i32_349
  let c191_350 : Index := 191#32
  ![v770.toNat, 2, 191]
def k0_off510 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v789 : Index := Scalar.indexCast arg14
  let c3_i32_357 : BitVec 32 := 3#32
  let v790 : Index := Scalar.indexCast c3_i32_357
  let c0_358 : Index := 0#32
  ![v789.toNat, 3, 0]
def k0_off511 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v808 : Index := Scalar.indexCast arg14
  let c3_i32_365 : BitVec 32 := 3#32
  let v809 : Index := Scalar.indexCast c3_i32_365
  let c16_366 : Index := 16#32
  ![v808.toNat, 3, 16]
def k0_off512 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v827 : Index := Scalar.indexCast arg14
  let c3_i32_373 : BitVec 32 := 3#32
  let v828 : Index := Scalar.indexCast c3_i32_373
  let c32_374 : Index := 32#32
  ![v827.toNat, 3, 32]
def k0_off513 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v846 : Index := Scalar.indexCast arg14
  let c3_i32_381 : BitVec 32 := 3#32
  let v847 : Index := Scalar.indexCast c3_i32_381
  let c48_382 : Index := 48#32
  ![v846.toNat, 3, 48]
def k0_off514 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v865 : Index := Scalar.indexCast arg14
  let c3_i32_389 : BitVec 32 := 3#32
  let v866 : Index := Scalar.indexCast c3_i32_389
  let c64_390 : Index := 64#32
  ![v865.toNat, 3, 64]
def k0_off515 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v884 : Index := Scalar.indexCast arg14
  let c3_i32_397 : BitVec 32 := 3#32
  let v885 : Index := Scalar.indexCast c3_i32_397
  let c80_398 : Index := 80#32
  ![v884.toNat, 3, 80]
def k0_off516 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v903 : Index := Scalar.indexCast arg14
  let c3_i32_405 : BitVec 32 := 3#32
  let v904 : Index := Scalar.indexCast c3_i32_405
  let c96_406 : Index := 96#32
  ![v903.toNat, 3, 96]
def k0_off517 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v922 : Index := Scalar.indexCast arg14
  let c3_i32_413 : BitVec 32 := 3#32
  let v923 : Index := Scalar.indexCast c3_i32_413
  let c112_414 : Index := 112#32
  ![v922.toNat, 3, 112]
def k0_off518 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v941 : Index := Scalar.indexCast arg14
  let c3_i32_421 : BitVec 32 := 3#32
  let v942 : Index := Scalar.indexCast c3_i32_421
  let c128_422 : Index := 128#32
  ![v941.toNat, 3, 128]
def k0_off519 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v960 : Index := Scalar.indexCast arg14
  let c3_i32_429 : BitVec 32 := 3#32
  let v961 : Index := Scalar.indexCast c3_i32_429
  let c144_430 : Index := 144#32
  ![v960.toNat, 3, 144]
def k0_off520 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v979 : Index := Scalar.indexCast arg14
  let c3_i32_437 : BitVec 32 := 3#32
  let v980 : Index := Scalar.indexCast c3_i32_437
  let c160_438 : Index := 160#32
  ![v979.toNat, 3, 160]
def k0_off521 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v998 : Index := Scalar.indexCast arg14
  let c3_i32_445 : BitVec 32 := 3#32
  let v999 : Index := Scalar.indexCast c3_i32_445
  let c176_446 : Index := 176#32
  ![v998.toNat, 3, 176]
def k0_off522 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1017 : Index := Scalar.indexCast arg14
  let c3_i32_453 : BitVec 32 := 3#32
  let v1018 : Index := Scalar.indexCast c3_i32_453
  let c191_454 : Index := 191#32
  ![v1017.toNat, 3, 191]
def k0_off523 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1036 : Index := Scalar.indexCast arg14
  let c4_i32_461 : BitVec 32 := 4#32
  let v1037 : Index := Scalar.indexCast c4_i32_461
  let c0_462 : Index := 0#32
  ![v1036.toNat, 4, 0]
def k0_off524 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1055 : Index := Scalar.indexCast arg14
  let c4_i32_469 : BitVec 32 := 4#32
  let v1056 : Index := Scalar.indexCast c4_i32_469
  let c16_470 : Index := 16#32
  ![v1055.toNat, 4, 16]
def k0_off525 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1074 : Index := Scalar.indexCast arg14
  let c4_i32_477 : BitVec 32 := 4#32
  let v1075 : Index := Scalar.indexCast c4_i32_477
  let c32_478 : Index := 32#32
  ![v1074.toNat, 4, 32]
def k0_off526 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1093 : Index := Scalar.indexCast arg14
  let c4_i32_485 : BitVec 32 := 4#32
  let v1094 : Index := Scalar.indexCast c4_i32_485
  let c48_486 : Index := 48#32
  ![v1093.toNat, 4, 48]
def k0_off527 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1112 : Index := Scalar.indexCast arg14
  let c4_i32_493 : BitVec 32 := 4#32
  let v1113 : Index := Scalar.indexCast c4_i32_493
  let c64_494 : Index := 64#32
  ![v1112.toNat, 4, 64]
def k0_off528 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1131 : Index := Scalar.indexCast arg14
  let c4_i32_501 : BitVec 32 := 4#32
  let v1132 : Index := Scalar.indexCast c4_i32_501
  let c80_502 : Index := 80#32
  ![v1131.toNat, 4, 80]
def k0_off529 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1150 : Index := Scalar.indexCast arg14
  let c4_i32_509 : BitVec 32 := 4#32
  let v1151 : Index := Scalar.indexCast c4_i32_509
  let c96_510 : Index := 96#32
  ![v1150.toNat, 4, 96]
def k0_off530 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1169 : Index := Scalar.indexCast arg14
  let c4_i32_517 : BitVec 32 := 4#32
  let v1170 : Index := Scalar.indexCast c4_i32_517
  let c112_518 : Index := 112#32
  ![v1169.toNat, 4, 112]
def k0_off531 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1188 : Index := Scalar.indexCast arg14
  let c4_i32_525 : BitVec 32 := 4#32
  let v1189 : Index := Scalar.indexCast c4_i32_525
  let c128_526 : Index := 128#32
  ![v1188.toNat, 4, 128]
def k0_off532 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1207 : Index := Scalar.indexCast arg14
  let c4_i32_533 : BitVec 32 := 4#32
  let v1208 : Index := Scalar.indexCast c4_i32_533
  let c144_534 : Index := 144#32
  ![v1207.toNat, 4, 144]
def k0_off533 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1226 : Index := Scalar.indexCast arg14
  let c4_i32_541 : BitVec 32 := 4#32
  let v1227 : Index := Scalar.indexCast c4_i32_541
  let c160_542 : Index := 160#32
  ![v1226.toNat, 4, 160]
def k0_off534 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1245 : Index := Scalar.indexCast arg14
  let c4_i32_549 : BitVec 32 := 4#32
  let v1246 : Index := Scalar.indexCast c4_i32_549
  let c176_550 : Index := 176#32
  ![v1245.toNat, 4, 176]
def k0_off535 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1264 : Index := Scalar.indexCast arg14
  let c4_i32_557 : BitVec 32 := 4#32
  let v1265 : Index := Scalar.indexCast c4_i32_557
  let c191_558 : Index := 191#32
  ![v1264.toNat, 4, 191]
def k0_off536 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1283 : Index := Scalar.indexCast arg14
  let c5_i32 : BitVec 32 := 5#32
  let v1284 : Index := Scalar.indexCast c5_i32
  let c0_565 : Index := 0#32
  ![v1283.toNat, 5, 0]
def k0_off537 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1302 : Index := Scalar.indexCast arg14
  let c5_i32_572 : BitVec 32 := 5#32
  let v1303 : Index := Scalar.indexCast c5_i32_572
  let c16_573 : Index := 16#32
  ![v1302.toNat, 5, 16]
def k0_off538 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1321 : Index := Scalar.indexCast arg14
  let c5_i32_580 : BitVec 32 := 5#32
  let v1322 : Index := Scalar.indexCast c5_i32_580
  let c32_581 : Index := 32#32
  ![v1321.toNat, 5, 32]
def k0_off539 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1340 : Index := Scalar.indexCast arg14
  let c5_i32_588 : BitVec 32 := 5#32
  let v1341 : Index := Scalar.indexCast c5_i32_588
  let c48_589 : Index := 48#32
  ![v1340.toNat, 5, 48]
def k0_off540 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1359 : Index := Scalar.indexCast arg14
  let c5_i32_596 : BitVec 32 := 5#32
  let v1360 : Index := Scalar.indexCast c5_i32_596
  let c64_597 : Index := 64#32
  ![v1359.toNat, 5, 64]
def k0_off541 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1378 : Index := Scalar.indexCast arg14
  let c5_i32_604 : BitVec 32 := 5#32
  let v1379 : Index := Scalar.indexCast c5_i32_604
  let c80_605 : Index := 80#32
  ![v1378.toNat, 5, 80]
def k0_off542 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1397 : Index := Scalar.indexCast arg14
  let c5_i32_612 : BitVec 32 := 5#32
  let v1398 : Index := Scalar.indexCast c5_i32_612
  let c96_613 : Index := 96#32
  ![v1397.toNat, 5, 96]
def k0_off543 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1416 : Index := Scalar.indexCast arg14
  let c5_i32_620 : BitVec 32 := 5#32
  let v1417 : Index := Scalar.indexCast c5_i32_620
  let c112_621 : Index := 112#32
  ![v1416.toNat, 5, 112]
def k0_off544 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1435 : Index := Scalar.indexCast arg14
  let c5_i32_628 : BitVec 32 := 5#32
  let v1436 : Index := Scalar.indexCast c5_i32_628
  let c128_629 : Index := 128#32
  ![v1435.toNat, 5, 128]
def k0_off545 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1454 : Index := Scalar.indexCast arg14
  let c5_i32_636 : BitVec 32 := 5#32
  let v1455 : Index := Scalar.indexCast c5_i32_636
  let c144_637 : Index := 144#32
  ![v1454.toNat, 5, 144]
def k0_off546 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1473 : Index := Scalar.indexCast arg14
  let c5_i32_644 : BitVec 32 := 5#32
  let v1474 : Index := Scalar.indexCast c5_i32_644
  let c160_645 : Index := 160#32
  ![v1473.toNat, 5, 160]
def k0_off547 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1492 : Index := Scalar.indexCast arg14
  let c5_i32_652 : BitVec 32 := 5#32
  let v1493 : Index := Scalar.indexCast c5_i32_652
  let c176_653 : Index := 176#32
  ![v1492.toNat, 5, 176]
def k0_off548 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1511 : Index := Scalar.indexCast arg14
  let c5_i32_660 : BitVec 32 := 5#32
  let v1512 : Index := Scalar.indexCast c5_i32_660
  let c191_661 : Index := 191#32
  ![v1511.toNat, 5, 191]
def k0_off549 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1530 : Index := Scalar.indexCast arg14
  let c6_i32 : BitVec 32 := 6#32
  let v1531 : Index := Scalar.indexCast c6_i32
  let c0_668 : Index := 0#32
  ![v1530.toNat, 6, 0]
def k0_off550 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1549 : Index := Scalar.indexCast arg14
  let c6_i32_675 : BitVec 32 := 6#32
  let v1550 : Index := Scalar.indexCast c6_i32_675
  let c16_676 : Index := 16#32
  ![v1549.toNat, 6, 16]
def k0_off551 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1568 : Index := Scalar.indexCast arg14
  let c6_i32_683 : BitVec 32 := 6#32
  let v1569 : Index := Scalar.indexCast c6_i32_683
  let c32_684 : Index := 32#32
  ![v1568.toNat, 6, 32]
def k0_off552 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1587 : Index := Scalar.indexCast arg14
  let c6_i32_691 : BitVec 32 := 6#32
  let v1588 : Index := Scalar.indexCast c6_i32_691
  let c48_692 : Index := 48#32
  ![v1587.toNat, 6, 48]
def k0_off553 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1606 : Index := Scalar.indexCast arg14
  let c6_i32_699 : BitVec 32 := 6#32
  let v1607 : Index := Scalar.indexCast c6_i32_699
  let c64_700 : Index := 64#32
  ![v1606.toNat, 6, 64]
def k0_off554 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1625 : Index := Scalar.indexCast arg14
  let c6_i32_707 : BitVec 32 := 6#32
  let v1626 : Index := Scalar.indexCast c6_i32_707
  let c80_708 : Index := 80#32
  ![v1625.toNat, 6, 80]
def k0_off555 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1644 : Index := Scalar.indexCast arg14
  let c6_i32_715 : BitVec 32 := 6#32
  let v1645 : Index := Scalar.indexCast c6_i32_715
  let c96_716 : Index := 96#32
  ![v1644.toNat, 6, 96]
def k0_off556 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1663 : Index := Scalar.indexCast arg14
  let c6_i32_723 : BitVec 32 := 6#32
  let v1664 : Index := Scalar.indexCast c6_i32_723
  let c112_724 : Index := 112#32
  ![v1663.toNat, 6, 112]
def k0_off557 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1682 : Index := Scalar.indexCast arg14
  let c6_i32_731 : BitVec 32 := 6#32
  let v1683 : Index := Scalar.indexCast c6_i32_731
  let c128_732 : Index := 128#32
  ![v1682.toNat, 6, 128]
def k0_off558 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1701 : Index := Scalar.indexCast arg14
  let c6_i32_739 : BitVec 32 := 6#32
  let v1702 : Index := Scalar.indexCast c6_i32_739
  let c144_740 : Index := 144#32
  ![v1701.toNat, 6, 144]
def k0_off559 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1720 : Index := Scalar.indexCast arg14
  let c6_i32_747 : BitVec 32 := 6#32
  let v1721 : Index := Scalar.indexCast c6_i32_747
  let c160_748 : Index := 160#32
  ![v1720.toNat, 6, 160]
def k0_off560 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1739 : Index := Scalar.indexCast arg14
  let c6_i32_755 : BitVec 32 := 6#32
  let v1740 : Index := Scalar.indexCast c6_i32_755
  let c176_756 : Index := 176#32
  ![v1739.toNat, 6, 176]
def k0_off561 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1758 : Index := Scalar.indexCast arg14
  let c6_i32_763 : BitVec 32 := 6#32
  let v1759 : Index := Scalar.indexCast c6_i32_763
  let c191_764 : Index := 191#32
  ![v1758.toNat, 6, 191]
def k0_off562 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1777 : Index := Scalar.indexCast arg14
  let c7_i32 : BitVec 32 := 7#32
  let v1778 : Index := Scalar.indexCast c7_i32
  let c0_771 : Index := 0#32
  ![v1777.toNat, 7, 0]
def k0_off563 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1796 : Index := Scalar.indexCast arg14
  let c7_i32_778 : BitVec 32 := 7#32
  let v1797 : Index := Scalar.indexCast c7_i32_778
  let c16_779 : Index := 16#32
  ![v1796.toNat, 7, 16]
def k0_off564 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1815 : Index := Scalar.indexCast arg14
  let c7_i32_786 : BitVec 32 := 7#32
  let v1816 : Index := Scalar.indexCast c7_i32_786
  let c32_787 : Index := 32#32
  ![v1815.toNat, 7, 32]
def k0_off565 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1834 : Index := Scalar.indexCast arg14
  let c7_i32_794 : BitVec 32 := 7#32
  let v1835 : Index := Scalar.indexCast c7_i32_794
  let c48_795 : Index := 48#32
  ![v1834.toNat, 7, 48]
def k0_off566 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1853 : Index := Scalar.indexCast arg14
  let c7_i32_802 : BitVec 32 := 7#32
  let v1854 : Index := Scalar.indexCast c7_i32_802
  let c64_803 : Index := 64#32
  ![v1853.toNat, 7, 64]
def k0_off567 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1872 : Index := Scalar.indexCast arg14
  let c7_i32_810 : BitVec 32 := 7#32
  let v1873 : Index := Scalar.indexCast c7_i32_810
  let c80_811 : Index := 80#32
  ![v1872.toNat, 7, 80]
def k0_off568 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1891 : Index := Scalar.indexCast arg14
  let c7_i32_818 : BitVec 32 := 7#32
  let v1892 : Index := Scalar.indexCast c7_i32_818
  let c96_819 : Index := 96#32
  ![v1891.toNat, 7, 96]
def k0_off569 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1910 : Index := Scalar.indexCast arg14
  let c7_i32_826 : BitVec 32 := 7#32
  let v1911 : Index := Scalar.indexCast c7_i32_826
  let c112_827 : Index := 112#32
  ![v1910.toNat, 7, 112]
def k0_off570 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1929 : Index := Scalar.indexCast arg14
  let c7_i32_834 : BitVec 32 := 7#32
  let v1930 : Index := Scalar.indexCast c7_i32_834
  let c128_835 : Index := 128#32
  ![v1929.toNat, 7, 128]
def k0_off571 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1948 : Index := Scalar.indexCast arg14
  let c7_i32_842 : BitVec 32 := 7#32
  let v1949 : Index := Scalar.indexCast c7_i32_842
  let c144_843 : Index := 144#32
  ![v1948.toNat, 7, 144]
def k0_off572 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1967 : Index := Scalar.indexCast arg14
  let c7_i32_850 : BitVec 32 := 7#32
  let v1968 : Index := Scalar.indexCast c7_i32_850
  let c160_851 : Index := 160#32
  ![v1967.toNat, 7, 160]
def k0_off573 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v1986 : Index := Scalar.indexCast arg14
  let c7_i32_858 : BitVec 32 := 7#32
  let v1987 : Index := Scalar.indexCast c7_i32_858
  let c176_859 : Index := 176#32
  ![v1986.toNat, 7, 176]
def k0_off574 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2005 : Index := Scalar.indexCast arg14
  let c7_i32_866 : BitVec 32 := 7#32
  let v2006 : Index := Scalar.indexCast c7_i32_866
  let c191_867 : Index := 191#32
  ![v2005.toNat, 7, 191]
def k0_off575 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2024 : Index := Scalar.indexCast arg14
  let c8_i32 : BitVec 32 := 8#32
  let v2025 : Index := Scalar.indexCast c8_i32
  let c0_874 : Index := 0#32
  ![v2024.toNat, 8, 0]
def k0_off576 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2043 : Index := Scalar.indexCast arg14
  let c8_i32_881 : BitVec 32 := 8#32
  let v2044 : Index := Scalar.indexCast c8_i32_881
  let c16_882 : Index := 16#32
  ![v2043.toNat, 8, 16]
def k0_off577 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2062 : Index := Scalar.indexCast arg14
  let c8_i32_889 : BitVec 32 := 8#32
  let v2063 : Index := Scalar.indexCast c8_i32_889
  let c32_890 : Index := 32#32
  ![v2062.toNat, 8, 32]
def k0_off578 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2081 : Index := Scalar.indexCast arg14
  let c8_i32_897 : BitVec 32 := 8#32
  let v2082 : Index := Scalar.indexCast c8_i32_897
  let c48_898 : Index := 48#32
  ![v2081.toNat, 8, 48]
def k0_off579 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2100 : Index := Scalar.indexCast arg14
  let c8_i32_905 : BitVec 32 := 8#32
  let v2101 : Index := Scalar.indexCast c8_i32_905
  let c64_906 : Index := 64#32
  ![v2100.toNat, 8, 64]
def k0_off580 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2119 : Index := Scalar.indexCast arg14
  let c8_i32_913 : BitVec 32 := 8#32
  let v2120 : Index := Scalar.indexCast c8_i32_913
  let c80_914 : Index := 80#32
  ![v2119.toNat, 8, 80]
def k0_off581 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2138 : Index := Scalar.indexCast arg14
  let c8_i32_921 : BitVec 32 := 8#32
  let v2139 : Index := Scalar.indexCast c8_i32_921
  let c96_922 : Index := 96#32
  ![v2138.toNat, 8, 96]
def k0_off582 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2157 : Index := Scalar.indexCast arg14
  let c8_i32_929 : BitVec 32 := 8#32
  let v2158 : Index := Scalar.indexCast c8_i32_929
  let c112_930 : Index := 112#32
  ![v2157.toNat, 8, 112]
def k0_off583 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2176 : Index := Scalar.indexCast arg14
  let c8_i32_937 : BitVec 32 := 8#32
  let v2177 : Index := Scalar.indexCast c8_i32_937
  let c128_938 : Index := 128#32
  ![v2176.toNat, 8, 128]
def k0_off584 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2195 : Index := Scalar.indexCast arg14
  let c8_i32_945 : BitVec 32 := 8#32
  let v2196 : Index := Scalar.indexCast c8_i32_945
  let c144_946 : Index := 144#32
  ![v2195.toNat, 8, 144]
def k0_off585 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2214 : Index := Scalar.indexCast arg14
  let c8_i32_953 : BitVec 32 := 8#32
  let v2215 : Index := Scalar.indexCast c8_i32_953
  let c160_954 : Index := 160#32
  ![v2214.toNat, 8, 160]
def k0_off586 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2233 : Index := Scalar.indexCast arg14
  let c8_i32_961 : BitVec 32 := 8#32
  let v2234 : Index := Scalar.indexCast c8_i32_961
  let c176_962 : Index := 176#32
  ![v2233.toNat, 8, 176]
def k0_off587 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2252 : Index := Scalar.indexCast arg14
  let c8_i32_969 : BitVec 32 := 8#32
  let v2253 : Index := Scalar.indexCast c8_i32_969
  let c191_970 : Index := 191#32
  ![v2252.toNat, 8, 191]
def k0_off588 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2271 : Index := Scalar.indexCast arg14
  let c9_i32 : BitVec 32 := 9#32
  let v2272 : Index := Scalar.indexCast c9_i32
  let c0_977 : Index := 0#32
  ![v2271.toNat, 9, 0]
def k0_off589 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2290 : Index := Scalar.indexCast arg14
  let c9_i32_984 : BitVec 32 := 9#32
  let v2291 : Index := Scalar.indexCast c9_i32_984
  let c16_985 : Index := 16#32
  ![v2290.toNat, 9, 16]
def k0_off590 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2309 : Index := Scalar.indexCast arg14
  let c9_i32_992 : BitVec 32 := 9#32
  let v2310 : Index := Scalar.indexCast c9_i32_992
  let c32_993 : Index := 32#32
  ![v2309.toNat, 9, 32]
def k0_off591 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2328 : Index := Scalar.indexCast arg14
  let c9_i32_1000 : BitVec 32 := 9#32
  let v2329 : Index := Scalar.indexCast c9_i32_1000
  let c48_1001 : Index := 48#32
  ![v2328.toNat, 9, 48]
def k0_off592 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2347 : Index := Scalar.indexCast arg14
  let c9_i32_1008 : BitVec 32 := 9#32
  let v2348 : Index := Scalar.indexCast c9_i32_1008
  let c64_1009 : Index := 64#32
  ![v2347.toNat, 9, 64]
def k0_off593 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2366 : Index := Scalar.indexCast arg14
  let c9_i32_1016 : BitVec 32 := 9#32
  let v2367 : Index := Scalar.indexCast c9_i32_1016
  let c80_1017 : Index := 80#32
  ![v2366.toNat, 9, 80]
def k0_off594 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2385 : Index := Scalar.indexCast arg14
  let c9_i32_1024 : BitVec 32 := 9#32
  let v2386 : Index := Scalar.indexCast c9_i32_1024
  let c96_1025 : Index := 96#32
  ![v2385.toNat, 9, 96]
def k0_off595 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2404 : Index := Scalar.indexCast arg14
  let c9_i32_1032 : BitVec 32 := 9#32
  let v2405 : Index := Scalar.indexCast c9_i32_1032
  let c112_1033 : Index := 112#32
  ![v2404.toNat, 9, 112]
def k0_off596 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2423 : Index := Scalar.indexCast arg14
  let c9_i32_1040 : BitVec 32 := 9#32
  let v2424 : Index := Scalar.indexCast c9_i32_1040
  let c128_1041 : Index := 128#32
  ![v2423.toNat, 9, 128]
def k0_off597 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2442 : Index := Scalar.indexCast arg14
  let c9_i32_1048 : BitVec 32 := 9#32
  let v2443 : Index := Scalar.indexCast c9_i32_1048
  let c144_1049 : Index := 144#32
  ![v2442.toNat, 9, 144]
def k0_off598 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2461 : Index := Scalar.indexCast arg14
  let c9_i32_1056 : BitVec 32 := 9#32
  let v2462 : Index := Scalar.indexCast c9_i32_1056
  let c160_1057 : Index := 160#32
  ![v2461.toNat, 9, 160]
def k0_off599 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2480 : Index := Scalar.indexCast arg14
  let c9_i32_1064 : BitVec 32 := 9#32
  let v2481 : Index := Scalar.indexCast c9_i32_1064
  let c176_1065 : Index := 176#32
  ![v2480.toNat, 9, 176]
def k0_off600 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2499 : Index := Scalar.indexCast arg14
  let c9_i32_1072 : BitVec 32 := 9#32
  let v2500 : Index := Scalar.indexCast c9_i32_1072
  let c191_1073 : Index := 191#32
  ![v2499.toNat, 9, 191]
def k0_off601 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2518 : Index := Scalar.indexCast arg14
  let c10_i32 : BitVec 32 := 10#32
  let v2519 : Index := Scalar.indexCast c10_i32
  let c0_1080 : Index := 0#32
  ![v2518.toNat, 10, 0]
def k0_off602 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2537 : Index := Scalar.indexCast arg14
  let c10_i32_1087 : BitVec 32 := 10#32
  let v2538 : Index := Scalar.indexCast c10_i32_1087
  let c16_1088 : Index := 16#32
  ![v2537.toNat, 10, 16]
def k0_off603 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2556 : Index := Scalar.indexCast arg14
  let c10_i32_1095 : BitVec 32 := 10#32
  let v2557 : Index := Scalar.indexCast c10_i32_1095
  let c32_1096 : Index := 32#32
  ![v2556.toNat, 10, 32]
def k0_off604 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2575 : Index := Scalar.indexCast arg14
  let c10_i32_1103 : BitVec 32 := 10#32
  let v2576 : Index := Scalar.indexCast c10_i32_1103
  let c48_1104 : Index := 48#32
  ![v2575.toNat, 10, 48]
def k0_off605 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2594 : Index := Scalar.indexCast arg14
  let c10_i32_1111 : BitVec 32 := 10#32
  let v2595 : Index := Scalar.indexCast c10_i32_1111
  let c64_1112 : Index := 64#32
  ![v2594.toNat, 10, 64]
def k0_off606 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2613 : Index := Scalar.indexCast arg14
  let c10_i32_1119 : BitVec 32 := 10#32
  let v2614 : Index := Scalar.indexCast c10_i32_1119
  let c80_1120 : Index := 80#32
  ![v2613.toNat, 10, 80]
def k0_off607 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2632 : Index := Scalar.indexCast arg14
  let c10_i32_1127 : BitVec 32 := 10#32
  let v2633 : Index := Scalar.indexCast c10_i32_1127
  let c96_1128 : Index := 96#32
  ![v2632.toNat, 10, 96]
def k0_off608 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2651 : Index := Scalar.indexCast arg14
  let c10_i32_1135 : BitVec 32 := 10#32
  let v2652 : Index := Scalar.indexCast c10_i32_1135
  let c112_1136 : Index := 112#32
  ![v2651.toNat, 10, 112]
def k0_off609 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2670 : Index := Scalar.indexCast arg14
  let c10_i32_1143 : BitVec 32 := 10#32
  let v2671 : Index := Scalar.indexCast c10_i32_1143
  let c128_1144 : Index := 128#32
  ![v2670.toNat, 10, 128]
def k0_off610 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2689 : Index := Scalar.indexCast arg14
  let c10_i32_1151 : BitVec 32 := 10#32
  let v2690 : Index := Scalar.indexCast c10_i32_1151
  let c144_1152 : Index := 144#32
  ![v2689.toNat, 10, 144]
def k0_off611 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2708 : Index := Scalar.indexCast arg14
  let c10_i32_1159 : BitVec 32 := 10#32
  let v2709 : Index := Scalar.indexCast c10_i32_1159
  let c160_1160 : Index := 160#32
  ![v2708.toNat, 10, 160]
def k0_off612 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2727 : Index := Scalar.indexCast arg14
  let c10_i32_1167 : BitVec 32 := 10#32
  let v2728 : Index := Scalar.indexCast c10_i32_1167
  let c176_1168 : Index := 176#32
  ![v2727.toNat, 10, 176]
def k0_off613 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2746 : Index := Scalar.indexCast arg14
  let c10_i32_1175 : BitVec 32 := 10#32
  let v2747 : Index := Scalar.indexCast c10_i32_1175
  let c191_1176 : Index := 191#32
  ![v2746.toNat, 10, 191]
def k0_off614 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2765 : Index := Scalar.indexCast arg14
  let c11_i32 : BitVec 32 := 11#32
  let v2766 : Index := Scalar.indexCast c11_i32
  let c0_1183 : Index := 0#32
  ![v2765.toNat, 11, 0]
def k0_off615 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2784 : Index := Scalar.indexCast arg14
  let c11_i32_1190 : BitVec 32 := 11#32
  let v2785 : Index := Scalar.indexCast c11_i32_1190
  let c16_1191 : Index := 16#32
  ![v2784.toNat, 11, 16]
def k0_off616 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2803 : Index := Scalar.indexCast arg14
  let c11_i32_1198 : BitVec 32 := 11#32
  let v2804 : Index := Scalar.indexCast c11_i32_1198
  let c32_1199 : Index := 32#32
  ![v2803.toNat, 11, 32]
def k0_off617 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2822 : Index := Scalar.indexCast arg14
  let c11_i32_1206 : BitVec 32 := 11#32
  let v2823 : Index := Scalar.indexCast c11_i32_1206
  let c48_1207 : Index := 48#32
  ![v2822.toNat, 11, 48]
def k0_off618 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2841 : Index := Scalar.indexCast arg14
  let c11_i32_1214 : BitVec 32 := 11#32
  let v2842 : Index := Scalar.indexCast c11_i32_1214
  let c64_1215 : Index := 64#32
  ![v2841.toNat, 11, 64]
def k0_off619 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2860 : Index := Scalar.indexCast arg14
  let c11_i32_1222 : BitVec 32 := 11#32
  let v2861 : Index := Scalar.indexCast c11_i32_1222
  let c80_1223 : Index := 80#32
  ![v2860.toNat, 11, 80]
def k0_off620 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2879 : Index := Scalar.indexCast arg14
  let c11_i32_1230 : BitVec 32 := 11#32
  let v2880 : Index := Scalar.indexCast c11_i32_1230
  let c96_1231 : Index := 96#32
  ![v2879.toNat, 11, 96]
def k0_off621 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2898 : Index := Scalar.indexCast arg14
  let c11_i32_1238 : BitVec 32 := 11#32
  let v2899 : Index := Scalar.indexCast c11_i32_1238
  let c112_1239 : Index := 112#32
  ![v2898.toNat, 11, 112]
def k0_off622 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2917 : Index := Scalar.indexCast arg14
  let c11_i32_1246 : BitVec 32 := 11#32
  let v2918 : Index := Scalar.indexCast c11_i32_1246
  let c128_1247 : Index := 128#32
  ![v2917.toNat, 11, 128]
def k0_off623 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2936 : Index := Scalar.indexCast arg14
  let c11_i32_1254 : BitVec 32 := 11#32
  let v2937 : Index := Scalar.indexCast c11_i32_1254
  let c144_1255 : Index := 144#32
  ![v2936.toNat, 11, 144]
def k0_off624 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2955 : Index := Scalar.indexCast arg14
  let c11_i32_1262 : BitVec 32 := 11#32
  let v2956 : Index := Scalar.indexCast c11_i32_1262
  let c160_1263 : Index := 160#32
  ![v2955.toNat, 11, 160]
def k0_off625 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2974 : Index := Scalar.indexCast arg14
  let c11_i32_1270 : BitVec 32 := 11#32
  let v2975 : Index := Scalar.indexCast c11_i32_1270
  let c176_1271 : Index := 176#32
  ![v2974.toNat, 11, 176]
def k0_off626 (k0_t5 : Fin k0_t5_loop.trips) : Fin 3 → Nat :=
  let c0_i32_46 : BitVec 32 := 0#32
  let c1_i32_48 : BitVec 32 := 1#32
  let arg14 : BitVec 32 := Scf.iv c0_i32_46 c1_i32_48 k0_t5
  let v2993 : Index := Scalar.indexCast arg14
  let c11_i32_1278 : BitVec 32 := 11#32
  let v2994 : Index := Scalar.indexCast c11_i32_1278
  let c191_1279 : Index := 191#32
  ![v2993.toNat, 11, 191]
def k0_off627 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_57_r0 : BitVec 32 := 0#32
  let c0_i32_58_r0 : BitVec 32 := 0#32
  ![v1.toNat, 0, 0]
abbrev grid1 : Pipeline.Grid := ⟨1, ![12], ![false]⟩

def cc1_transform_0 (i : grid1.Coords) : Fin 3 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 3 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x12x207 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x12x207 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .smem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x12x207 : Shape := ⟨3, ![4096, 12, 207]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x12x207, .f32⟩
  | .hbm, ⟨1, _⟩ => ⟨S4096x12x207, .f32⟩
  | .hbm, ⟨2, _⟩ => ⟨S_, .f32⟩
  | .hbm, ⟨3, _⟩ => ⟨S4096x12x207, .f32⟩
  | .hbm, ⟨4, _⟩ => ⟨S4096x12x207, .i1⟩
  | .hbm, ⟨5, _⟩ => ⟨S4096x12x207, .f32⟩
  | .hbm, ⟨6, _⟩ => ⟨S_, .f32⟩
  | .hbm, ⟨7, _⟩ => ⟨S_, .f32⟩
  | .hbm, ⟨8, _⟩ => ⟨S4096x12x207, .f32⟩
  | .hbm, ⟨9, _⟩ => ⟨S4096x12x207, .f32⟩
  | .hbm, ⟨10, _⟩ => ⟨S4096x12x207, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .i1⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | _, _ => ⟨S4096x12x207, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== Proof.Body.lean ====
/-
  The vector subcore's kernel, written short.

  The printed kernel spells out every load of its four inner loops: twelve sublanes of thirteen vectors, from two
  buffers, four times. Here the same text is a recursion: `vecStep` is one vector (two loads and the arithmetic on
  them), `rowStep` the thirteen vectors of a sublane, `rowBody` the twelve sublanes of a row, and `tileProg` the whole
  kernel over them. `tile_eq` says the printed function is `tileProg`; nothing later reads the printed text.
-/
module

public import proofs.«01_k».proof.Defs
public import proofs.«01_k».proof.Proof.Gen.KernelIdeal
public import Idealize.ShloMosaic.Lib.Pipeline.Regions

@[expose] public section

noncomputable section

namespace Cert.Proof.Run

open Cert.KernelIdeal Cert.KernelIdeal.Gen
open Idealize.ShloMosaic Idealize.SL.Sem

variable {F : FTy → Type} [FloatOps F]

/-- A register of sixteen lanes. -/
abbrev V16 (F : FTy → Type) [FloatOps F] : Type := FVec F S16 .f32
/-- What the loops carry: three running sums and three running counts of the whole vectors, and the sum and the count
    of the row's last vector. -/
abbrev Acc (F : FTy → Type) [FloatOps F] : Type :=
  V16 F × V16 F × V16 F × V16 F × V16 F × V16 F × V16 F × V16 F

/-- The absolute difference where the target counts, zero elsewhere. -/
def dsum (p t : V16 F) : V16 F :=
  select (cmpf .ogt t (broadcast S16 (Scalar.ofBits .f32 0xFF800000#32))) (absf (subf p t))
    (broadcast S16 (Scalar.ofBits .f32 0x00000000#32))
/-- One where the target counts, zero elsewhere. -/
def dcnt (t : V16 F) : V16 F :=
  select (cmpf .ogt t (broadcast S16 (Scalar.ofBits .f32 0xFF800000#32))) (broadcast S16 (Scalar.ofBits .f32 0x3F800000#32))
    (broadcast S16 (Scalar.ofBits .f32 0x00000000#32))

/-- Vector `k` of a row adds to running sum `k % 3`, the last one to the tail's. -/
def bump (k : Nat) (a : Acc F) (p t : V16 F) : Acc F :=
  match a with
  | (s0, s1, s2, c0, c1, c2, st, ct) =>
    if k = 12 then (s0, s1, s2, c0, c1, c2, addf st (dsum p t), addf ct (dcnt t))
    else if k % 3 = 0 then (addf s0 (dsum p t), s1, s2, addf c0 (dcnt t), c1, c2, st, ct)
    else if k % 3 = 1 then (s0, addf s1 (dsum p t), s2, c0, addf c1 (dcnt t), c2, st, ct)
    else (s0, s1, addf s2 (dsum p t), c0, c1, addf c2 (dcnt t), st, ct)

/-- Where vector `k` starts along a row: `16 k`, and the last at `191`, overlapping the one before in a lane. -/
def voff (k : Nat) : Nat := if k = 12 then 191 else 16 * k

/-- The offsets of vector `k` of sublane `c` of row `r`. -/
def off (r : Nat) (c k : Nat) : Fin 3 → Nat :=
  ![(Scalar.indexCast (Scf.iv (0#32) (1#32) r)).toNat, c, voff k]

theorem iv_small : ∀ r : Fin 4, (Scalar.indexCast (Scf.iv (0#32) (1#32) r.val)).toNat = r.val := by decide

theorem voff_le : ∀ k : Fin 13, voff k.val + 16 ≤ 207 := by decide

theorem off_inb (r : Fin 4) (c : Fin 12) (k : Fin 13) (a : Fin 3) : off r.val c.val k.val a + S1x1x16.size a ≤ S4x12x207.size a := by
  have h1 := iv_small r
  have h2 := voff_le k
  have h3 := r.isLt
  have h4 := c.isLt
  fin_cases a
  · show (Scalar.indexCast (Scf.iv (0#32) (1#32) r.val)).toNat + 1 ≤ 4
    omega
  · show c.val + 1 ≤ 12
    omega
  · show voff k.val + 16 ≤ 207
    omega

section Prog

variable {c : Fin τ.nSC} {i : Fin τ.nSub}

/-- One vector: the two loads, then the arithmetic. -/
def vecStep (bp bt : Memref sig .scVector .vmem S4x12x207 .f32) (r : Fin 4) (cc : Fin 12) (k : Fin 13) (a : Acc F) :
    Prog (TpuEff nD τ sig (Elt F) Λ₀ (.scVector c i)) (Acc F) := do
  let p : Vec F S1x1x16 .f32 ← Prog.lift (.load bp (Rect.unit (s := S4x12x207) (off r.val cc.val k.val) S1x1x16.size (off_inb r cc k)).toLoadRect (View.loadsAt_vmem h_S1x1x16))
  let t : Vec F S1x1x16 .f32 ← Prog.lift (.load bt (Rect.unit (s := S4x12x207) (off r.val cc.val k.val) S1x1x16.size (off_inb r cc k)).toLoadRect (View.loadsAt_vmem h_S1x1x16))
  pure (bump k.val a (shapeCast S16 p shapeCasts_S1x1x16_S16) (shapeCast S16 t shapeCasts_S1x1x16_S16))

/-- A step run over a list, the carried values handed on. -/
def runOver {E : Type → Type} {ι A : Type} (f : ι → A → Prog E A) : List ι → A → Prog E A
  | [], a => pure a
  | x :: l, a => f x a >>= fun b => runOver f l b

/-- The thirteen vectors of a sublane, in order. -/
def vecs : List (Fin 13) := [0, 1, 2, 3, 4, 5, 6, 7, 8, 9, 10, 11, 12]
/-- The twelve sublanes of a row, in order. -/
def subs : List (Fin 12) := [0, 1, 2, 3, 4, 5, 6, 7, 8, 9, 10, 11]

/-- One row of a buffer. -/
def rowBody (bp bt : Memref sig .scVector .vmem S4x12x207 .f32) (r : Fin 4) (a : Acc F) :
    Prog (TpuEff nD τ sig (Elt F) Λ₀ (.scVector c i)) (Acc F) :=
  runOver (fun cc => runOver (fun k => vecStep bp bt r cc k) vecs) subs a

/-- The four rows of a chunk. -/
abbrev rowLoop : Scf.Loop 32 := ⟨0#32, Scalar.addi 0#32 4#32, 1#32⟩
theorem rowLoop_ok : rowLoop.OK := by decide
theorem rowLoop_trips : rowLoop.trips = 4 := by decide

/-- A chunk's rows added to the carried values. -/
def chunk (bp bt : Memref sig .scVector .vmem S4x12x207 .f32) (a : Acc F) : Prog (TpuEff nD τ sig (Elt F) Λ₀ (.scVector c i)) (Acc F) :=
  Scf.Loop.for rowLoop rowLoop_ok a fun r a => rowBody bp bt ⟨r.val, Nat.lt_of_lt_of_eq r.isLt rowLoop_trips⟩ a

end Prog

/-- The eight carried values as a window of the printed text hands them to the next, -/
abbrev Pack (F : FTy → Type) [FloatOps F] : Type := (Σ' (_ : V16 F) (_ : V16 F) (_ : V16 F) (_ : V16 F) (_ : V16 F) (_ : V16 F) (_ : V16 F), V16 F)
/-- and with the loop's counter before them. -/
abbrev PackC (F : FTy → Type) [FloatOps F] : Type := (Σ' (_ : BitVec 32) (_ : V16 F) (_ : V16 F) (_ : V16 F) (_ : V16 F) (_ : V16 F) (_ : V16 F) (_ : V16 F), V16 F)

def pack (a : Acc F) : Pack F := ⟨a.1, a.2.1, a.2.2.1, a.2.2.2.1, a.2.2.2.2.1, a.2.2.2.2.2.1, a.2.2.2.2.2.2.1, a.2.2.2.2.2.2.2⟩
def packC (b : BitVec 32) (a : Acc F) : PackC F := ⟨b, a.1, a.2.1, a.2.2.1, a.2.2.2.1, a.2.2.2.2.1, a.2.2.2.2.2.1, a.2.2.2.2.2.2.1, a.2.2.2.2.2.2.2⟩
def unpack (x : Pack F) : Acc F := (x.1, x.2.1, x.2.2.1, x.2.2.2.1, x.2.2.2.2.1, x.2.2.2.2.2.1, x.2.2.2.2.2.2.1, x.2.2.2.2.2.2.2)
def unpackC (x : PackC F) : Acc F := unpack x.2
theorem unpack_pack (a : Acc F) : unpack (pack a) = a := rfl
theorem unpackC_packC (b : BitVec 32) (a : Acc F) : unpackC (packC b a) = a := rfl

/-- One time through both buffers, as far as the second buffer's first wait: the first chunk is waited for and added up,
    and the next one started behind it. -/
def tripA (i : grid0.Coords) (arg2 arg3 : Memref sig .scVector .hbm S4096x12x207 .f32)
    (arg6 : Memref sig .scVector .vmem S4x12x207 .f32) (harg6 : arg6.IsWhole) (arg7 : Memref sig .scVector .vmem S4x12x207 .f32) (harg7 : arg7.IsWhole)
    (arg8 : Memref sig .scVector .vmem S4x12x207 .f32) (harg8 : arg8.IsWhole) (arg9 : Memref sig .scVector .vmem S4x12x207 .f32) (harg9 : arg9.IsWhole)
    (arg12 arg13 : DmaSems sig S_) (g : Fin k0_t1_loop.trips) (a : Acc F) : Prog (TpuEff nD τ sig (Elt F) Λ₀ (.scVector ((i 0).castLE Facts₀.hcore0) ((i 1).castLE Facts₀.hsub0))) (PackC F) := do
  Prog.lift (.waitDma2 arg12.sem (arg2.slice (Rect.unit (s := S4096x12x207) ![0, 0, 0] S4x12x207.size Facts₀.inb_S4096x12x207_S4x12x207_0_0_0) (fun _ => rfl)) arg6 (View.wordExact_bits rfl) harg6.wordExact)
  Prog.lift (.waitDma2 arg12.sem (arg3.slice (Rect.unit (s := S4096x12x207) ![0, 0, 0] S4x12x207.size Facts₀.inb_S4096x12x207_S4x12x207_0_0_0) (fun _ => rfl)) arg7 (View.wordExact_bits rfl) harg7.wordExact)
  let a ← chunk arg6 arg7 a
  Prog.lift (.enqueueDma (arg2.slice (Rect.unit (s := S4096x12x207) (k0_off158 i g 2#32) S4x12x207.size (Facts₀.k0_off158_inb i g 0)) (fun _ => rfl)) (.here arg6) (.dma arg12.sem) (View.wordExact_bits rfl) harg6.wordExact ⟨Or.inl rfl, trivial⟩)
  Prog.lift (.enqueueDma (arg3.slice (Rect.unit (s := S4096x12x207) (k0_off158 i g 2#32) S4x12x207.size (Facts₀.k0_off158_inb i g 0)) (fun _ => rfl)) (.here arg7) (.dma arg12.sem) (View.wordExact_bits rfl) harg7.wordExact ⟨Or.inl rfl, trivial⟩)
  Prog.lift (.waitDma2 arg13.sem (arg2.slice (Rect.unit (s := S4096x12x207) ![0, 0, 0] S4x12x207.size Facts₀.inb_S4096x12x207_S4x12x207_0_0_0) (fun _ => rfl)) arg8 (View.wordExact_bits rfl) harg8.wordExact)
  pure (packC (Scf.iv 0#32 1#32 g.val) a)

/-- One time through both buffers. -/
def trip (i : grid0.Coords) (arg2 arg3 : Memref sig .scVector .hbm S4096x12x207 .f32)
    (arg6 : Memref sig .scVector .vmem S4x12x207 .f32) (harg6 : arg6.IsWhole) (arg7 : Memref sig .scVector .vmem S4x12x207 .f32) (harg7 : arg7.IsWhole)
    (arg8 : Memref sig .scVector .vmem S4x12x207 .f32) (harg8 : arg8.IsWhole) (arg9 : Memref sig .scVector .vmem S4x12x207 .f32) (harg9 : arg9.IsWhole)
    (arg12 arg13 : DmaSems sig S_) (g : Fin k0_t1_loop.trips) (a : Acc F) : Prog (TpuEff nD τ sig (Elt F) Λ₀ (.scVector ((i 0).castLE Facts₀.hcore0) ((i 1).castLE Facts₀.hsub0))) (Acc F) := do
  let x ← tripA i arg2 arg3 arg6 harg6 arg7 harg7 arg8 harg8 arg9 harg9 arg12 arg13 g a
  Prog.lift (.waitDma2 arg13.sem (arg3.slice (Rect.unit (s := S4096x12x207) ![0, 0, 0] S4x12x207.size Facts₀.inb_S4096x12x207_S4x12x207_0_0_0) (fun _ => rfl)) arg9 (View.wordExact_bits rfl) harg9.wordExact)
  let a ← chunk arg8 arg9 (unpackC x)
  Prog.lift (.enqueueDma (arg2.slice (Rect.unit (s := S4096x12x207) (k0_off158 i g 3#32) S4x12x207.size (Facts₀.k0_off158_inb i g 1)) (fun _ => rfl)) (.here arg8) (.dma arg13.sem) (View.wordExact_bits rfl) harg8.wordExact ⟨Or.inl rfl, trivial⟩)
  Prog.lift (.enqueueDma (arg3.slice (Rect.unit (s := S4096x12x207) (k0_off158 i g 3#32) S4x12x207.size (Facts₀.k0_off158_inb i g 1)) (fun _ => rfl)) (.here arg9) (.dma arg13.sem) (View.wordExact_bits rfl) harg9.wordExact ⟨Or.inl rfl, trivial⟩)
  pure a

/-- The eight carried values before the first chunk. -/
def zeros : Acc F :=
  let z : V16 F := broadcast S16 (Scalar.ofBits .f32 0x00000000#32)
  (z, z, z, z, z, z, z, z)

/-- The first two chunks started, the loop, and the first wait behind it. -/
def headProg (i : grid0.Coords) (arg2 arg3 : Memref sig .scVector .hbm S4096x12x207 .f32)
    (arg6 : Memref sig .scVector .vmem S4x12x207 .f32) (harg6 : arg6.IsWhole) (arg7 : Memref sig .scVector .vmem S4x12x207 .f32) (harg7 : arg7.IsWhole)
    (arg8 : Memref sig .scVector .vmem S4x12x207 .f32) (harg8 : arg8.IsWhole) (arg9 : Memref sig .scVector .vmem S4x12x207 .f32) (harg9 : arg9.IsWhole)
    (arg12 arg13 : DmaSems sig S_) : Prog (TpuEff nD τ sig (Elt F) Λ₀ (.scVector ((i 0).castLE Facts₀.hcore0) ((i 1).castLE Facts₀.hsub0))) (Pack F) := do
  Prog.lift (.enqueueDma (arg2.slice (Rect.unit (s := S4096x12x207) (k0_off1 i 0#32) S4x12x207.size (Facts₀.k0_off1_inb i 0)) (fun _ => rfl)) (.here arg6) (.dma arg12.sem) (View.wordExact_bits rfl) harg6.wordExact ⟨Or.inl rfl, trivial⟩)
  Prog.lift (.enqueueDma (arg3.slice (Rect.unit (s := S4096x12x207) (k0_off1 i 0#32) S4x12x207.size (Facts₀.k0_off1_inb i 0)) (fun _ => rfl)) (.here arg7) (.dma arg12.sem) (View.wordExact_bits rfl) harg7.wordExact ⟨Or.inl rfl, trivial⟩)
  Prog.lift (.enqueueDma (arg2.slice (Rect.unit (s := S4096x12x207) (k0_off1 i 4#32) S4x12x207.size (Facts₀.k0_off1_inb i 1)) (fun _ => rfl)) (.here arg8) (.dma arg13.sem) (View.wordExact_bits rfl) harg8.wordExact ⟨Or.inl rfl, trivial⟩)
  Prog.lift (.enqueueDma (arg3.slice (Rect.unit (s := S4096x12x207) (k0_off1 i 4#32) S4x12x207.size (Facts₀.k0_off1_inb i 1)) (fun _ => rfl)) (.here arg9) (.dma arg13.sem) (View.wordExact_bits rfl) harg9.wordExact ⟨Or.inl rfl, trivial⟩)
  let a ← Scf.Loop.for k0_t1_loop Facts₀.k0_t1_ok (zeros : Acc F) fun g a => trip i arg2 arg3 arg6 harg6 arg7 harg7 arg8 harg8 arg9 harg9 arg12 arg13 g a
  Prog.lift (.waitDma2 arg12.sem (arg2.slice (Rect.unit (s := S4096x12x207) ![0, 0, 0] S4x12x207.size Facts₀.inb_S4096x12x207_S4x12x207_0_0_0) (fun _ => rfl)) arg6 (View.wordExact_bits rfl) harg6.wordExact)
  pure (pack a)

/-- The last two chunks added up, and the results but the last count stored. -/
def midProg (i : grid0.Coords) (arg2 arg3 : Memref sig .scVector .hbm S4096x12x207 .f32)
    (arg6 : Memref sig .scVector .vmem S4x12x207 .f32) (harg6 : arg6.IsWhole) (arg7 : Memref sig .scVector .vmem S4x12x207 .f32) (harg7 : arg7.IsWhole)
    (arg8 : Memref sig .scVector .vmem S4x12x207 .f32) (harg8 : arg8.IsWhole) (arg9 : Memref sig .scVector .vmem S4x12x207 .f32) (harg9 : arg9.IsWhole)
    (arg10 : Memref sig .scVector .vmem S2x16 .f32) (arg11 : Memref sig .scVector .vmem S2x16 .f32)
    (arg12 arg13 : DmaSems sig S_) (a : Acc F) : Prog (TpuEff nD τ sig (Elt F) Λ₀ (.scVector ((i 0).castLE Facts₀.hcore0) ((i 1).castLE Facts₀.hsub0))) (V16 F) := do
  Prog.lift (.waitDma2 arg12.sem (arg3.slice (Rect.unit (s := S4096x12x207) ![0, 0, 0] S4x12x207.size Facts₀.inb_S4096x12x207_S4x12x207_0_0_0) (fun _ => rfl)) arg7 (View.wordExact_bits rfl) harg7.wordExact)
  let a ← chunk arg6 arg7 a
  Prog.lift (.waitDma2 arg13.sem (arg2.slice (Rect.unit (s := S4096x12x207) ![0, 0, 0] S4x12x207.size Facts₀.inb_S4096x12x207_S4x12x207_0_0_0) (fun _ => rfl)) arg8 (View.wordExact_bits rfl) harg8.wordExact)
  Prog.lift (.waitDma2 arg13.sem (arg3.slice (Rect.unit (s := S4096x12x207) ![0, 0, 0] S4x12x207.size Facts₀.inb_S4096x12x207_S4x12x207_0_0_0) (fun _ => rfl)) arg9 (View.wordExact_bits rfl) harg9.wordExact)
  let a ← chunk arg8 arg9 a
  let _ : Vec F S1x16 .f32 ← Prog.lift (.load arg10 (Rect.unit (s := S2x16) ![0, 0] S1x16.size Facts₀.inb_S2x16_S1x16_0_0).toLoadRect (View.loadsAt_vmem h_S1x16))
  Prog.lift (.store arg10 (Rect.unit (s := S2x16) ![0, 0] S1x16.size Facts₀.inb_S2x16_S1x16_0_0) (shapeCast S1x16 (addf (addf a.1 a.2.1) a.2.2.1) shapeCasts_S16_S1x16) Finset.univ (View.stores_vmem_bits_univ h_S1x16 rfl) (.inl rfl))
  let _ : Vec F S1x16 .f32 ← Prog.lift (.load arg10 (Rect.unit (s := S2x16) ![1, 0] S1x16.size Facts₀.inb_S2x16_S1x16_1_0).toLoadRect (View.loadsAt_vmem h_S1x16))
  Prog.lift (.store arg10 (Rect.unit (s := S2x16) ![1, 0] S1x16.size Facts₀.inb_S2x16_S1x16_1_0) (shapeCast S1x16 a.2.2.2.2.2.2.1 shapeCasts_S16_S1x16) Finset.univ (View.stores_vmem_bits_univ h_S1x16 rfl) (.inl rfl))
  let _ : Vec F S1x16 .f32 ← Prog.lift (.load arg11 (Rect.unit (s := S2x16) ![0, 0] S1x16.size Facts₀.inb_S2x16_S1x16_0_0).toLoadRect (View.loadsAt_vmem h_S1x16))
  Prog.lift (.store arg11 (Rect.unit (s := S2x16) ![0, 0] S1x16.size Facts₀.inb_S2x16_S1x16_0_0) (shapeCast S1x16 (addf (addf a.2.2.2.1 a.2.2.2.2.1) a.2.2.2.2.2.1) shapeCasts_S16_S1x16) Finset.univ (View.stores_vmem_bits_univ h_S1x16 rfl) (.inl rfl))
  pure a.2.2.2.2.2.2.2

/-- The last count stored, and both results copied out. -/
def tailProg (i : grid0.Coords) (arg4 arg5 : Memref sig .scVector .hbm S32x2x16 .f32)
    (arg10 : Memref sig .scVector .vmem S2x16 .f32) (harg10 : arg10.IsWhole) (arg11 : Memref sig .scVector .vmem S2x16 .f32) (harg11 : arg11.IsWhole)
    (r0 r1 : DmaSems sig S_) (v : V16 F) : Prog (TpuEff nD τ sig (Elt F) Λ₀ (.scVector ((i 0).castLE Facts₀.hcore0) ((i 1).castLE Facts₀.hsub0))) PUnit := do
  let _ : Vec F S1x16 .f32 ← Prog.lift (.load arg11 (Rect.unit (s := S2x16) ![1, 0] S1x16.size Facts₀.inb_S2x16_S1x16_1_0).toLoadRect (View.loadsAt_vmem h_S1x16))
  Prog.lift (.store arg11 (Rect.unit (s := S2x16) ![1, 0] S1x16.size Facts₀.inb_S2x16_S1x16_1_0) (shapeCast S1x16 v shapeCasts_S16_S1x16) Finset.univ (View.stores_vmem_bits_univ h_S1x16 rfl) (.inl rfl))
  Prog.lift (.enqueueDma arg10 (.here ((arg4.slice (Rect.unit (s := S32x2x16) (k0_off627 i) S1x2x16.size (Facts₀.k0_off627_inb i)) (fun _ => rfl)).squeeze S2x16 squeezes_S1x2x16_S2x16)) (.dma r0.sem) harg10.wordExact ((View.wordExact_bits rfl).reshape _ _) ⟨Or.inl rfl, trivial⟩)
  Prog.lift (.waitDma2 r0.sem arg10 ((arg4.slice (Rect.unit (s := S32x2x16) (k0_off627 i) S1x2x16.size (Facts₀.k0_off627_inb i)) (fun _ => rfl)).squeeze S2x16 squeezes_S1x2x16_S2x16) harg10.wordExact ((View.wordExact_bits rfl).reshape _ _))
  Prog.lift (.enqueueDma arg11 (.here ((arg5.slice (Rect.unit (s := S32x2x16) (k0_off627 i) S1x2x16.size (Facts₀.k0_off627_inb i)) (fun _ => rfl)).squeeze S2x16 squeezes_S1x2x16_S2x16)) (.dma r1.sem) harg11.wordExact ((View.wordExact_bits rfl).reshape _ _) ⟨Or.inl rfl, trivial⟩)
  Prog.lift (.waitDma2 r1.sem arg11 ((arg5.slice (Rect.unit (s := S32x2x16) (k0_off627 i) S1x2x16.size (Facts₀.k0_off627_inb i)) (fun _ => rfl)).squeeze S2x16 squeezes_S1x2x16_S2x16) harg11.wordExact ((View.wordExact_bits rfl).reshape _ _))
  pure ⟨⟩

/-- The whole kernel on one vector subcore: two chunks on the way, then three times through both buffers with the next
    chunk started behind each, then the last two chunks and the results copied out. -/
def tileProg (i : grid0.Coords) (arg2 arg3 : Memref sig .scVector .hbm S4096x12x207 .f32) (arg4 arg5 : Memref sig .scVector .hbm S32x2x16 .f32)
    (arg6 : Memref sig .scVector .vmem S4x12x207 .f32) (harg6 : arg6.IsWhole) (arg7 : Memref sig .scVector .vmem S4x12x207 .f32) (harg7 : arg7.IsWhole)
    (arg8 : Memref sig .scVector .vmem S4x12x207 .f32) (harg8 : arg8.IsWhole) (arg9 : Memref sig .scVector .vmem S4x12x207 .f32) (harg9 : arg9.IsWhole)
    (arg10 : Memref sig .scVector .vmem S2x16 .f32) (harg10 : arg10.IsWhole) (arg11 : Memref sig .scVector .vmem S2x16 .f32) (harg11 : arg11.IsWhole)
    (arg12 arg13 r0 r1 : DmaSems sig S_) : Prog (TpuEff nD τ sig (Elt F) Λ₀ (.scVector ((i 0).castLE Facts₀.hcore0) ((i 1).castLE Facts₀.hsub0))) PUnit := do
  let x ← headProg i arg2 arg3 arg6 harg6 arg7 harg7 arg8 harg8 arg9 harg9 arg12 arg13
  let v ← midProg i arg2 arg3 arg6 harg6 arg7 harg7 arg8 harg8 arg9 harg9 arg10 arg11 arg12 arg13 (unpack x)
  tailProg i arg4 arg5 arg10 harg10 arg11 harg11 r0 r1 v

/-- The printed function is the short one. -/
theorem tile_eq (i : grid0.Coords) (arg2 : Memref sig .scVector .hbm S4096x12x207 .f32) (harg2 : arg2.IsWhole) (arg3 : Memref sig .scVector .hbm S4096x12x207 .f32) (harg3 : arg3.IsWhole)
    (arg4 : Memref sig .scVector .hbm S32x2x16 .f32) (harg4 : arg4.IsWhole) (arg5 : Memref sig .scVector .hbm S32x2x16 .f32) (harg5 : arg5.IsWhole)
    (arg6 : Memref sig .scVector .vmem S4x12x207 .f32) (harg6 : arg6.IsWhole) (arg7 : Memref sig .scVector .vmem S4x12x207 .f32) (harg7 : arg7.IsWhole)
    (arg8 : Memref sig .scVector .vmem S4x12x207 .f32) (harg8 : arg8.IsWhole) (arg9 : Memref sig .scVector .vmem S4x12x207 .f32) (harg9 : arg9.IsWhole)
    (arg10 : Memref sig .scVector .vmem S2x16 .f32) (harg10 : arg10.IsWhole) (arg11 : Memref sig .scVector .vmem S2x16 .f32) (harg11 : arg11.IsWhole)
    (arg12 arg13 r0 r1 : DmaSems sig S_) :
    cc0__mae_partials_sc (F := F) i arg2 harg2 arg3 harg3 arg4 harg4 arg5 harg5 arg6 harg6 arg7 harg7 arg8 harg8 arg9 harg9 arg10 harg10 arg11 harg11 arg12 arg13 r0 r1
      = tileProg (F := F) i arg2 arg3 arg4 arg5 arg6 harg6 arg7 harg7 arg8 harg8 arg9 harg9 arg10 harg10 arg11 harg11 arg12 arg13 r0 r1 := by
  chain_rfl

end Cert.Proof.Run

end
-- ==== Proof.Setup.lean ====
/-
  The program as the launch theorem sees it, and the resources the proof runs over.

  The SparseCores' handshakes, the TensorCore call's staging cells and the transfers' counters each get their own
  component of the resource algebra: `EH` embeds the first, `EP` the second, and the third is found by instance.
-/
module

public import proofs.«01_k».proof.Defs
public import proofs.«01_k».proof.Proof.Body
public import proofs.«01_k».proof.Proof.Gen.KernelIdeal.Launch
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Batch
public import Idealize.ShloMosaic.Lib.ShareLeaves

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

/-- The handshakes' rounds, -/
abbrev UH : Type := URounds (GSem nD τ sig) ℕ
/-- the TensorCore call's staging cells' rounds, -/
abbrev UP : Type := URounds (GSem nD τ sig) Unit
/-- and the transfers' counters. -/
abbrev UU : Type := UH × (UP × Counters)

/-- The machine's algebra. -/
abbrev MM (F : FTy → Type) : Type := MT nD τ sig (HIx 1) (Elt F) ℕ UU ℕ

abbrev EH : Emb UH (MM F) := embL
abbrev EP : Emb UP (MM F) := (Emb.inl : Emb UP (UP × Counters)).trans embR

/-! ## The threads, the arrays and the buffers -/

abbrev cV (i : grid0.Coords) : Fin τ.nSC := (i 0).castLE Facts₀.hcore0
abbrev jV (i : grid0.Coords) : Fin τ.nSub := (i 1).castLE Facts₀.hsub0
/-- The vector subcore at grid point `i` of device `d`. -/
abbrev thr (d : Dev nD) (i : grid0.Coords) : Thread nD τ := V d (cV i) (jV i)

end Cert.Proof.Run

end
-- ==== Proof.Values.lean ====
/-
  What the vector subcores compute, as functions of the arrays' contents: no program, no memory.
-/
module

public import proofs.«01_k».proof.Proof.Body

@[expose] public section

noncomputable section

namespace Cert.Proof.Run

open Cert.KernelIdeal Cert.KernelIdeal.Gen
open Idealize.ShloMosaic

variable {F : FTy → Type} [FloatOps F]

/-- A chunk of an array: four rows. -/
abbrev Chunk (F : FTy → Type) : Type := S4x12x207.Idx → Elt F .f32

/-- The sixteen lanes vector `k` of sublane `c` of row `r` reads. -/
def lanes (P : Chunk F) (r : Fin 4) (c : Fin 12) (k : Fin 13) : V16 F :=
  shapeCast S16 (fun x => P ((Rect.unit (s := S4x12x207) (off r.val c.val k.val) S1x1x16.size (off_inb r c k)).toLoadRect.idx x) : FVec F S1x1x16 .f32)
    shapeCasts_S1x1x16_S16

/-- One vector added, -/
def stepV (P T : Chunk F) (r : Fin 4) (c : Fin 12) (k : Fin 13) (a : Acc F) : Acc F := bump k.val a (lanes P r c k) (lanes T r c k)
/-- a sublane's, -/
def subV (P T : Chunk F) (r : Fin 4) (c : Fin 12) (a : Acc F) : Acc F := vecs.foldl (fun a k => stepV P T r c k a) a
/-- a row's, -/
def rowV (P T : Chunk F) (r : Fin 4) (a : Acc F) : Acc F := subs.foldl (fun a c => subV P T r c a) a
/-- and a chunk's. -/
def rowsV (P T : Chunk F) (n : ℕ) (a : Acc F) : Acc F := ((List.finRange 4).take n).foldl (fun a r => rowV P T r a) a
def chunkV (P T : Chunk F) (a : Acc F) : Acc F := rowsV P T 4 a

theorem rowsV_succ (P T : Chunk F) (n : ℕ) (h : n < 4) (a : Acc F) : rowsV P T (n + 1) a = rowV P T ⟨n, h⟩ (rowsV P T n a) := by
  unfold rowsV
  rw [List.take_succ_eq_append_getElem (by simpa using h), List.foldl_append]
  simp

/-- The four rows of an array from row `n` on. -/
def rowsFrom (A : S4096x12x207.Idx → Elt F .f32) (n : ℕ) : Chunk F :=
  fun x => A (fun | 0 => Fin.ofNat 4096 (n + (x 0).val) | 1 => x 1 | 2 => x 2)

/-- The first row of subcore `w`'s part. -/
def base (w : ℕ) : ℕ := 32 * w

/-- What subcore `w` has added up after `n` chunks of the arrays `A` and `B`. -/
def chunksV (A B : S4096x12x207.Idx → Elt F .f32) (w : ℕ) : ℕ → Acc F
  | 0 => zeros
  | n + 1 => chunkV (rowsFrom A (base w + 4 * n)) (rowsFrom B (base w + 4 * n)) (chunksV A B w n)

/-- Subcore `w`'s two rows of the sums, -/
def sumRows (a : Acc F) : S2x16.Idx → Elt F .f32 := fun x =>
  if (x 0).val = 0 then addf (addf a.1 a.2.1) a.2.2.1 (fun | 0 => x 1) else a.2.2.2.2.2.2.1 (fun | 0 => x 1)
/-- and of the counts. -/
def cntRows (a : Acc F) : S2x16.Idx → Elt F .f32 := fun x =>
  if (x 0).val = 0 then addf (addf a.2.2.2.1 a.2.2.2.2.1) a.2.2.2.2.2.1 (fun | 0 => x 1) else a.2.2.2.2.2.2.2 (fun | 0 => x 1)

/-- All subcores' rows of the sums, -/
def sumsOut (A B : S4096x12x207.Idx → Elt F .f32) : S32x2x16.Idx → Elt F .f32 := fun x =>
  sumRows (chunksV A B (x 0).val 8) (fun | 0 => x 1 | 1 => x 2)
/-- and of the counts. -/
def cntsOut (A B : S4096x12x207.Idx → Elt F .f32) : S32x2x16.Idx → Elt F .f32 := fun x =>
  cntRows (chunksV A B (x 0).val 8) (fun | 0 => x 1 | 1 => x 2)

end Cert.Proof.Run

end
-- ==== Proof.ChunkRun.lean ====
/-
  A chunk's rows added up: from two buffers read as `P` and `T`, `chunk` hands on `chunkV P T a`.
-/
module

public import proofs.«01_k».proof.Proof.Setup
public import proofs.«01_k».proof.Proof.Values

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.BI.BIBase Idealize.SL.BI.Laws Idealize.SL.ProofMode
open Idealize.SL.Sem
open scoped Idealize.SL.BI

variable {F : FTy → Type} [FloatOps F]

local notation "𝕄" => MM F

/-- Buffer `b` of thread `c` in hand, read as `P`. -/
def held {κ : Kind} {sp : Space} {s : Shape} {e : EltTy} (c : Thread nD τ) (b : Memref sig c.2.kind sp s e) (P : s.Idx → Elt F e) : sProp 𝕄 :=
  iprop(∃ f, ⌜b.view.read (Elt F) f = P⌝ ∗ b.view.loc c ↦[b.view.set]{fullShare} f)

section Chunk

variable (d : Dev nD) (c : Fin τ.nSC) (i : Fin τ.nSub) (bp bt : Memref sig .scVector .vmem S4x12x207 .f32)

/-- Both buffers of a chunk in hand. -/
abbrev both (P T : Chunk F) : sProp 𝕄 := iprop(held (κ := .scVector) (V d c i) bp P ∗ held (κ := .scVector) (V d c i) bt T)

theorem wp_vecStep (P T : Chunk F) (r : Fin 4) (cc : Fin 12) (k : Fin 13) (a : Acc F) (Φ : Acc F → sProp 𝕄) :
    both d c i bp bt P T
      ⊢ iprop((both d c i bp bt P T -∗ Φ (stepV P T r cc k a))
        -∗ wp frame (wpE (defs₀ (F := F)) 𝒱₀ (V d c i) none) Set.univ (vecStep bp bt r cc k a) Φ) := by
  unfold both held vecStep
  simp only [wp_bind, wp_pure]
  iintro ⟨⟨%f, %hf, Hp⟩, %g, %hg, Ht⟩ Hk
  iapply (wp_load 𝒱₀ (V d c i) none Set.univ (View.setOn_subset_set _ _)) $$ Hp
  iintro Hp
  rw [wp_ret]
  imodintro
  iapply (wp_load 𝒱₀ (V d c i) none Set.univ (View.setOn_subset_set _ _)) $$ Ht
  iintro Ht
  rw [wp_ret]
  imodintro
  imodintro
  have e : (bump k.val a (shapeCast S16 (bp.view.readAt (Elt F) (Rect.unit (s := S4x12x207) (off r.val cc.val k.val) S1x1x16.size (off_inb r cc k)).toLoadRect f : FVec F S1x1x16 .f32) shapeCasts_S1x1x16_S16)
      (shapeCast S16 (bt.view.readAt (Elt F) (Rect.unit (s := S4x12x207) (off r.val cc.val k.val) S1x1x16.size (off_inb r cc k)).toLoadRect g : FVec F S1x1x16 .f32) shapeCasts_S1x1x16_S16))
      = stepV P T r cc k a := by rw [← hf, ← hg]; rfl
  iapply (Entails.of_eq (congrArg Φ e.symm))
  iapply Hk
  isplitl [Hp]
  · iexists f; isplitr; · ipureintro; exact hf
    iexact Hp
  · iexists g; isplitr; · ipureintro; exact hg
    iexact Ht

/-- A step's rule carried along a list. -/
theorem wp_runOver {ι : Type} {p : Proc τ} {R : sProp 𝕄}
    (wpP : Prog (TpuEff nD τ sig (Elt F) Λ₀ p) (Acc F) → (Acc F → sProp 𝕄) → sProp 𝕄)
    (hb : ∀ (x : Prog (TpuEff nD τ sig (Elt F) Λ₀ p) (Acc F)) (y : Acc F → Prog (TpuEff nD τ sig (Elt F) Λ₀ p) (Acc F)) Φ, wpP (x >>= y) Φ = wpP x fun b => wpP (y b) Φ)
    (hp : ∀ a Φ, Φ a ⊢ wpP (pure a) Φ)
    (f : ι → Acc F → Prog (TpuEff nD τ sig (Elt F) Λ₀ p) (Acc F)) (v : ι → Acc F → Acc F)
    (hf : ∀ x a Φ, R ⊢ iprop((R -∗ Φ (v x a)) -∗ wpP (f x a) Φ)) :
    ∀ (l : List ι) (a : Acc F) (Φ : Acc F → sProp 𝕄), R ⊢ iprop((R -∗ Φ (l.foldl (fun a x => v x a) a)) -∗ wpP (runOver f l a) Φ) := by
  intro l
  induction l with
  | nil =>
    intro a Φ
    show R ⊢ iprop((R -∗ Φ a) -∗ wpP (pure a) Φ)
    iintro HR Hk
    iapply (hp a Φ)
    iapply Hk
    iexact HR
  | cons x l ih =>
    intro a Φ
    show R ⊢ iprop(_ -∗ wpP (f x a >>= fun b => runOver f l b) Φ)
    rw [hb]
    iintro HR Hk
    iapply (hf x a) $$ HR
    iintro HR
    iapply (ih (v x a) Φ) $$ HR
    iexact Hk

set_option maxRecDepth 16384 in
theorem wp_rowBody (P T : Chunk F) (r : Fin 4) (a : Acc F) (Φ : Acc F → sProp 𝕄) :
    both d c i bp bt P T
      ⊢ iprop((both d c i bp bt P T -∗ Φ (rowV P T r a))
        -∗ wp frame (wpE (defs₀ (F := F)) 𝒱₀ (V d c i) none) Set.univ (rowBody bp bt r a) Φ) := by
  have hb : ∀ (x : Prog (TpuEff nD τ sig (Elt F) Λ₀ (V d c i).2) (Acc F)) (y : Acc F → Prog (TpuEff nD τ sig (Elt F) Λ₀ (V d c i).2) (Acc F)) (Φ : Acc F → sProp 𝕄),
      wp frame (wpE (defs₀ (F := F)) 𝒱₀ (V d c i) none) Set.univ (x >>= y) Φ
        = wp frame (wpE (defs₀ (F := F)) 𝒱₀ (V d c i) none) Set.univ x fun b => wp frame (wpE (defs₀ (F := F)) 𝒱₀ (V d c i) none) Set.univ (y b) Φ :=
    fun x y Φ => by rw [wp_bind]
  have hp : ∀ (a : Acc F) (Φ : Acc F → sProp 𝕄), Φ a ⊢ wp frame (wpE (defs₀ (F := F)) 𝒱₀ (V d c i) none) Set.univ (pure a) Φ := fun a Φ => by
    rw [wp_pure]; iintro H; imodintro; iexact H
  have hs : ∀ (cc : Fin 12) (a : Acc F) (Φ : Acc F → sProp 𝕄), both d c i bp bt P T
      ⊢ iprop((both d c i bp bt P T -∗ Φ (subV P T r cc a))
        -∗ wp frame (wpE (defs₀ (F := F)) 𝒱₀ (V d c i) none) Set.univ (runOver (fun k => vecStep bp bt r cc k) vecs a) Φ) := fun cc a Φ =>
    wp_runOver (p := (V d c i).2) (R := both d c i bp bt P T) (fun x Φ => wp frame (wpE (defs₀ (F := F)) 𝒱₀ (V d c i) none) Set.univ x Φ) hb hp
      (fun k => vecStep bp bt r cc k) (fun k a => stepV P T r cc k a) (fun k a Φ => wp_vecStep d c i bp bt P T r cc k a Φ) vecs a Φ
  rw [rowBody, rowV]
  exact wp_runOver (p := (V d c i).2) (R := both d c i bp bt P T) (fun x Φ => wp frame (wpE (defs₀ (F := F)) 𝒱₀ (V d c i) none) Set.univ x Φ) hb hp
    (fun cc => runOver (fun k => vecStep bp bt r cc k) vecs) (fun cc a => subV P T r cc a) hs subs a Φ

set_option maxRecDepth 16384 in
/-- A chunk's rows are added up. -/
theorem wp_chunk (P T : Chunk F) (a : Acc F) (Φ : Acc F → sProp 𝕄) :
    both d c i bp bt P T
      ⊢ iprop((both d c i bp bt P T -∗ Φ (chunkV P T a))
        -∗ wp frame (wpE (defs₀ (F := F)) 𝒱₀ (V d c i) none) Set.univ (chunk bp bt a) Φ) := by
  unfold chunk
  have hbody : ∀ (r : Fin (Scf.trips rowLoop.lb rowLoop.ub rowLoop.st)) (a' : Acc F), iprop(⌜a' = rowsV P T r.val a⌝ ∗ both d c i bp bt P T)
      ⊢ wp frame (wpE (defs₀ (F := F)) 𝒱₀ (V d c i) none) Set.univ (rowBody bp bt ⟨r.val, Nat.lt_of_lt_of_eq r.isLt rowLoop_trips⟩ a')
          (fun b => iprop(⌜b = rowsV P T (r.val + 1) a⌝ ∗ both d c i bp bt P T)) := by
    intro r a'
    iintro ⟨%ha, HR⟩
    iapply (wp_rowBody d c i bp bt P T _ a') $$ HR
    iintro HR
    isplitr
    · ipureintro
      rw [ha, rowsV_succ P T r.val (Nat.lt_of_lt_of_eq r.isLt rowLoop_trips)]
    · iexact HR
  iintro HR Hk
  iapply (Scf.wp_for frame (wpE (defs₀ (F := F)) 𝒱₀ (V d c i) none) Set.univ rowLoop.lb rowLoop.ub rowLoop.st rowLoop_ok a
    (fun r a => rowBody bp bt ⟨r.val, Nat.lt_of_lt_of_eq r.isLt rowLoop_trips⟩ a)
    (fun n a' => iprop(⌜a' = rowsV P T n a⌝ ∗ both d c i bp bt P T)) hbody)
  isplitl [HR]
  · isplitr; · ipureintro; rfl
    iexact HR
  iintro %a' ⟨%ha, HR⟩
  have e : a' = chunkV P T a := by
    rw [ha, show Scf.trips rowLoop.lb rowLoop.ub rowLoop.st = 4 by decide, chunkV]
  rw [e]
  iapply Hk
  iexact HR

end Chunk

end Cert.Proof.Run

end
-- ==== Proof.Streams.lean ====
/-
  A stream: two arrays read four rows at a time into a pair of buffers, both copies counted on one semaphore.

  A stream is idle (the buffers and the semaphore in hand), flying (both copies started: a batch of two), or landed
  (the buffers hold the four rows from some row on). `wp_start` takes idle to flying, `wp_wait1` and `wp_wait2`
  take flying to landed.
-/
module

public import proofs.«01_k».proof.Proof.ChunkRun

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.BI.BIBase Idealize.SL.BI.Laws Idealize.SL.ProofMode
open Idealize.SL.Sem
open scoped Idealize.SL.BI

variable {F : FTy → Type} [FloatOps F]

local notation "𝕄" => MM F

/-- Four rows of an array, at offsets `o`. -/
abbrev rowsAt (A : Memref sig .scVector .hbm S4096x12x207 .f32) (o : Fin 3 → ℕ) (h : ∀ a, o a + S4x12x207.size a ≤ S4096x12x207.size a) :
    Memref sig .scVector .hbm S4x12x207 .f32 :=
  A.slice (Rect.unit (s := S4096x12x207) o S4x12x207.size h) (fun _ => rfl)

/-- Offsets `o` begin row `n`. -/
def AtRow (o : Fin 3 → ℕ) (n : ℕ) : Prop := o 0 = n ∧ o 1 = 0 ∧ o 2 = 0

/-- What those four rows read. -/
theorem read_rowsAt (A : Memref sig .scVector .hbm S4096x12x207 .f32) (o : Fin 3 → ℕ) (h : ∀ a, o a + S4x12x207.size a ≤ S4096x12x207.size a)
    {n : ℕ} (hn : AtRow o n) (f : A.view.ty.Contents (Elt F)) :
    (rowsAt A o h).view.read (Elt F) f = rowsFrom (A.view.read (Elt F) f) n := by
  funext x
  have e : (Rect.unit (s := S4096x12x207) o S4x12x207.size h).idx x
      = (fun | 0 => Fin.ofNat 4096 (n + (x 0).val) | 1 => x 1 | 2 => x 2 : S4096x12x207.Idx) := by
    obtain ⟨h0, h1, h2⟩ := hn
    have hb : o 0 + 4 ≤ 4096 := h 0
    have hx : (x 0).val < 4 := (x 0).isLt
    funext a
    apply Fin.ext
    match a with
    | 0 =>
      show o 0 + 1 * (x 0).val = (n + (x 0).val) % 4096
      rw [Nat.mod_eq_of_lt (by omega)]; omega
    | 1 =>
      show o 1 + 1 * (x 1).val = (x 1).val
      omega
    | 2 =>
      show o 2 + 1 * (x 2).val = (x 2).val
      omega
  show A.view.read (Elt F) f ((Rect.unit (s := S4096x12x207) o S4x12x207.size h).idx x) = _
  rw [e]; rfl

/-- The two arrays, the two buffers and the semaphore of a stream on one subcore, with the share of the arrays it reads
    at and their contents. -/
structure Stream (F : FTy → Type) [FloatOps F] (d : Dev nD) (c : Fin τ.nSC) (i : Fin τ.nSub) where
  A : Memref sig .scVector .hbm S4096x12x207 .f32
  B : Memref sig .scVector .hbm S4096x12x207 .f32
  p : Memref sig .scVector .vmem S4x12x207 .f32
  t : Memref sig .scVector .vmem S4x12x207 .f32
  sm : DmaSem sig
  q : PosShare TreeShare
  f : Buf (Elt F) (A.view.loc (V d c i))
  g : Buf (Elt F) (B.view.loc (V d c i))
  hN : t.view.dmaCredit = p.view.dmaCredit
  hN0 : 0 < p.view.dmaCredit

namespace Stream

variable {d : Dev nD} {c : Fin τ.nSC} {i : Fin τ.nSub} (s : Stream F d c i)

/-- What one copy delivers: the buffer filled, and the rows read from back. -/
def deliver (A : Memref sig .scVector .hbm S4096x12x207 .f32) (b : Memref sig .scVector .vmem S4x12x207 .f32) (q : PosShare TreeShare)
    (f : Buf (Elt F) (A.view.loc (V d c i))) (o : Fin 3 → ℕ) (h : ∀ a, o a + S4x12x207.size a ≤ S4096x12x207.size a) : sProp 𝕄 :=
  iprop((∃ g : Buf (Elt F) (b.view.loc (V d c i)), ⌜b.view.read (Elt F) g = (rowsAt A o h).view.read (Elt F) f⌝ ∗ b.view.loc (V d c i) ↦[b.view.set]{fullShare} g)
    ∗ ((rowsAt A o h).view.loc (V d c i) ↦[(rowsAt A o h).view.set]{q} f))

instance deliver_storable (A : Memref sig .scVector .hbm S4096x12x207 .f32) (b : Memref sig .scVector .vmem S4x12x207 .f32) (q : PosShare TreeShare)
    (f : Buf (Elt F) (A.view.loc (V d c i))) (o : Fin 3 → ℕ) (h : ∀ a, o a + S4x12x207.size a ≤ S4096x12x207.size a) :
    BI.Storable (upEmb : UEmb _ 𝕄) (deliver (d := d) (c := c) (i := i) A b q f o h) := by
  unfold deliver; infer_instance

/-- The two copies' deliveries. -/
def dl (o : Fin 3 → ℕ) (h : ∀ a, o a + S4x12x207.size a ≤ S4096x12x207.size a) : Fin 2 → sProp 𝕄
  | 0 => deliver (d := d) (c := c) (i := i) s.A s.p s.q s.f o h
  | 1 => deliver (d := d) (c := c) (i := i) s.B s.t s.q s.g o h

instance dl_storable (o : Fin 3 → ℕ) (h : ∀ a, o a + S4x12x207.size a ≤ S4096x12x207.size a) (t : Fin 2) :
    BI.Storable (upEmb : UEmb _ 𝕄) (s.dl o h t) := by
  match t with
  | 0 => exact deliver_storable s.A s.p s.q s.f o h
  | 1 => exact deliver_storable s.B s.t s.q s.g o h

/-- The arrays at the stream's share. -/
def arrays : sProp 𝕄 :=
  iprop((s.A.view.loc (V d c i) ↦[s.A.view.set]{s.q} s.f) ∗ (s.B.view.loc (V d c i) ↦[s.B.view.set]{s.q} s.g))

/-- A buffer in hand, whatever it holds. -/
def anyBuf (b : Memref sig .scVector .vmem S4x12x207 .f32) : sProp 𝕄 :=
  iprop(∃ g : Buf (Elt F) (b.view.loc (V d c i)), b.view.loc (V d c i) ↦[b.view.set]{fullShare} g)

/-- Nothing started. -/
def idle : sProp 𝕄 :=
  iprop(s.arrays ∗ (anyBuf (d := d) (c := c) (i := i) s.p ∗ anyBuf (d := d) (c := c) (i := i) s.t) ∗ semVal (V d c i, .dma s.sm) 0)

/-- Both copies of the four rows from row `n` on started, `u` units waited for. -/
def flying (n u : ℕ) : sProp 𝕄 :=
  iprop(∃ (o : Fin 3 → ℕ) (h : ∀ a, o a + S4x12x207.size a ≤ S4096x12x207.size a), ⌜AtRow o n⌝
    ∗ Transfers.Batch countersEmb (V d c i) (.dma s.sm) (default : HIx 1) s.p.view.dmaCredit (s.dl o h) 2 u
    ∗ (s.A.view.loc (V d c i) ↦[s.A.view.set \ (rowsAt s.A o h).view.set]{s.q} s.f)
    ∗ (s.B.view.loc (V d c i) ↦[s.B.view.set \ (rowsAt s.B o h).view.set]{s.q} s.g))

/-- Both copies landed: the buffers hold the four rows from row `n` on. -/
def landed (n : ℕ) : sProp 𝕄 :=
  iprop(s.arrays ∗ both d c i s.p s.t (rowsFrom (s.A.view.read (Elt F) s.f) n) (rowsFrom (s.B.view.read (Elt F) s.g) n)
    ∗ semVal (V d c i, .dma s.sm) 0)

theorem idle_of_landed (n : ℕ) : s.landed n ⊢ s.idle := by
  unfold landed idle both held anyBuf
  iintro ⟨HA, ⟨⟨%f, -, Hp⟩, %g, -, Ht⟩, Hs⟩
  isplitl [HA]; · iexact HA
  isplitl [Hp Ht]
  · isplitl [Hp]
    · iexists f; iexact Hp
    · iexists g; iexact Ht
  iexact Hs

/-- What a copy leaves is its delivery. -/
theorem deliver_intro (A : Memref sig .scVector .hbm S4096x12x207 .f32) (b : Memref sig .scVector .vmem S4x12x207 .f32) (q : PosShare TreeShare)
    (f : Buf (Elt F) (A.view.loc (V d c i))) (o : Fin 3 → ℕ) (h : ∀ a, o a + S4x12x207.size a ≤ S4096x12x207.size a)
    (g : Buf (Elt F) (b.view.loc (V d c i))) :
    iprop((b.view.loc (V d c i) ↦[b.view.set]{fullShare} (b.view.write (Elt F) g (ReadAs.same.apply ((rowsAt A o h).view.read (Elt F) f)) Finset.univ))
        ∗ ((rowsAt A o h).view.loc (V d c i) ↦[(rowsAt A o h).view.set]{q} f))
      ⊢ deliver (d := d) (c := c) (i := i) A b q f o h := by
  unfold deliver
  iintro ⟨Hb, Hs⟩
  isplitl [Hb]
  · iexists _
    isplitr
    swap
    · iexact Hb
    · ipureintro
      rw [View.read_write_univ]
  · iexact Hs

theorem wp_start (o : Fin 3 → ℕ) (h h' : ∀ a, o a + S4x12x207.size a ≤ S4096x12x207.size a) {n : ℕ} (hn : AtRow o n)
    {w1 : (rowsAt s.A o h).view.WordExact} {w2 : s.p.view.WordExact} {w3 : DmaTarget.Typed (nD := nD) .hbm (.dma s.sm) (.here s.p : DmaTarget (nD := nD) (τ := τ) (sig := sig) (V d c i).2 .vmem S4x12x207 .f32)}
    {w4 : (rowsAt s.B o h').view.WordExact} {w5 : s.t.view.WordExact} {w6 : DmaTarget.Typed (nD := nD) .hbm (.dma s.sm) (.here s.t : DmaTarget (nD := nD) (τ := τ) (sig := sig) (V d c i).2 .vmem S4x12x207 .f32)} (Φ : sProp 𝕄) :
    s.idle ⊢ iprop((s.flying n 0 -∗ Φ)
      -∗ wp frame (wpE (defs₀ (F := F)) 𝒱₀ (V d c i) none) Set.univ
          (Prog.lift (.enqueueDma (rowsAt s.A o h) (.here s.p) (.dma s.sm) w1 w2 w3)) fun _ =>
            wp frame (wpE (defs₀ (F := F)) 𝒱₀ (V d c i) none) Set.univ
              (Prog.lift (.enqueueDma (rowsAt s.B o h') (.here s.t) (.dma s.sm) w4 w5 w6)) fun _ => Φ) := by
  unfold idle arrays anyBuf
  iintro ⟨⟨HA, HB⟩, ⟨⟨%gp, Hp⟩, %gt, Ht⟩, Hs⟩ Hk
  imod (Transfers.batch_alloc' countersEmb (V d c i) (default : HIx 1) s.p.view.dmaCredit (s.dl o h) (sm := .dma s.sm) (E := Set.univ)) $$ Hs with Hb
  ihave HA' := (pointsTo_split_subset (q := s.q) (f := s.f) (S := s.A.view.set) (View.set_slice_subset (v := s.A.view) (Rect.unit (s := S4096x12x207) o S4x12x207.size h))).1 $$ HA
  icases HA' with ⟨HA, HAr⟩
  ihave HB' := (pointsTo_split_subset (q := s.q) (f := s.g) (S := s.B.view.set) (View.set_slice_subset (v := s.B.view) (Rect.unit (s := S4096x12x207) o S4x12x207.size h))).1 $$ HB
  icases HB' with ⟨HB, HBr⟩
  iapply (Transfers.wp_dmaBatch countersEmb 𝒱₀ (V d c i) none (src := rowsAt s.A o h) (dst := s.p) (sm := .dma s.sm) (Sd := s.p.view.set) (D := s.dl o h)
    (default : HIx 1) s.p.view.dmaCredit rfl (Finset.Subset.refl _) (show 0 < 2 by decide) (Nat.zero_le _) (deliver_intro s.A s.p s.q s.f o h gp)) $$ [HA Hp Hb]
  · isplitl [HA]; · iexact HA
    isplitl [Hp]; · iexact Hp
    iexact Hb
  iintro Hb
  rw [wp_ret]
  imodintro
  iapply (Transfers.wp_dmaBatch countersEmb 𝒱₀ (V d c i) none (src := rowsAt s.B o h) (dst := s.t) (sm := .dma s.sm) (Sd := s.t.view.set) (D := s.dl o h)
    (default : HIx 1) s.p.view.dmaCredit s.hN (Finset.Subset.refl _) (show 1 < 2 by decide) (Nat.zero_le _) (deliver_intro s.B s.t s.q s.g o h gt)) $$ [HB Ht Hb]
  · isplitl [HB]; · iexact HB
    isplitl [Ht]; · iexact Ht
    iexact Hb
  iintro Hb
  rw [wp_ret]
  imodintro
  iapply Hk
  unfold flying
  iexists o, h
  isplitr; · ipureintro; exact hn
  isplitl [Hb]; · iexact Hb
  isplitl [HAr]; · iexact HAr
  iexact HBr

/-- What a core owes, with the waits it has recorded since. -/
def owesN (thr : Thread nD τ) (O : CellTallies nD τ sig (HIx 1)) (W : Waits sig (HIx 1)) : sProp 𝕄 :=
  iprop(∃ W', ⌜∀ p ∈ W', p ∈ W ∨ p.2 = none⌝ ∗ owes thr O W')

theorem wp_wait1 (n : ℕ) {O : CellTallies nD τ sig (HIx 1)} {W : Waits sig (HIx 1)} {sp' : Space} {s' : Shape} {e' : EltTy}
    {src : Memref sig .scVector sp' s' e'} {w1 : src.view.WordExact} {w2 : s.p.view.WordExact} (Φ : sProp 𝕄) :
    iprop(s.flying n 0 ∗ owesN (V d c i) O W ∗ Transfers.MayWaits (V d c i) (default : HIx 1) O)
      ⊢ iprop((s.flying n s.p.view.dmaCredit ∗ owesN (V d c i) O W -∗ Φ)
      -∗ wp frame (wpE (defs₀ (F := F)) 𝒱₀ (V d c i) none) Set.univ (Prog.lift (.waitDma2 s.sm src s.p w1 w2)) fun _ => Φ) := by
  have h0 := s.hN0
  unfold flying owesN
  iintro ⟨⟨%o, %h, %hn, Hb, HA, HB⟩, ⟨%W', %hW, HO⟩, #Hmw⟩ Hk
  iapply (Transfers.wp_waitBatchO countersEmb 𝒱₀ (V d c i) none (n := 2) (D := s.dl o h) (u := 0) (default : HIx 1) (rfl : s.p.view.dmaCredit = _) (by omega)) $$ [Hb HO]
  · isplitl [Hb]; · iexact Hb
    isplitl [HO]; · iexact HO
    iapply (Transfers.MayWaits.elim (SemLoc.dma s.sm)) $$ Hmw
  iintro ⟨Hb, HO⟩
  rw [wp_ret]
  imodintro
  iapply Hk
  isplitl [Hb HA HB]
  · iexists o, h
    isplitr; · ipureintro; exact hn
    isplitl [Hb]
    · rw [Nat.zero_add]; iexact Hb
    isplitl [HA]; · iexact HA
    iexact HB
  · iexists _
    isplitr
    swap
    · iexact HO
    · ipureintro
      intro p hp
      rcases Finset.mem_insert.mp hp with rfl | hp
      · exact Or.inr rfl
      · exact hW p hp

theorem wp_wait2 (n : ℕ) {O : CellTallies nD τ sig (HIx 1)} {W : Waits sig (HIx 1)} {sp' : Space} {s' : Shape} {e' : EltTy}
    {src : Memref sig .scVector sp' s' e'} {w1 : src.view.WordExact} {w2 : s.t.view.WordExact} (Φ : sProp 𝕄) :
    iprop(s.flying n s.p.view.dmaCredit ∗ owesN (V d c i) O W ∗ Transfers.MayWaits (V d c i) (default : HIx 1) O)
      ⊢ iprop((s.landed n ∗ owesN (V d c i) O W -∗ Φ)
      -∗ wp frame (wpE (defs₀ (F := F)) 𝒱₀ (V d c i) none) Set.univ (Prog.lift (.waitDma2 s.sm src s.t w1 w2)) fun _ => Φ) := by
  have h0 := s.hN0
  unfold flying owesN
  iintro ⟨⟨%o, %h, %hn, Hb, HA, HB⟩, ⟨%W', %hW, HO⟩, #Hmw⟩ Hk
  iapply (Transfers.wp_waitBatchLastO countersEmb 𝒱₀ (V d c i) none (n := 2) (D := s.dl o h) (u := s.p.view.dmaCredit) (default : HIx 1) s.hN h0 (by omega)) $$ [Hb HO]
  · isplitl [Hb]; · iexact Hb
    isplitl [HO]; · iexact HO
    iapply (Transfers.MayWaits.elim (SemLoc.dma s.sm)) $$ Hmw
  iintro ⟨HD, Hs, HO⟩
  rw [wp_ret]
  imodintro
  iapply Hk
  isplitl [HD HA HB Hs]
  · unfold landed arrays both held
    ihave HD' := (show bigSep Finset.univ (s.dl o h) ⊢ iprop(deliver (d := d) (c := c) (i := i) s.A s.p s.q s.f o h ∗ deliver (d := d) (c := c) (i := i) s.B s.t s.q s.g o h) from by
      rw [show (Finset.univ : Finset (Fin 2)) = insert 0 {1} by decide, bigSep_insert (by decide), bigSep_singleton]
      exact Entails.rfl) $$ HD
    unfold deliver
    icases HD' with ⟨⟨⟨%gp, %hp, Hp⟩, HAs⟩, ⟨%gt, %ht, Ht⟩, HBs⟩
    isplitl [HA HB HAs HBs]
    · isplitl [HA HAs]
      · iapply (pointsTo_split_subset (q := s.q) (f := s.f) (S := s.A.view.set) (View.set_slice_subset (v := s.A.view) (Rect.unit (s := S4096x12x207) o S4x12x207.size h))).2
        isplitl [HAs]; · iexact HAs
        iexact HA
      · iapply (pointsTo_split_subset (q := s.q) (f := s.g) (S := s.B.view.set) (View.set_slice_subset (v := s.B.view) (Rect.unit (s := S4096x12x207) o S4x12x207.size h))).2
        isplitl [HBs]; · iexact HBs
        iexact HB
    isplitl [Hp Ht]
    · isplitl [Hp]
      · iexists gp; isplitr; · ipureintro; exact hp.trans (read_rowsAt s.A o h hn s.f)
        iexact Hp
      · iexists gt; isplitr; · ipureintro; exact ht.trans (read_rowsAt s.B o h hn s.g)
        iexact Ht
    iexact Hs
  · iexists _
    isplitr
    swap
    · iexact HO
    · ipureintro
      intro p hp
      rcases Finset.mem_insert.mp hp with rfl | hp
      · exact Or.inr rfl
      · exact hW p hp

end Stream

end Cert.Proof.Run

end
-- ==== Proof.RowRun.lean ====
/-
  The two result buffers: a row stored, and a buffer copied out.
-/
module

public import proofs.«01_k».proof.Proof.Streams
public import Idealize.ShloMosaic.Lib.Writes

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.BI.BIBase Idealize.SL.BI.Laws Idealize.SL.ProofMode
open Idealize.SL.Sem
open scoped Idealize.SL.BI

variable {F : FTy → Type} [FloatOps F]

local notation "𝕄" => MM F

/-- Row `r` replaced. -/
def setRow (r : ℕ) (v : V16 F) (P : S2x16.Idx → Elt F .f32) : S2x16.Idx → Elt F .f32 :=
  fun x => if (x 0).val = r then v (fun | 0 => x 1) else P x

/-- Row 0 and then row 1 stored leave the two rows. -/
theorem setRow_sum (a : Acc F) (P : S2x16.Idx → Elt F .f32) :
    setRow 1 a.2.2.2.2.2.2.1 (setRow 0 (addf (addf a.1 a.2.1) a.2.2.1) P) = sumRows a := by
  funext x
  have h : (x 0).val < 2 := (x 0).isLt
  unfold setRow sumRows
  by_cases h0 : (x 0).val = 0
  · rw [if_neg (by omega), if_pos h0, if_pos h0]; rfl
  · rw [if_pos (by omega), if_neg h0]; rfl

theorem setRow_cnt (a : Acc F) (P : S2x16.Idx → Elt F .f32) :
    setRow 1 a.2.2.2.2.2.2.2 (setRow 0 (addf (addf a.2.2.2.1 a.2.2.2.2.1) a.2.2.2.2.2.1) P) = cntRows a := by
  funext x
  have h : (x 0).val < 2 := (x 0).isLt
  unfold setRow cntRows
  by_cases h0 : (x 0).val = 0
  · rw [if_neg (by omega), if_pos h0, if_pos h0]; rfl
  · rw [if_pos (by omega), if_neg h0]; rfl

/-- A row of sixteen lanes, as the sixteen lanes. -/
theorem row_lane (v : V16 F) (x : S1x16.Idx) : (shapeCast S1x16 v shapeCasts_S16_S1x16 : FVec F S1x16 .f32) x = v (fun | 0 => x 1) :=
  congrArg v (by revert x; decide +kernel)

/-- What the buffer reads after the store. -/
theorem read_setRow (m : Memref sig .scVector .vmem S2x16 .f32) (r : ℕ) (h : ∀ a, (![r, 0] : Fin 2 → ℕ) a + S1x16.size a ≤ S2x16.size a)
    (v : V16 F) (f : m.view.ty.Contents (Elt F)) :
    m.view.read (Elt F) ((m.access (Rect.unit (s := S2x16) ![r, 0] S1x16.size h)).write (Elt F) f (shapeCast S1x16 v shapeCasts_S16_S1x16) Finset.univ)
      = setRow r v (m.view.read (Elt F) f) := by
  funext y
  unfold setRow
  by_cases hy : (y 0).val = r
  · rw [if_pos hy]
    have e : y = (Rect.unit (s := S2x16) ![r, 0] S1x16.size h).emb (fun | 0 => (0 : Fin 1) | 1 => y 1 : S1x16.Idx) := by
      funext a
      apply Fin.ext
      match a with
      | 0 => show (y 0).val = r + 1 * 0; omega
      | 1 => show (y 1).val = 0 + 1 * (y 1).val; omega
    conv_lhs => rw [e]
    exact (View.read_slice_write_emb (v := m.view) (Rect.unit (s := S2x16) ![r, 0] S1x16.size h) f _ (Finset.mem_univ _)).trans (row_lane v _)
  · rw [if_neg hy]
    refine View.read_slice_write_of_not_mem (v := m.view) (Rect.unit (s := S2x16) ![r, 0] S1x16.size h) f _ Finset.univ ?_
    intro hm
    obtain ⟨x, -, hx⟩ := Finset.mem_map.mp hm
    apply hy
    rw [← hx]
    have h0 : (x 0).val < 1 := (x 0).isLt
    show r + 1 * (x 0).val = r
    omega

section Rules

variable (d : Dev nD) (c : Fin τ.nSC) (i : Fin τ.nSub) (m : Memref sig .scVector .vmem S2x16 .f32)

theorem wp_loadRow (P : S2x16.Idx → Elt F .f32) {r : LoadRect S2x16} {hl : m.view.LoadsAt r} (Φ : sProp 𝕄) :
    held (κ := .scVector) (V d c i) m P ⊢ iprop((held (κ := .scVector) (V d c i) m P -∗ Φ)
      -∗ wp frame (wpE (defs₀ (F := F)) 𝒱₀ (V d c i) none) Set.univ (Prog.lift (.load m r hl)) fun _ => Φ) := by
  unfold held
  iintro ⟨%f, %hf, H⟩ Hk
  iapply (wp_load 𝒱₀ (V d c i) none Set.univ (View.setOn_subset_set _ _)) $$ H
  iintro H
  rw [wp_ret]
  imodintro
  iapply Hk
  iexists f; isplitr; · ipureintro; exact hf
  iexact H

theorem wp_storeRow (P : S2x16.Idx → Elt F .f32) (r : ℕ) (h : ∀ a, (![r, 0] : Fin 2 → ℕ) a + S1x16.size a ≤ S2x16.size a) (v : V16 F)
    {hx : (m.access (Rect.unit (s := S2x16) ![r, 0] S1x16.size h)).Stores Finset.univ} {hm : (Finset.univ : Finset S1x16.Idx) = Finset.univ ∨ ∀ a, (Rect.unit (s := S2x16) ![r, 0] S1x16.size h).stride a = 1} (Φ : sProp 𝕄) :
    held (κ := .scVector) (V d c i) m P ⊢ iprop((held (κ := .scVector) (V d c i) m (setRow r v P) -∗ Φ)
      -∗ wp frame (wpE (defs₀ (F := F)) 𝒱₀ (V d c i) none) Set.univ
          (Prog.lift (.store m (Rect.unit (s := S2x16) ![r, 0] S1x16.size h) (shapeCast S1x16 v shapeCasts_S16_S1x16) Finset.univ hx hm)) fun _ => Φ) := by
  unfold held
  iintro ⟨%f, %hf, H⟩ Hk
  iapply (wp_store 𝒱₀ (V d c i) none Set.univ (m := m) (r := Rect.unit (s := S2x16) ![r, 0] S1x16.size h) (S := m.view.set) (Memref.setOn_access_subset m (Rect.unit (s := S2x16) ![r, 0] S1x16.size h) Finset.univ)) $$ H
  iintro H
  rw [wp_ret]
  imodintro
  iapply Hk
  iexists _
  isplitr
  swap
  · iexact H
  · ipureintro
    rw [← hf]
    exact read_setRow m r h v f

/-- A buffer copied out: where the destination's elements are to read `P`, they do. -/
theorem wp_copyOut (P : S2x16.Idx → Elt F .f32) (dst : Memref sig .scVector .hbm S2x16 .f32) (sm : DmaSem sig) (fd G : Buf (Elt F) (dst.view.loc (V d c i)))
    (hG : dst.view.read (Elt F) G = P) (h0 : 0 < dst.view.dmaCredit)
    {O : CellTallies nD τ sig (HIx 1)} {W : Waits sig (HIx 1)}
    {w1 : m.view.WordExact} {w2 : dst.view.WordExact} {w3 : DmaTarget.Typed (nD := nD) .vmem (.dma sm) (.here dst : DmaTarget (nD := nD) (τ := τ) (sig := sig) (V d c i).2 .hbm S2x16 .f32)}
    {w4 : m.view.WordExact} {w5 : dst.view.WordExact} (Φ : sProp 𝕄) :
    iprop(held (κ := .scVector) (V d c i) m P ∗ (dst.view.loc (V d c i) ↦[dst.view.set]{fullShare} fd) ∗ semVal (V d c i, .dma sm) 0
        ∗ Stream.owesN (V d c i) O W ∗ Transfers.MayWaits (V d c i) (default : HIx 1) O)
      ⊢ iprop((held (κ := .scVector) (V d c i) m P ∗ (dst.view.loc (V d c i) ↦[dst.view.set]{fullShare} G) ∗ semVal (V d c i, .dma sm) 0
          ∗ Stream.owesN (V d c i) O W -∗ Φ)
      -∗ wp frame (wpE (defs₀ (F := F)) 𝒱₀ (V d c i) none) Set.univ
          (Prog.lift (.enqueueDma m (.here dst) (.dma sm) w1 w2 w3)) fun _ =>
            wp frame (wpE (defs₀ (F := F)) 𝒱₀ (V d c i) none) Set.univ (Prog.lift (.waitDma2 sm m dst w4 w5)) fun _ => Φ) := by
  unfold held Stream.owesN
  iintro ⟨⟨%f, %hf, Hm⟩, Hd, Hs, ⟨%W', %hW, HO⟩, #Hmw⟩ Hk
  iapply (Transfers.wp_dmaLocal countersEmb 𝒱₀ (V d c i) none (src := m) (dst := dst) (sm := .dma sm) (Sd := dst.view.set) (default : HIx 1) dst.view.dmaCredit rfl h0
    (Finset.Subset.refl _)) $$ [Hm Hd Hs]
  · isplitl [Hm]; · iexact Hm
    isplitl [Hd]; · iexact Hd
    iexact Hs
  iintro Hf
  rw [wp_ret]
  imodintro
  iapply (Transfers.wp_waitLocalO countersEmb 𝒱₀ (V d c i) none (default : HIx 1) (rfl : dst.view.dmaCredit = _)) $$ [Hf HO]
  · isplitl [Hf]; · iexact Hf
    isplitl [HO]; · iexact HO
    iapply (Transfers.MayWaits.elim (SemLoc.dma sm)) $$ Hmw
  iintro ⟨⟨Hd, Hm⟩, Hs, HO⟩
  rw [wp_ret]
  imodintro
  iapply Hk
  isplitl [Hm]
  · iexists f; isplitr; · ipureintro; exact hf
    iexact Hm
  isplitl [Hd]
  · have e : (dst.view.loc (V d c i) ↦[dst.view.set]{fullShare} (dst.view.write (Elt F) fd (ReadAs.same.apply (m.view.read (Elt F) f)) Finset.univ) : sProp 𝕄)
        = (dst.view.loc (V d c i) ↦[dst.view.set]{fullShare} G) := pointsTo_congr fun j hj => by
      obtain ⟨y, -, rfl⟩ := Finset.mem_map.mp hj
      rw [View.write_emb_of_mem _ _ (Finset.mem_univ y), show ReadAs.same.apply (m.view.read (Elt F) f) = m.view.read (Elt F) f from rfl, hf, ← hG, View.read_apply, cast_cast, cast_eq]
    iapply (Entails.of_eq e)
    iexact Hd
  isplitl [Hs]; · iexact Hs
  iexists _
  isplitr
  swap
  · iexact HO
  · ipureintro
    intro p hp
    rcases Finset.mem_insert.mp hp with rfl | hp
    · exact Or.inr rfl
    · exact hW p hp

end Rules

end Cert.Proof.Run

end
-- ==== Proof.TileRun.lean ====
/-
  One vector subcore's whole run, with the value: from the two arrays read at a share, its buffers and its two rows of
  each result, the kernel ends with the rows holding what `sumsOut` and `cntsOut` say.
-/
module

public import proofs.«01_k».proof.Proof.RowRun

@[expose] public section

set_option maxRecDepth 16384

noncomputable section

namespace Cert.Proof.Run

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.BI.BIBase Idealize.SL.BI.Laws Idealize.SL.ProofMode
open Idealize.SL.Sem
open scoped Idealize.SL.BI

variable {F : FTy → Type} [FloatOps F]

local notation "𝕄" => MM F

/-! ## The operands -/

abbrev mA : Memref sig .scVector .hbm S4096x12x207 .f32 := Memref.whole main_arg0_scv
abbrev mB : Memref sig .scVector .hbm S4096x12x207 .f32 := Memref.whole main_arg1_scv
abbrev mS : Memref sig .scVector .hbm S32x2x16 .f32 := Memref.whole main_v0_0_scv
abbrev mC : Memref sig .scVector .hbm S32x2x16 .f32 := Memref.whole main_v0_1_scv
abbrev b0 : Memref sig .scVector .vmem S4x12x207 .f32 := Memref.whole cc0_scratch0
abbrev b1 : Memref sig .scVector .vmem S4x12x207 .f32 := Memref.whole cc0_scratch1
abbrev b2 : Memref sig .scVector .vmem S4x12x207 .f32 := Memref.whole cc0_scratch2
abbrev b3 : Memref sig .scVector .vmem S4x12x207 .f32 := Memref.whole cc0_scratch3
abbrev b4 : Memref sig .scVector .vmem S2x16 .f32 := Memref.whole cc0_scratch4
abbrev b5 : Memref sig .scVector .vmem S2x16 .f32 := Memref.whole cc0_scratch5
/-- Subcore `i`'s two rows of the sums, -/
abbrev rowS (i : grid0.Coords) : Memref sig .scVector .hbm S2x16 .f32 :=
  (mS.slice (Rect.unit (s := S32x2x16) (k0_off627 i) S1x2x16.size (Facts₀.k0_off627_inb i)) (fun _ => rfl)).squeeze S2x16 squeezes_S1x2x16_S2x16
/-- and of the counts. -/
abbrev rowC (i : grid0.Coords) : Memref sig .scVector .hbm S2x16 .f32 :=
  (mC.slice (Rect.unit (s := S32x2x16) (k0_off627 i) S1x2x16.size (Facts₀.k0_off627_inb i)) (fun _ => rfl)).squeeze S2x16 squeezes_S1x2x16_S2x16

/-- The subcore's number. -/
def wid (i : grid0.Coords) : ℕ := 2 * (i 1).val + (i 0).val

abbrev cI (i : grid0.Coords) : Fin τ.nSC := (i 0).castLE Facts₀.hcore0
abbrev jI (i : grid0.Coords) : Fin τ.nSub := (i 1).castLE Facts₀.hsub0

theorem atRow_head0 (i : grid0.Coords) : AtRow (k0_off1 i 0#32) (base (wid i) + 4 * 0) := by
  have e := Cert.KernelIdeal.Gen.k0_off1_eq i ⟨0, by decide⟩
  have e' : k0_off1 i 0#32 = ![64 * (i 1).val + 32 * (i 0).val + 4 * 0, 0, 0] := e
  rw [e']
  exact ⟨by show 64 * (i 1).val + 32 * (i 0).val + 4 * 0 = _; unfold base wid; omega, rfl, rfl⟩
theorem atRow_head1 (i : grid0.Coords) : AtRow (k0_off1 i 4#32) (base (wid i) + 4 * 1) := by
  have e := Cert.KernelIdeal.Gen.k0_off1_eq i ⟨1, by decide⟩
  have e' : k0_off1 i 4#32 = ![64 * (i 1).val + 32 * (i 0).val + 4 * 1, 0, 0] := e
  rw [e']
  exact ⟨by show 64 * (i 1).val + 32 * (i 0).val + 4 * 1 = _; unfold base wid; omega, rfl, rfl⟩
theorem atRow_trip0 (i : grid0.Coords) (g : Fin k0_t1_loop.trips) : AtRow (k0_off158 i g 2#32) (base (wid i) + 4 * (2 * (g.val + 1))) := by
  have e := Cert.KernelIdeal.Gen.k0_off158_eq i g ⟨0, by decide⟩
  have e' : k0_off158 i g 2#32 = ![64 * (i 1).val + 32 * (i 0).val + 8 * g.val + 4 * 0 + 8, 0, 0] := e
  rw [e']
  exact ⟨by show 64 * (i 1).val + 32 * (i 0).val + 8 * g.val + 4 * 0 + 8 = _; unfold base wid; omega, rfl, rfl⟩
theorem atRow_trip1 (i : grid0.Coords) (g : Fin k0_t1_loop.trips) : AtRow (k0_off158 i g 3#32) (base (wid i) + 4 * (2 * (g.val + 1) + 1)) := by
  have e := Cert.KernelIdeal.Gen.k0_off158_eq i g ⟨1, by decide⟩
  have e' : k0_off158 i g 3#32 = ![64 * (i 1).val + 32 * (i 0).val + 8 * g.val + 4 * 1 + 8, 0, 0] := e
  rw [e']
  exact ⟨by show 64 * (i 1).val + 32 * (i 0).val + 8 * g.val + 4 * 1 + 8 = _; unfold base wid; omega, rfl, rfl⟩

section Run

variable (d : Dev nD) (i : grid0.Coords) (q0 q1 : PosShare TreeShare)
  (fA : Buf (Elt F) (mA.view.loc (V d (cI i) (jI i)))) (fB : Buf (Elt F) (mB.view.loc (V d (cI i) (jI i))))

/-- The first pair of buffers' stream -/
abbrev st0 : Stream F d (cI i) (jI i) where
  A := mA
  B := mB
  p := b0
  t := b1
  sm := cc0_scratch6.sem
  q := q0
  f := fA
  g := fB
  hN := rfl
  hN0 := by decide
/-- and the second's. -/
abbrev st1 : Stream F d (cI i) (jI i) where
  A := mA
  B := mB
  p := b2
  t := b3
  sm := cc0_scratch7.sem
  q := q1
  f := fA
  g := fB
  hN := rfl
  hN0 := by decide

/-- The landed rows added up. -/
theorem Stream.wp_add {d : Dev nD} {c : Fin τ.nSC} {j : Fin τ.nSub} (s : Stream F d c j) (n : ℕ) (a : Acc F) (Φ : Acc F → sProp 𝕄) :
    s.landed n ⊢ iprop((s.idle -∗ Φ (chunkV (rowsFrom (s.A.view.read (Elt F) s.f) n) (rowsFrom (s.B.view.read (Elt F) s.g) n) a))
      -∗ wp frame (wpE (defs₀ (F := F)) 𝒱₀ (V d c j) none) Set.univ (chunk s.p s.t a) Φ) := by
  iintro H Hk
  unfold Stream.landed
  icases H with ⟨HA, HB, Hs⟩
  iapply (wp_chunk d c j s.p s.t _ _ a Φ) $$ HB
  iintro HB
  iapply Hk
  iapply (s.idle_of_landed n)
  unfold Stream.landed
  isplitl [HA]; · iexact HA
  isplitl [HB]; · iexact HB
  iexact Hs

variable (O : CellTallies nD τ sig (HIx 1)) (W : Waits sig (HIx 1))

abbrev mw : sProp 𝕄 := Transfers.MayWaits (V d (cI i) (jI i)) (default : HIx 1) O
abbrev ow : sProp 𝕄 := Stream.owesN (V d (cI i) (jI i)) O W

/-- After `n` of the chunks. -/
abbrev accAt (n : ℕ) : Acc F := chunksV (F := F) fA fB (wid i) n

/-- A trip adds two. -/
theorem accAt_trip (n : ℕ) : accAt d i fA fB (2 * (n + 1))
    = chunkV (rowsFrom ((st1 d i q1 fA fB).A.view.read (Elt F) (st1 d i q1 fA fB).f) (base (wid i) + 4 * (2 * n + 1)))
        (rowsFrom ((st1 d i q1 fA fB).B.view.read (Elt F) (st1 d i q1 fA fB).g) (base (wid i) + 4 * (2 * n + 1)))
        (chunkV (rowsFrom ((st0 d i q0 fA fB).A.view.read (Elt F) (st0 d i q0 fA fB).f) (base (wid i) + 4 * (2 * n)))
          (rowsFrom ((st0 d i q0 fA fB).B.view.read (Elt F) (st0 d i q0 fA fB).g) (base (wid i) + 4 * (2 * n))) (accAt d i fA fB (2 * n))) := rfl

/-- The last two. -/
theorem accAt_last : accAt d i fA fB 8
    = chunkV (rowsFrom ((st1 d i q1 fA fB).A.view.read (Elt F) (st1 d i q1 fA fB).f) (base (wid i) + 4 * 7))
        (rowsFrom ((st1 d i q1 fA fB).B.view.read (Elt F) (st1 d i q1 fA fB).g) (base (wid i) + 4 * 7))
        (chunkV (rowsFrom ((st0 d i q0 fA fB).A.view.read (Elt F) (st0 d i q0 fA fB).f) (base (wid i) + 4 * 6))
          (rowsFrom ((st0 d i q0 fA fB).B.view.read (Elt F) (st0 d i q0 fA fB).g) (base (wid i) + 4 * 6)) (accAt d i fA fB 6)) := rfl

theorem wp_trip (g : Fin k0_t1_loop.trips) (Φ : Acc F → sProp 𝕄) :
    iprop((st0 d i q0 fA fB).flying (base (wid i) + 4 * (2 * g.val)) 0 ∗ (st1 d i q1 fA fB).flying (base (wid i) + 4 * (2 * g.val + 1)) 0
        ∗ ow (F := F) d i O W ∗ mw (F := F) d i O)
      ⊢ iprop((((st0 d i q0 fA fB).flying (base (wid i) + 4 * (2 * (g.val + 1))) 0 ∗ (st1 d i q1 fA fB).flying (base (wid i) + 4 * (2 * (g.val + 1) + 1)) 0
          ∗ ow (F := F) d i O W) -∗ Φ (accAt d i fA fB (2 * (g.val + 1))))
        -∗ wp frame (wpE (defs₀ (F := F)) 𝒱₀ (V d (cI i) (jI i)) none) Set.univ
          (trip i mA mB b0 (Memref.isWhole_whole _) b1 (Memref.isWhole_whole _) b2 (Memref.isWhole_whole _) b3 (Memref.isWhole_whole _) cc0_scratch6 cc0_scratch7 g (accAt d i fA fB (2 * g.val))) Φ) := by
  unfold trip tripA
  simp only [wp_bind, wp_pure]
  iintro ⟨H0, H1, HO, #Hmw⟩ Hk
  iapply ((st0 d i q0 fA fB).wp_wait1 _ (O := O) (W := W)) $$ [H0 HO]
  · isplitl [H0]; · iexact H0
    isplitl [HO]; · iexact HO
    iexact Hmw
  iintro ⟨H0, HO⟩
  iapply ((st0 d i q0 fA fB).wp_wait2 _ (O := O) (W := W)) $$ [H0 HO]
  · isplitl [H0]; · iexact H0
    isplitl [HO]; · iexact HO
    iexact Hmw
  iintro ⟨H0, HO⟩
  iapply ((st0 d i q0 fA fB).wp_add _ _) $$ H0
  iintro H0
  iapply ((st0 d i q0 fA fB).wp_start _ _ _ (atRow_trip0 i g)) $$ H0
  iintro H0
  iapply ((st1 d i q1 fA fB).wp_wait1 _ (O := O) (W := W)) $$ [H1 HO]
  · isplitl [H1]; · iexact H1
    isplitl [HO]; · iexact HO
    iexact Hmw
  iintro ⟨H1, HO⟩
  imodintro
  iapply ((st1 d i q1 fA fB).wp_wait2 _ (O := O) (W := W)) $$ [H1 HO]
  · isplitl [H1]; · iexact H1
    isplitl [HO]; · iexact HO
    iexact Hmw
  iintro ⟨H1, HO⟩
  rw [unpackC_packC]
  iapply ((st1 d i q1 fA fB).wp_add _ _) $$ H1
  iintro H1
  iapply ((st1 d i q1 fA fB).wp_start _ _ _ (atRow_trip1 i g)) $$ H1
  iintro H1
  imodintro
  iapply (Entails.of_eq (congrArg Φ (accAt_trip d i q0 q1 fA fB g.val)))
  iapply Hk
  isplitl [H0]; · iexact H0
  isplitl [H1]; · iexact H1
  iexact HO

/-- Before trip `n`: both streams under way, two chunks added up a trip. -/
def loopInv (n : ℕ) (a : Acc F) : sProp 𝕄 :=
  iprop(⌜a = accAt d i fA fB (2 * n)⌝ ∗ (st0 d i q0 fA fB).flying (base (wid i) + 4 * (2 * n)) 0 ∗ (st1 d i q1 fA fB).flying (base (wid i) + 4 * (2 * n + 1)) 0
    ∗ ow (F := F) d i O W ∗ mw (F := F) d i O)

theorem wp_head (Φ : Pack F → sProp 𝕄) :
    iprop((st0 d i q0 fA fB).idle ∗ (st1 d i q1 fA fB).idle ∗ ow (F := F) d i O W ∗ mw (F := F) d i O)
      ⊢ iprop((((st0 d i q0 fA fB).flying (base (wid i) + 4 * 6) b0.view.dmaCredit ∗ (st1 d i q1 fA fB).flying (base (wid i) + 4 * 7) 0
          ∗ ow (F := F) d i O W) -∗ Φ (pack (accAt d i fA fB 6)))
        -∗ wp frame (wpE (defs₀ (F := F)) 𝒱₀ (V d (cI i) (jI i)) none) Set.univ
          (headProg i mA mB b0 (Memref.isWhole_whole _) b1 (Memref.isWhole_whole _) b2 (Memref.isWhole_whole _) b3 (Memref.isWhole_whole _) cc0_scratch6 cc0_scratch7) Φ) := by
  unfold headProg
  simp only [wp_bind, wp_pure]
  have hbody : ∀ (g : Fin (Scf.trips k0_t1_loop.lb k0_t1_loop.ub k0_t1_loop.st)) (a : Acc F), loopInv d i q0 q1 fA fB O W g.val a
      ⊢ wp frame (wpE (defs₀ (F := F)) 𝒱₀ (V d (cI i) (jI i)) none) Set.univ
          (trip i mA mB b0 (Memref.isWhole_whole _) b1 (Memref.isWhole_whole _) b2 (Memref.isWhole_whole _) b3 (Memref.isWhole_whole _) cc0_scratch6 cc0_scratch7 g a)
          (loopInv d i q0 q1 fA fB O W (g.val + 1)) := by
    intro g a
    unfold loopInv
    iintro ⟨%ha, H0, H1, HO, #Hmw⟩
    rw [ha]
    iapply (wp_trip d i q0 q1 fA fB O W g) $$ [H0 H1 HO]
    · isplitl [H0]; · iexact H0
      isplitl [H1]; · iexact H1
      isplitl [HO]; · iexact HO
      iexact Hmw
    iintro ⟨H0, H1, HO⟩
    isplitr; · ipureintro; rfl
    isplitl [H0]; · iexact H0
    isplitl [H1]; · iexact H1
    isplitl [HO]; · iexact HO
    iexact Hmw
  iintro ⟨H0, H1, HO, #Hmw⟩ Hk
  iapply ((st0 d i q0 fA fB).wp_start _ _ _ (atRow_head0 i)) $$ H0
  iintro H0
  iapply ((st1 d i q1 fA fB).wp_start _ _ _ (atRow_head1 i)) $$ H1
  iintro H1
  iapply (Scf.wp_for frame (wpE (defs₀ (F := F)) 𝒱₀ (V d (cI i) (jI i)) none) Set.univ k0_t1_loop.lb k0_t1_loop.ub k0_t1_loop.st Facts₀.k0_t1_ok (zeros : Acc F)
    (fun g a => trip i mA mB b0 (Memref.isWhole_whole _) b1 (Memref.isWhole_whole _) b2 (Memref.isWhole_whole _) b3 (Memref.isWhole_whole _) cc0_scratch6 cc0_scratch7 g a)
    (loopInv d i q0 q1 fA fB O W) hbody)
  isplitl [H0 H1 HO]
  · unfold loopInv
    isplitr; · ipureintro; rfl
    isplitl [H0]; · iexact H0
    isplitl [H1]; · iexact H1
    isplitl [HO]; · iexact HO
    iexact Hmw
  iintro %a HI
  rw [show Scf.trips k0_t1_loop.lb k0_t1_loop.ub k0_t1_loop.st = 3 by decide]
  unfold loopInv
  rw [show 2 * 3 = 6 from rfl, show 6 + 1 = 7 from rfl]
  icases HI with ⟨%ha, H0, H1, HO, -⟩
  rw [ha]
  iapply ((st0 d i q0 fA fB).wp_wait1 _ (O := O) (W := W)) $$ [H0 HO]
  · isplitl [H0]; · iexact H0
    isplitl [HO]; · iexact HO
    iexact Hmw
  iintro ⟨H0, HO⟩
  imodintro
  iapply Hk
  isplitl [H0]; · iexact H0
  isplitl [H1]; · iexact H1
  iexact HO

theorem wp_mid (P0 P1 : S2x16.Idx → Elt F .f32) (Φ : V16 F → sProp 𝕄) :
    iprop((st0 d i q0 fA fB).flying (base (wid i) + 4 * 6) b0.view.dmaCredit ∗ (st1 d i q1 fA fB).flying (base (wid i) + 4 * 7) 0
        ∗ held (κ := .scVector) (V d (cI i) (jI i)) b4 P0 ∗ held (κ := .scVector) (V d (cI i) (jI i)) b5 P1
        ∗ ow (F := F) d i O W ∗ mw (F := F) d i O)
      ⊢ iprop((((st0 d i q0 fA fB).idle ∗ (st1 d i q1 fA fB).idle
          ∗ held (κ := .scVector) (V d (cI i) (jI i)) b4 (sumRows (accAt d i fA fB 8))
          ∗ held (κ := .scVector) (V d (cI i) (jI i)) b5 (setRow 0 (addf (addf (accAt d i fA fB 8).2.2.2.1 (accAt d i fA fB 8).2.2.2.2.1) (accAt d i fA fB 8).2.2.2.2.2.1) P1)
          ∗ ow (F := F) d i O W) -∗ Φ (accAt d i fA fB 8).2.2.2.2.2.2.2)
        -∗ wp frame (wpE (defs₀ (F := F)) 𝒱₀ (V d (cI i) (jI i)) none) Set.univ
          (midProg i mA mB b0 (Memref.isWhole_whole _) b1 (Memref.isWhole_whole _) b2 (Memref.isWhole_whole _) b3 (Memref.isWhole_whole _) b4 b5 cc0_scratch6 cc0_scratch7 (accAt d i fA fB 6)) Φ) := by
  unfold midProg
  simp only [wp_bind, wp_pure]
  iintro ⟨H0, H1, Hb4, Hb5, HO, #Hmw⟩ Hk
  iapply ((st0 d i q0 fA fB).wp_wait2 _ (O := O) (W := W)) $$ [H0 HO]
  · isplitl [H0]; · iexact H0
    isplitl [HO]; · iexact HO
    iexact Hmw
  iintro ⟨H0, HO⟩
  iapply ((st0 d i q0 fA fB).wp_add _ _) $$ H0
  iintro H0
  iapply ((st1 d i q1 fA fB).wp_wait1 _ (O := O) (W := W)) $$ [H1 HO]
  · isplitl [H1]; · iexact H1
    isplitl [HO]; · iexact HO
    iexact Hmw
  iintro ⟨H1, HO⟩
  iapply ((st1 d i q1 fA fB).wp_wait2 _ (O := O) (W := W)) $$ [H1 HO]
  · isplitl [H1]; · iexact H1
    isplitl [HO]; · iexact HO
    iexact Hmw
  iintro ⟨H1, HO⟩
  iapply ((st1 d i q1 fA fB).wp_add _ _) $$ H1
  iintro H1
  rw [← accAt_last d i q0 q1 fA fB, ← setRow_sum (accAt d i fA fB 8) P0]
  iapply (wp_loadRow d (cI i) (jI i) b4 _) $$ Hb4
  iintro Hb4
  iapply (wp_storeRow d (cI i) (jI i) b4 _ 0 _ _) $$ Hb4
  iintro Hb4
  iapply (wp_loadRow d (cI i) (jI i) b4 _) $$ Hb4
  iintro Hb4
  iapply (wp_storeRow d (cI i) (jI i) b4 _ 1 _ _) $$ Hb4
  iintro Hb4
  iapply (wp_loadRow d (cI i) (jI i) b5 _) $$ Hb5
  iintro Hb5
  iapply (wp_storeRow d (cI i) (jI i) b5 _ 0 _ _) $$ Hb5
  iintro Hb5
  imodintro
  iapply Hk
  isplitl [H0]; · iexact H0
  isplitl [H1]; · iexact H1
  isplitl [Hb4]; · iexact Hb4
  isplitl [Hb5]; · iexact Hb5
  iexact HO

/-- Where the copied rows lie in the results. -/
theorem emb_rowS : ∀ (i : grid0.Coords) (y : S2x16.Idx), (rowS i).view.emb y = (fun | 0 => Fin.ofNat 32 (wid i) | 1 => y 0 | 2 => y 1 : S32x2x16.Idx) := by
  decide +kernel
theorem emb_rowC : ∀ (i : grid0.Coords) (y : S2x16.Idx), (rowC i).view.emb y = (fun | 0 => Fin.ofNat 32 (wid i) | 1 => y 0 | 2 => y 1 : S32x2x16.Idx) := by
  decide +kernel

theorem wid_lt (i : grid0.Coords) : wid i < 32 := by
  have h0 : (i 0).val < 2 := (i 0).isLt
  have h1 : (i 1).val < 16 := (i 1).isLt
  unfold wid; omega

theorem read_sumsOut (A B : S4096x12x207.Idx → Elt F .f32) :
    (rowS i).view.read (Elt F) (sumsOut A B) = sumRows (chunksV A B (wid i) 8) := by
  funext y
  have e : (rowS i).view.read (Elt F) (sumsOut A B) y = sumsOut A B ((rowS i).view.emb y) := rfl
  rw [e, emb_rowS]
  show sumRows (chunksV A B (wid i % 32) 8) (fun | 0 => y 0 | 1 => y 1) = _
  rw [Nat.mod_eq_of_lt (wid_lt i)]
  exact congrArg _ (funext fun | 0 => rfl | 1 => rfl)

theorem read_cntsOut (A B : S4096x12x207.Idx → Elt F .f32) :
    (rowC i).view.read (Elt F) (cntsOut A B) = cntRows (chunksV A B (wid i) 8) := by
  funext y
  have e : (rowC i).view.read (Elt F) (cntsOut A B) y = cntsOut A B ((rowC i).view.emb y) := rfl
  rw [e, emb_rowC]
  show cntRows (chunksV A B (wid i % 32) 8) (fun | 0 => y 0 | 1 => y 1) = _
  rw [Nat.mod_eq_of_lt (wid_lt i)]
  exact congrArg _ (funext fun | 0 => rfl | 1 => rfl)

variable (gS : Buf (Elt F) ((rowS i).view.loc (V d (cI i) (jI i)))) (gC : Buf (Elt F) ((rowC i).view.loc (V d (cI i) (jI i))))

/-- The subcore's rows of the sums hold `g`, -/
abbrev ptS (g : Buf (Elt F) ((rowS i).view.loc (V d (cI i) (jI i)))) : sProp 𝕄 :=
  ((rowS i).view.loc (V d (cI i) (jI i)) ↦[(rowS i).view.set]{fullShare} g)
/-- and of the counts. -/
abbrev ptC (g : Buf (Elt F) ((rowC i).view.loc (V d (cI i) (jI i)))) : sProp 𝕄 :=
  ((rowC i).view.loc (V d (cI i) (jI i)) ↦[(rowC i).view.set]{fullShare} g)

/-- The semaphores of the two copies out. -/
abbrev outSems : sProp 𝕄 :=
  iprop(semVal (V d (cI i) (jI i), .dma cc0_scoped0.sem) 0 ∗ semVal (V d (cI i) (jI i), .dma cc0_scoped1.sem) 0)

theorem wp_tile (P0 P1 : S2x16.Idx → Elt F .f32) (Φ : sProp 𝕄) :
    iprop((st0 d i q0 fA fB).idle ∗ (st1 d i q1 fA fB).idle
        ∗ held (κ := .scVector) (V d (cI i) (jI i)) b4 P0 ∗ held (κ := .scVector) (V d (cI i) (jI i)) b5 P1
        ∗ ptS d i gS ∗ ptC d i gC ∗ outSems (F := F) d i
        ∗ ow (F := F) d i O W ∗ mw (F := F) d i O)
      ⊢ iprop((((st0 d i q0 fA fB).idle ∗ (st1 d i q1 fA fB).idle
          ∗ (∃ P, held (κ := .scVector) (V d (cI i) (jI i)) b4 P) ∗ (∃ P, held (κ := .scVector) (V d (cI i) (jI i)) b5 P)
          ∗ ptS d i (sumsOut (F := F) fA fB) ∗ ptC d i (cntsOut (F := F) fA fB) ∗ outSems (F := F) d i
          ∗ ow (F := F) d i O W) -∗ Φ)
        -∗ wp frame (wpE (defs₀ (F := F)) 𝒱₀ (V d (cI i) (jI i)) none) Set.univ
          (tileProg i mA mB mS mC b0 (Memref.isWhole_whole _) b1 (Memref.isWhole_whole _) b2 (Memref.isWhole_whole _) b3 (Memref.isWhole_whole _)
            b4 (Memref.isWhole_whole _) b5 (Memref.isWhole_whole _) cc0_scratch6 cc0_scratch7 cc0_scoped0 cc0_scoped1) fun _ => Φ) := by
  unfold tileProg
  rw [wp_bind]
  iintro ⟨H0, H1, Hb4, Hb5, HS, HC, ⟨Hs0, Hs1⟩, HO, #Hmw⟩ Hk
  iapply (wp_head d i q0 q1 fA fB O W) $$ [H0 H1 HO]
  · isplitl [H0]; · iexact H0
    isplitl [H1]; · iexact H1
    isplitl [HO]; · iexact HO
    iexact Hmw
  iintro ⟨H0, H1, HO⟩
  rw [unpack_pack, wp_bind]
  iapply (wp_mid d i q0 q1 fA fB O W P0 P1) $$ [H0 H1 Hb4 Hb5 HO]
  · isplitl [H0]; · iexact H0
    isplitl [H1]; · iexact H1
    isplitl [Hb4]; · iexact Hb4
    isplitl [Hb5]; · iexact Hb5
    isplitl [HO]; · iexact HO
    iexact Hmw
  iintro ⟨H0, H1, Hb4, Hb5, HO⟩
  unfold tailProg
  simp only [wp_bind, wp_pure]
  iapply (wp_loadRow d (cI i) (jI i) b5 _) $$ Hb5
  iintro Hb5
  iapply (wp_storeRow d (cI i) (jI i) b5 _ 1 _ _) $$ Hb5
  iintro Hb5
  rw [setRow_cnt]
  iapply (wp_copyOut d (cI i) (jI i) b4 _ (rowS i) cc0_scoped0.sem gS (sumsOut (F := F) fA fB) (read_sumsOut i fA fB) (View.dmaCredit_pos _ (by decide)) (O := O) (W := W)) $$ [Hb4 HS Hs0 HO]
  · isplitl [Hb4]; · iexact Hb4
    isplitl [HS]; · iexact HS
    isplitl [Hs0]; · iexact Hs0
    isplitl [HO]; · iexact HO
    iexact Hmw
  iintro ⟨Hb4, HS, Hs0, HO⟩
  iapply (wp_copyOut d (cI i) (jI i) b5 _ (rowC i) cc0_scoped1.sem gC (cntsOut (F := F) fA fB) (read_cntsOut i fA fB) (View.dmaCredit_pos _ (by decide)) (O := O) (W := W)) $$ [Hb5 HC Hs1 HO]
  · isplitl [Hb5]; · iexact Hb5
    isplitl [HC]; · iexact HC
    isplitl [Hs1]; · iexact Hs1
    isplitl [HO]; · iexact HO
    iexact Hmw
  iintro ⟨Hb5, HC, Hs1, HO⟩
  imodintro
  iapply Hk
  isplitl [H0]; · iexact H0
  isplitl [H1]; · iexact H1
  isplitl [Hb4]; · iexists _; iexact Hb4
  isplitl [Hb5]; · iexists _; iexact Hb5
  isplitl [HS]; · iexact HS
  isplitl [HC]; · iexact HC
  isplitl [Hs0 Hs1]
  · isplitl [Hs0]; · iexact Hs0
    iexact Hs1
  iexact HO

end Run

end Cert.Proof.Run

end
-- ==== Proof.Launch.lean ====
/-
  The SparseCore call as the launch theorem takes it: what each handshake carries, one vector subcore's task from what
  its launch hands it, and the call's split.

  The two arrays go out as read shares, one for each of the 32 subcores; each result goes out in rows, subcore `w`
  taking rows `w` of the two, and comes back holding what `sumsOut` and `cntsOut` say.
-/
module

public import proofs.«01_k».proof.Proof.TileRun

@[expose] public section

noncomputable section

namespace Cert.Proof.Run

open Cert.KernelIdeal Cert.KernelIdeal.Gen
open Idealize.ShloMosaic Idealize.ShloMosaic.ShareLeaves
open Idealize.ShloMosaic.SparseCore (S V T)
open Idealize.ShloMosaic.SparseCore.Cfg (HIx Pay ownBufs ownSems0 ownCells ownRefs mem_ownCells)
open Idealize.SL Idealize.SL.RA Idealize.SL.BI Idealize.SL.BI.BIBase Idealize.SL.BI.Laws Idealize.SL.ProofMode
open Idealize.SL.Sem
open scoped Idealize.SL.BI

variable {F : FTy → Type} [FloatOps F]

local notation "𝕄" => MM F

variable (m : (ℓ : Loc nD τ sig) → Buf (Elt F) ℓ)

/-! ## The arrays and their shares -/

abbrev aLoc (d : Dev nD) : Loc nD τ sig := (SparseCore.T d).loc main_arg0
abbrev bLoc (d : Dev nD) : Loc nD τ sig := (SparseCore.T d).loc main_arg1
abbrev sLoc (d : Dev nD) : Loc nD τ sig := (SparseCore.T d).loc main_v0_0
abbrev cLoc (d : Dev nD) : Loc nD τ sig := (SparseCore.T d).loc main_v0_1

/-- The grid point of SparseCore `c` and its vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- A subcore's share of each array: of the full share halved once, then four times. -/
abbrev aq (c : Fin (2 ^ 1)) (s : Fin (2 ^ 4)) : PosShare TreeShare := leaf 4 (leaf 1 fullShare c) s
abbrev aqL (L : grid0.Coords) : PosShare TreeShare :=
  aq (Fin.cast (show grid0.bound 0 = 2 ^ 1 from rfl) (L 0)) (Fin.cast (show grid0.bound 1 = 2 ^ 4 from rfl) (L 1))

/-! ## What the handshakes carry -/

abbrev arrP (d : Dev nD) (L : grid0.Coords) : sProp 𝕄 := iprop((aLoc d ↦{aqL L} m (aLoc d)) ∗ (bLoc d ↦{aqL L} m (bLoc d)))
/-- The task's operands at the launch contents, -/
abbrev goP (d : Dev nD) (L : grid0.Coords) : sProp 𝕄 :=
  iprop(arrP m d L ∗ (sLoc d ↦[(rowS L).view.set]{fullShare} m (sLoc d)) ∗ (cLoc d ↦[(rowC L).view.set]{fullShare} m (cLoc d)))
/-- and at what the task leaves. -/
abbrev tdP (d : Dev nD) (L : grid0.Coords) : sProp 𝕄 :=
  iprop(arrP m d L ∗ (sLoc d ↦[(rowS L).view.set]{fullShare} sumsOut (F := F) (m (aLoc d)) (m (bLoc d)))
    ∗ (cLoc d ↦[(rowC L).view.set]{fullShare} cntsOut (F := F) (m (aLoc d)) (m (bLoc d))))

/-- The grid point of a call's SparseCore and subcore. -/
abbrev atK (c : Fin ((K (F := F)).nCore 0)) (i : Fin ((K (F := F)).nSub 0)) : grid0.Coords :=
  coordsV ⟨c.val, c.isLt⟩ ⟨i.val, i.isLt⟩

/-- Each SparseCore is handed its tasks' operands and hands back their results. -/
def P : (K (F := F)).Pay (nD := nD) (Val := Elt F) (Name := ℕ) (U := UU) where
  st := fun q d c => match q with | 0 => bigSep Finset.univ fun i : Fin ((K (F := F)).nSub 0) => goP m d (atK (F := F) c i)
  dn := fun q d c => match q with | 0 => bigSep Finset.univ fun i : Fin ((K (F := F)).nSub 0) => tdP m d (atK (F := F) c i)
  go := fun q d c i => match q with | 0 => goP m d (atK (F := F) c i)
  td := fun q d c i => match q with | 0 => tdP m d (atK (F := F) c i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => goP m d (atK (F := F) c i)))
  dn q d c := match q with
    | 0 => (inferInstance : BI.Storable (upEmb : UEmb _ 𝕄) (bigSep Finset.univ fun i : Fin ((K (F := F)).nSub 0) => tdP m d (atK (F := F) c i)))
  go q d c i := match q with | 0 => (inferInstance : BI.Storable (upEmb : UEmb _ 𝕄) (goP m d (atK (F := F) c i)))
  td q d c i := match q with | 0 => (inferInstance : BI.Storable (upEmb : UEmb _ 𝕄) (tdP m d (atK (F := F) c i)))

theorem vecSplit : (K (F := F)).VecSplit' (P m) 0 := by
  intro d c
  show (bigSep Finset.univ fun i : Fin ((K (F := F)).nSub 0) => goP m d (atK (F := F) c i)) ⊢ |={Set.univ}=> iprop(
      (bigSep Finset.univ fun i : Fin ((K (F := F)).nSub 0) => goP m d (atK (F := F) c i))
      ∗ ((bigSep Finset.univ fun i : Fin ((K (F := F)).nSub 0) => tdP m d (atK (F := F) c i))
        -∗ bigSep Finset.univ fun i : Fin ((K (F := F)).nSub 0) => tdP m d (atK (F := F) c i)))
  iintro H; imodintro
  isplitl [H]; · iexact H
  iintro H; iexact H

/-! ## A subcore's own cells and buffers -/

section Own

variable (d : Dev nD) (c : Fin τ.nSC) (i : Fin τ.nSub)

/-- The scratch buffers, -/
def bufOf : Fin 6 → Ref sig .scVector := ![cc0_scratch0, cc0_scratch1, cc0_scratch2, cc0_scratch3, cc0_scratch4, cc0_scratch5]
/-- and the cells of the copies' semaphores. -/
def cellOf : Fin 4 → SemLoc sig := ![.dma cc0_scratch6.sem, .dma cc0_scratch7.sem, .dma cc0_scoped0.sem, .dma cc0_scoped1.sem]

omit [FloatOps F] in
theorem bufOf_inj : Function.Injective bufOf := by decide
omit [FloatOps F] in
theorem cellOf_inj' : Function.Injective cellOf := by decide

abbrev bufSet : Finset (DevRef τ sig) := Finset.univ.map ⟨fun k => (Proc.scVector c i).devRef (bufOf k), fun _ _ h => bufOf_inj (Proc.devRef_injective _ h)⟩
abbrev cellSet : Finset (GSem nD τ sig) := Finset.univ.map ⟨fun k => (V d c i, cellOf k), fun _ _ h => cellOf_inj' (Prod.mk.inj h).2⟩

omit [FloatOps F] in
theorem bufSet_sub : bufSet c i ⊆ ownRefs (τ := τ) (sig := sig) (.scVector c i) := by
  intro b hb
  obtain ⟨k, -, rfl⟩ := Finset.mem_map.mp hb
  exact SparseCore.Cfg.mem_ownRefs_of_owner (p := Proc.scVector c i) (b := (Proc.scVector c i).devRef (bufOf k)) (by fin_cases k <;> rfl)

omit [FloatOps F] in
theorem cellSet_sub : cellSet d c i ⊆ ownCells (V d c i) := by
  intro g hg
  obtain ⟨k, -, rfl⟩ := Finset.mem_map.mp hg
  exact mem_ownCells.mpr ⟨rfl, (show ∀ k, (cellOf k).isScoped .scVector = true by decide) k⟩

abbrev bufAny (r : Ref sig .scVector) : sProp 𝕄 := iprop(∃ f, (V d c i).loc r ↦{fullShare} f)

omit [FloatOps F] in
theorem ownSems0_V : (ownSems0 (V d c i) : sProp 𝕄)
    = iprop((semVal (V d c i, .dma cc0_scratch6.sem) 0 ∗ semVal (V d c i, .dma cc0_scratch7.sem) 0
        ∗ semVal (V d c i, .dma cc0_scoped0.sem) 0 ∗ semVal (V d c i, .dma cc0_scoped1.sem) 0)
      ∗ bigSep (ownCells (V d c i) \ cellSet d c i) fun g => semVal g 0) := by
  unfold SparseCore.Cfg.ownSems0
  rw [SparseCore.bigSep_sdiff_split' (cellSet_sub d c i), bigSep_map, show (Finset.univ : Finset (Fin 4)) = {0, 1, 2, 3} by decide,
    SparseCore.bigSep_insert' (by decide), SparseCore.bigSep_insert' (by decide), SparseCore.bigSep_insert' (by decide), bigSep_singleton]
  rfl

omit [FloatOps F] in
theorem ownBufs_V : (ownBufs (V d c i) : sProp 𝕄)
    = iprop((bufAny d c i cc0_scratch0 ∗ bufAny d c i cc0_scratch1 ∗ bufAny d c i cc0_scratch2 ∗ bufAny d c i cc0_scratch3
        ∗ bufAny d c i cc0_scratch4 ∗ bufAny d c i cc0_scratch5)
      ∗ bigSep (ownRefs (τ := τ) (.scVector c i) \ bufSet c i) fun b => iprop(∃ f, ((d, b) : Loc nD τ sig) ↦{fullShare} f)) := by
  unfold SparseCore.Cfg.ownBufs
  rw [show ownRefs (τ := τ) (sig := sig) (V d c i).2 = ownRefs (.scVector c i) from rfl,
    SparseCore.bigSep_sdiff_split' (bufSet_sub c i), bigSep_map, show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  rfl

end Own

/-! ## The task -/

section Tile

variable (d : Dev nD) (L : grid0.Coords)

omit [FloatOps F] in
/-- Two read shares of the arrays, and the halves of one, are the same. -/
theorem arr_halves : arrP m d L
    ⊣⊢ iprop(((aLoc d ↦{(aqL L).left} m (aLoc d)) ∗ (bLoc d ↦{(aqL L).left} m (bLoc d)))
      ∗ ((aLoc d ↦{(aqL L).right} m (aLoc d)) ∗ (bLoc d ↦{(aqL L).right} m (bLoc d)))) := by
  have ha := pointsTo_share (ℓ := aLoc d) (I := Finset.univ) (f := m (aLoc d)) (Ix := HIx 1) (Name := ℕ) (U := UU) (Lvl := ℕ) (PosShare.mem_left_op_right (aqL L))
  have hb := pointsTo_share (ℓ := bLoc d) (I := Finset.univ) (f := m (bLoc d)) (Ix := HIx 1) (Name := ℕ) (U := UU) (Lvl := ℕ) (PosShare.mem_left_op_right (aqL L))
  constructor
  · iintro ⟨HA, HB⟩
    ihave HA' := ha.1 $$ HA
    ihave HB' := hb.1 $$ HB
    icases HA' with ⟨HA0, HA1⟩
    icases HB' with ⟨HB0, HB1⟩
    isplitl [HA0 HB0]
    · isplitl [HA0] <;> iassumption
    · isplitl [HA1] <;> iassumption
  · iintro ⟨⟨HA0, HB0⟩, ⟨HA1, HB1⟩⟩
    isplitl [HA0 HA1]
    · iapply ha.2; isplitl [HA0] <;> iassumption
    · iapply hb.2; isplitl [HB0] <;> iassumption

abbrev sem0 : sProp 𝕄 := semVal (V d (cI L) (jI L), .dma cc0_scratch6.sem) 0
abbrev sem1 : sProp 𝕄 := semVal (V d (cI L) (jI L), .dma cc0_scratch7.sem) 0

/-- A stream at rest is its arrays' shares, its two buffers and its cell at zero. -/
theorem idle0 (q : PosShare TreeShare) (f : Buf (Elt F) (aLoc d)) (g : Buf (Elt F) (bLoc d)) : (st0 d L q f g).idle
    = iprop(((aLoc d ↦{q} f) ∗ (bLoc d ↦{q} g))
      ∗ (bufAny d (cI L) (jI L) cc0_scratch0 ∗ bufAny d (cI L) (jI L) cc0_scratch1) ∗ sem0 (F := F) d L) := by
  unfold Stream.idle Stream.arrays Stream.anyBuf
  simp only [Memref.view_whole, View.set_whole]
theorem idle1 (q : PosShare TreeShare) (f : Buf (Elt F) (aLoc d)) (g : Buf (Elt F) (bLoc d)) : (st1 d L q f g).idle
    = iprop(((aLoc d ↦{q} f) ∗ (bLoc d ↦{q} g))
      ∗ (bufAny d (cI L) (jI L) cc0_scratch2 ∗ bufAny d (cI L) (jI L) cc0_scratch3) ∗ sem1 (F := F) d L) := by
  unfold Stream.idle Stream.arrays Stream.anyBuf
  simp only [Memref.view_whole, View.set_whole]

omit [FloatOps F] in
theorem held4 (P : S2x16.Idx → Elt F .f32) : held (κ := .scVector) (V d (cI L) (jI L)) b4 P ⊢ bufAny (F := F) d (cI L) (jI L) cc0_scratch4 := by
  unfold held
  simp only [Memref.view_whole, View.set_whole]
  iintro ⟨%f, -, H⟩
  iexists f; iexact H
omit [FloatOps F] in
theorem held5 (P : S2x16.Idx → Elt F .f32) : held (κ := .scVector) (V d (cI L) (jI L)) b5 P ⊢ bufAny (F := F) d (cI L) (jI L) cc0_scratch5 := by
  unfold held
  simp only [Memref.view_whole, View.set_whole]
  iintro ⟨%f, -, H⟩
  iexists f; iexact H
omit [FloatOps F] in
theorem of_any4 : bufAny (F := F) d (cI L) (jI L) cc0_scratch4 ⊢ iprop(∃ P, held (κ := .scVector) (V d (cI L) (jI L)) b4 P) := by
  unfold held
  simp only [Memref.view_whole, View.set_whole]
  iintro ⟨%f, H⟩
  iexists _; iexists f; isplitr; · ipureintro; rfl
  iexact H
omit [FloatOps F] in
theorem of_any5 : bufAny (F := F) d (cI L) (jI L) cc0_scratch5 ⊢ iprop(∃ P, held (κ := .scVector) (V d (cI L) (jI L)) b5 P) := by
  unfold held
  simp only [Memref.view_whole, View.set_whole]
  iintro ⟨%f, H⟩
  iexists _; iexists f; isplitr; · ipureintro; rfl
  iexact H

/-- The task on vector subcore `(L 0, L 1)` of device `d`. -/
theorem tile_body (hF : (K (F := F)).Facts) (O : CellTallies nD τ sig (HIx 1)) (W : Waits sig (HIx 1)) (hO : ∀ g, O g none = 0) :
    iprop(levAts (K (F := F)).L (K (F := F)).lev ∗ emp ∗ goP m d L
        ∗ scopedBufs (V d (cI L) (jI L)) ∗ scopedSems0 (V d (cI L) (jI L)) ∗ owes (V d (cI L) (jI L)) O W)
      ⊢ wp frame (wpE (defs₀ (F := F)) 𝒱₀ (V d (cI L) (jI L)) none) Set.univ
          (cc0__mae_partials_sc L mA (Memref.isWhole_whole _) mB (Memref.isWhole_whole _) mS (Memref.isWhole_whole _) mC (Memref.isWhole_whole _)
            b0 (Memref.isWhole_whole _) b1 (Memref.isWhole_whole _) b2 (Memref.isWhole_whole _) b3 (Memref.isWhole_whole _)
            b4 (Memref.isWhole_whole _) b5 (Memref.isWhole_whole _) cc0_scratch6 cc0_scratch7 cc0_scoped0 cc0_scoped1)
          fun _ => iprop(tdP m d L
            ∗ scopedBufs (V d (cI L) (jI L)) ∗ scopedSems0 (V d (cI L) (jI L))
            ∗ ∃ W', ⌜∀ p ∈ W', p ∈ W ∨ p.2 = none⌝ ∗ owes (V d (cI L) (jI L)) O W') := by
  rw [tile_eq]
  rw [(K (F := F)).scopedBufs_V hF d (cI L) (jI L), SparseCore.Cfg.scopedSems0_V (Val := Elt F) d (cI L) (jI L), ownSems0_V, ownBufs_V]
  iintro ⟨#Hlv, -, ⟨Harr, HS, HC⟩, ⟨⟨Hb0, Hb1, Hb2, Hb3, Hb4, Hb5⟩, Hbufs⟩, ⟨⟨Hm0, Hm1, Ho0, Ho1⟩, Hsems⟩, HO⟩
  ihave Hmw := (show levAts (K (F := F)).L (K (F := F)).lev ⊢ Transfers.MayWaits (V d (cI L) (jI L)) (default : HIx 1) O from
    (K (F := F)).mayWaits_none (thr := V d (cI L) (jI L)) hO) $$ Hlv
  ihave Harr' := (arr_halves m d L).1 $$ Harr
  icases Harr' with ⟨Hl, Hr⟩
  ihave Hb4' := (of_any4 (F := F) d L) $$ Hb4
  icases Hb4' with ⟨%P0, Hb4⟩
  ihave Hb5' := (of_any5 (F := F) d L) $$ Hb5
  icases Hb5' with ⟨%P1, Hb5⟩
  iapply (wp_tile d L (aqL L).left (aqL L).right (m (aLoc d)) (m (bLoc d)) O W (m (sLoc d)) (m (cLoc d)) P0 P1) $$ [Hl Hr Hb0 Hb1 Hb2 Hb3 Hb4 Hb5 Hm0 Hm1 Ho0 Ho1 HS HC HO]
  · isplitl [Hl Hb0 Hb1 Hm0]
    · rw [idle0]
      isplitl [Hl]; · iexact Hl
      isplitl [Hb0 Hb1]
      · isplitl [Hb0] <;> iassumption
      iexact Hm0
    isplitl [Hr Hb2 Hb3 Hm1]
    · rw [idle1]
      isplitl [Hr]; · iexact Hr
      isplitl [Hb2 Hb3]
      · isplitl [Hb2] <;> iassumption
      iexact Hm1
    isplitl [Hb4]; · iexact Hb4
    isplitl [Hb5]; · iexact Hb5
    isplitl [HS]; · iexact HS
    isplitl [HC]; · iexact HC
    isplitl [Ho0 Ho1]
    · isplitl [Ho0] <;> iassumption
    isplitl [HO]
    · unfold ow Stream.owesN
      iexists W; isplitr; · ipureintro; exact fun p hp => .inl hp
      iexact HO
    iexact Hmw
  rw [idle0, idle1]
  iintro ⟨⟨Hl, ⟨Hb0, Hb1⟩, Hm0⟩, ⟨Hr, ⟨Hb2, Hb3⟩, Hm1⟩, ⟨%Q0, Hb4⟩, ⟨%Q1, Hb5⟩, HS, HC, ⟨Ho0, Ho1⟩, HO⟩
  isplitl [Hl Hr HS HC]
  · isplitl [Hl Hr]
    · iapply (arr_halves m d L).2; isplitl [Hl] <;> iassumption
    isplitl [HS]; · iexact HS
    iexact HC
  isplitl [Hb0 Hb1 Hb2 Hb3 Hb4 Hb5 Hbufs]
  · isplitr [Hbufs]; swap; · iexact Hbufs
    isplitl [Hb0]; · iexact Hb0
    isplitl [Hb1]; · iexact Hb1
    isplitl [Hb2]; · iexact Hb2
    isplitl [Hb3]; · iexact Hb3
    isplitl [Hb4]; · iapply (held4 (F := F) d L); iexact Hb4
    iapply (held5 (F := F) d L); iexact Hb5
  isplitl [Hm0 Hm1 Ho0 Ho1 Hsems]
  · isplitr [Hsems]; swap; · iexact Hsems
    isplitl [Hm0]; · iexact Hm0
    isplitl [Hm1]; · iexact Hm1
    isplitl [Ho0] <;> iassumption
  unfold ow Stream.owesN
  iexact HO

theorem defs₀_vector (c : Fin τ.nSC) (s : Fin τ.nSub) :
    defs₀ (F := F) (.scVector c s) 0 ()
      = SparseCore.onTile Facts₀.hcore0 Facts₀.hsub0 (fun c s => cc0__mae_partials_sc (coordsV c s)
          mA (Memref.isWhole_whole _) mB (Memref.isWhole_whole _) mS (Memref.isWhole_whole _) mC (Memref.isWhole_whole _)
          b0 (Memref.isWhole_whole _) b1 (Memref.isWhole_whole _) b2 (Memref.isWhole_whole _) b3 (Memref.isWhole_whole _)
          b4 (Memref.isWhole_whole _) b5 (Memref.isWhole_whole _) cc0_scratch6 cc0_scratch7 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Tile

end Cert.Proof.Run

end
-- ==== Proof.Split.lean ====
/-
  The SparseCore call's operands, split over its 32 subcores and put back together: the two arrays by shares, the two
  results by rows.
-/
module

public import proofs.«01_k».proof.Proof.Launch

@[expose] public section

noncomputable section

namespace Cert.Proof.Run

open Cert.KernelIdeal Cert.KernelIdeal.Gen
open Idealize.ShloMosaic Idealize.ShloMosaic.ShareLeaves
open Idealize.ShloMosaic.SparseCore.Cfg (HIx)
open Idealize.SL Idealize.SL.RA Idealize.SL.BI Idealize.SL.BI.BIBase Idealize.SL.BI.Laws Idealize.SL.ProofMode
open Idealize.SL.Sem
open scoped Idealize.SL.BI

variable {F : FTy → Type} [FloatOps F]

local notation "𝕄" => MM F

variable (m : (ℓ : Loc nD τ sig) → Buf (Elt F) ℓ)

/-- One array's 32 shares are the array. -/
theorem shares_eq (ℓ : Loc nD τ sig) (f : Buf (Elt F) ℓ) :
    (bigSep Finset.univ fun c : Fin ((K (F := F)).nCore 0) => bigSep Finset.univ fun i : Fin ((K (F := F)).nSub 0) =>
      (ℓ ↦{aqL (atK (F := F) c i)} f : sProp 𝕄)) = (ℓ ↦{fullShare} f) :=
  ((pointsTo_leaves Finset.univ f 1 fullShare).trans (bigSep_congr fun c _ => pointsTo_leaves Finset.univ f 4 (leaf 1 fullShare c))).symm

/-- A pair of a SparseCore and a subcore. -/
abbrev CI (F : FTy → Type) [FloatOps F] : Type := Fin ((K (F := F)).nCore 0) × Fin ((K (F := F)).nSub 0)

theorem wid_atK (p : CI F) : wid (atK (F := F) p.1 p.2) = 2 * p.2.val + p.1.val := rfl

theorem mem_rowS (i : grid0.Coords) (x : S32x2x16.Idx) : x ∈ (rowS i).view.set ↔ (x 0).val = wid i := by
  constructor
  · intro h
    obtain ⟨y, -, rfl⟩ := Finset.mem_map.mp h
    rw [emb_rowS]
    exact Nat.mod_eq_of_lt (wid_lt i)
  · intro h
    refine Finset.mem_map.mpr ⟨fun | 0 => x 1 | 1 => x 2, Finset.mem_univ _, ?_⟩
    rw [emb_rowS]
    funext a
    match a with
    | 0 => exact Fin.ext ((Nat.mod_eq_of_lt (wid_lt i)).trans h.symm)
    | 1 => rfl
    | 2 => rfl
theorem mem_rowC (i : grid0.Coords) (x : S32x2x16.Idx) : x ∈ (rowC i).view.set ↔ (x 0).val = wid i := by
  constructor
  · intro h
    obtain ⟨y, -, rfl⟩ := Finset.mem_map.mp h
    rw [emb_rowC]
    exact Nat.mod_eq_of_lt (wid_lt i)
  · intro h
    refine Finset.mem_map.mpr ⟨fun | 0 => x 1 | 1 => x 2, Finset.mem_univ _, ?_⟩
    rw [emb_rowC]
    funext a
    match a with
    | 0 => exact Fin.ext ((Nat.mod_eq_of_lt (wid_lt i)).trans h.symm)
    | 1 => rfl
    | 2 => rfl

/-- Sets that hold the indices of one row each, a row for each subcore, are disjoint and cover the result. -/
theorem rows_eq (ℓ : Loc nD τ sig) (f : Buf (Elt F) ℓ) (row : Idx ℓ → Fin 32) (R : grid0.Coords → Finset (Idx ℓ))
    (hR : ∀ i x, x ∈ R i ↔ (row x).val = wid i) :
    (bigSep Finset.univ fun c : Fin ((K (F := F)).nCore 0) => bigSep Finset.univ fun i : Fin ((K (F := F)).nSub 0) =>
      (ℓ ↦[R (atK (F := F) c i)]{fullShare} f : sProp 𝕄)) = (ℓ ↦{fullShare} f) := by
  classical
  rw [← bigSep_univ_prod fun p : CI F => (ℓ ↦[R (atK (F := F) p.1 p.2)]{fullShare} f : sProp 𝕄),
    ← pointsTo_biUnion (Finset.univ : Finset (CI F)) fun p => R (atK (F := F) p.1 p.2)]
  · congr 1
    ext x
    refine ⟨fun _ => Finset.mem_univ x, fun _ => ?_⟩
    have hx : (row x).val < 32 := (row x).isLt
    refine Finset.mem_biUnion.mpr ⟨((⟨(row x).val % 2, Nat.mod_lt _ (by decide)⟩ : Fin 2), (⟨(row x).val / 2, by omega⟩ : Fin 16)), Finset.mem_univ _, (hR _ _).mpr ?_⟩
    show (row x).val = 2 * ((row x).val / 2) + (row x).val % 2
    omega
  · intro p _ q _ hpq
    refine Finset.disjoint_left.mpr fun x hx hy => hpq ?_
    have e := ((hR _ _).mp hx).symm.trans ((hR _ _).mp hy)
    rw [wid_atK, wid_atK] at e
    have hp : p.1.val < 2 := p.1.isLt
    have hq : q.1.val < 2 := q.1.isLt
    exact Prod.ext (Fin.ext (by omega)) (Fin.ext (by omega))

theorem rowsS_eq (d : Dev nD) (f : Buf (Elt F) (sLoc d)) :
    (bigSep Finset.univ fun c : Fin ((K (F := F)).nCore 0) => bigSep Finset.univ fun i : Fin ((K (F := F)).nSub 0) =>
      (sLoc d ↦[(rowS (atK (F := F) c i)).view.set]{fullShare} f : sProp 𝕄)) = (sLoc d ↦{fullShare} f) :=
  rows_eq (sLoc d) f (fun x => x 0) (fun i => (rowS i).view.set) mem_rowS
theorem rowsC_eq (d : Dev nD) (f : Buf (Elt F) (cLoc d)) :
    (bigSep Finset.univ fun c : Fin ((K (F := F)).nCore 0) => bigSep Finset.univ fun i : Fin ((K (F := F)).nSub 0) =>
      (cLoc d ↦[(rowC (atK (F := F) c i)).view.set]{fullShare} f : sProp 𝕄)) = (cLoc d ↦{fullShare} f) :=
  rows_eq (cLoc d) f (fun x => x 0) (fun i => (rowC i).view.set) mem_rowC

/-- The tasks' operands over all subcores, the two results at any contents. -/
theorem tasks_eq (d : Dev nD) (f : Buf (Elt F) (sLoc d)) (g : Buf (Elt F) (cLoc d)) :
    (bigSep Finset.univ fun c : Fin ((K (F := F)).nCore 0) => bigSep Finset.univ fun i : Fin ((K (F := F)).nSub 0) =>
      iprop(arrP m d (atK (F := F) c i) ∗ (sLoc d ↦[(rowS (atK (F := F) c i)).view.set]{fullShare} f)
        ∗ (cLoc d ↦[(rowC (atK (F := F) c i)).view.set]{fullShare} g)))
      = (iprop(((aLoc d ↦{fullShare} m (aLoc d)) ∗ (bLoc d ↦{fullShare} m (bLoc d))) ∗ (sLoc d ↦{fullShare} f) ∗ (cLoc d ↦{fullShare} g)) : sProp 𝕄) := by
  unfold arrP
  simp only [bigSep_sep']
  rw [shares_eq, shares_eq, rowsS_eq, rowsC_eq]

/-- What the call takes for the two SparseCores, -/
theorem st0_eq (d : Dev nD) : (bigSep Finset.univ fun c : Fin ((K (F := F)).nCore 0) => (P m).st 0 d c)
    = (iprop(((aLoc d ↦{fullShare} m (aLoc d)) ∗ (bLoc d ↦{fullShare} m (bLoc d))) ∗ (sLoc d ↦{fullShare} m (sLoc d)) ∗ (cLoc d ↦{fullShare} m (cLoc d))) : sProp 𝕄) :=
  tasks_eq m d (m (sLoc d)) (m (cLoc d))
/-- and what it hands back. -/
theorem dn0_eq (d : Dev nD) : (bigSep Finset.univ fun c : Fin ((K (F := F)).nCore 0) => (P m).dn 0 d c)
    = (iprop(((aLoc d ↦{fullShare} m (aLoc d)) ∗ (bLoc d ↦{fullShare} m (bLoc d))) ∗ (sLoc d ↦{fullShare} sumsOut (F := F) (m (aLoc d)) (m (bLoc d)))
        ∗ (cLoc d ↦{fullShare} cntsOut (F := F) (m (aLoc d)) (m (bLoc d)))) : sProp 𝕄) :=
  tasks_eq m d (sumsOut (F := F) (m (aLoc d)) (m (bLoc d))) (cntsOut (F := F) (m (aLoc d)) (m (bLoc d)))

end Cert.Proof.Run

end
-- ==== Proof.TcBody.lean ====
/-
  The TensorCore kernel's body: at a grid point it adds the masked block sum and the masked block count to two words of
  scalar memory, having zeroed them first at point 0.
-/
module

public import proofs.«01_k».proof.Proof.Setup
public import proofs.«01_k».proof.Proof.Gen.KernelIdeal.Skeleton
public import proofs.«01_k».proof.Proof.Gen.KernelIdeal.Points
public import Idealize.ShloMosaic.Lib.Memref
public import Idealize.ShloMosaic.Lib.Pipeline.Value

@[expose] public section

noncomputable section

namespace Cert.Proof.Run

open Cert.KernelIdeal Cert.KernelIdeal.Gen
open Idealize.ShloMosaic Idealize.ShloMosaic.TcCoe
open Idealize.ShloMosaic.SparseCore.Cfg (HIx)
open Idealize.SL Idealize.SL.RA Idealize.SL.BI Idealize.SL.BI.BIBase Idealize.SL.BI.Laws Idealize.SL.ProofMode
open Idealize.SL.Sem
open scoped Idealize.SL.BI

variable {F : FTy → Type} [FloatOps F]

local notation "𝕄" => MM F

/-! ## The values -/

/-- A block of an array: 256 rows. -/
abbrev Blk (F : FTy → Type) : Type := S256x12x207.Idx → Elt F .f32

/-- Where the target is not minus infinity, as the TensorCore asks it. -/
def tcMask (t : Blk F) : IVec S256x12x207 1 := cmpf (φ := .f32) .one t (broadcast S256x12x207 (Scalar.ofBits .f32 0xFF800000#32 : F .f32))

/-- A block added up. -/
def tcTotal (v : Blk F) : F .f32 :=
  extractAt ![0, 0, 0, 0] (shapeCast S1x1x1x1 (multiReduction .add [1, 2, 3] S1
    (shapeCast S1x256x12x207 v shapeCasts_S256x12x207_S1x256x12x207 : FVec F S1x256x12x207 .f32) 0x00000000#32 reduces_S1x256x12x207_S1 (.inl rfl) rfl : FVec F S1 .f32)
    shapeCasts_S1_S1x1x1x1 : FVec F S1x1x1x1 .f32) inpos_S1x1x1x1_p0_0_0_0

/-- The block's masked sum of absolute differences, -/
def tcSum (p t : Blk F) : F .f32 :=
  tcTotal (select (tcMask t) (absf (subf (φ := .f32) p t) : FVec F S256x12x207 .f32) (broadcast S256x12x207 (Scalar.ofBits .f32 0x00000000#32 : F .f32)))
/-- and its count. -/
def tcCnt (t : Blk F) : F .f32 :=
  tcTotal (select (tcMask t) (broadcast S256x12x207 (Scalar.ofBits .f32 0x3F800000#32 : F .f32)) (broadcast S256x12x207 (Scalar.ofBits .f32 0x00000000#32 : F .f32)))

theorem pay2_eq (p t : Blk F) (x : F .f32) : k1_pay2 p t x = Scalar.addf x (tcSum p t) := rfl
theorem pay3_eq (t : Blk F) (x : F .f32) : k1_pay3 t x = Scalar.addf x (tcCnt t) := rfl

/-- One word of scalar memory holding `x`. -/
abbrev word (x : F .f32) : S1x1.Idx → Elt F .f32 := fun _ => x
abbrev zeroF : F .f32 := Scalar.ofBits .f32 0x00000000#32

/-! ## Its loads and stores -/

abbrev own (c : Dev nD) {sp : Space} {s : Shape} {e : EltTy} (m : Memref sig .tc sp s e) (X : s.Idx → Elt F e) : sProp 𝕄 :=
  owns (c.tc : Thread nD τ) m fullShare X

section Rules

variable (c : Dev nD)

theorem hz2 : (![0, 0] : Fin 2 → ℕ) = fun _ => 0 := funext fun a => by fin_cases a <;> rfl
theorem hz3 : (![0, 0, 0] : Fin 3 → ℕ) = fun _ => 0 := funext fun a => by fin_cases a <;> rfl

theorem wp_loadBlk (m : Memref sig .tc .vmem S256x12x207 .f32) (X : Blk F)
    {hl : m.view.LoadsAt (Rect.unit (s := S256x12x207) ![0, 0, 0] S256x12x207.size inb_S256x12x207_S256x12x207_0_0_0).toLoadRect}
    (Φ : Vec F S256x12x207 .f32 → sProp 𝕄) :
    own c m X ⊢ iprop((own c m X -∗ Φ X)
      -∗ wp frame (wpE (defs₀ (F := F)) 𝒱₀ (c.tc : Thread nD τ) none) Set.univ (Prog.lift (.load m _ hl)) Φ) := by
  unfold own owns
  iintro ⟨%f, %hf, H⟩ Hk
  have e : m.view.readAt (Elt F) (Rect.unit (s := S256x12x207) ![0, 0, 0] S256x12x207.size inb_S256x12x207_S256x12x207_0_0_0).toLoadRect f = X :=
    (View.readAt_eq_ld _ _ _).trans ((congrArg (View.ld · _) hf).trans (View.ld_unit_zero (S := S256x12x207) hz3 _ X))
  iapply (wp_load 𝒱₀ (c.tc : Thread nD τ) none Set.univ (View.setOn_subset_set _ _)) $$ H
  iintro H
  rw [wp_ret, e]
  imodintro
  iapply Hk
  iexists f; isplitr; · ipureintro; exact hf
  iexact H

theorem wp_loadWord (m : Memref sig .tc .smem S1x1 .f32) (x : F .f32) (Φ : Elt F .f32 → sProp 𝕄) :
    own c m (word x) ⊢ iprop((own c m (word x) -∗ Φ x)
      -∗ wp frame (wpE (defs₀ (F := F)) 𝒱₀ (c.tc : Thread nD τ) none) Set.univ
          (smemLoad m (Rect.unit (s := S1x1) ![0, 0] S1x1.size inb_S1x1_S1x1_0_0) numel1_S1x1 rfl) Φ) := by
  unfold own owns
  iintro ⟨%f, %hf, H⟩ Hk
  unfold smemLoad
  iapply (wp_smemLoadElt 𝒱₀ (c.tc : Thread nD τ) none Set.univ (m := m) (r := Rect.unit (s := S1x1) ![0, 0] S1x1.size inb_S1x1_S1x1_0_0) (S := m.view.set) (View.set_slice_subset (v := m.view) _)) $$ H
  iintro H
  rw [wp_ret]
  have e : ∀ y, (m.access (Rect.unit (s := S1x1) ![0, 0] S1x1.size inb_S1x1_S1x1_0_0)).read (Elt F) f y = x := fun y =>
    congrFun hf ((Rect.unit (s := S1x1) ![0, 0] S1x1.size inb_S1x1_S1x1_0_0).emb y)
  rw [e]
  imodintro
  iapply Hk
  iexists f; isplitr; · ipureintro; exact hf
  iexact H

theorem wp_storeWord (m : Memref sig .tc .smem S1x1 .f32) (X : S1x1.Idx → Elt F .f32) (y : F .f32)
    {hx : (m.access (Rect.unit (s := S1x1) ![0, 0] S1x1.size inb_S1x1_S1x1_0_0)).Stores Finset.univ}
    {hm : (Finset.univ : Finset S1x1.Idx) = Finset.univ ∨ ∀ a, (Rect.unit (s := S1x1) ![0, 0] S1x1.size inb_S1x1_S1x1_0_0).stride a = 1} (Φ : PUnit → sProp 𝕄) :
    own c m X ⊢ iprop((own c m (word y) -∗ Φ ⟨⟩)
      -∗ wp frame (wpE (defs₀ (F := F)) 𝒱₀ (c.tc : Thread nD τ) none) Set.univ
          (Prog.lift (.store m (Rect.unit (s := S1x1) ![0, 0] S1x1.size inb_S1x1_S1x1_0_0) (fun _ => y) Finset.univ hx hm)) Φ) := by
  unfold own owns
  iintro ⟨%f, %hf, H⟩ Hk
  iapply (wp_store 𝒱₀ (c.tc : Thread nD τ) none Set.univ (m := m) (r := Rect.unit (s := S1x1) ![0, 0] S1x1.size inb_S1x1_S1x1_0_0) (S := m.view.set)
    (Memref.setOn_access_subset m (Rect.unit (s := S1x1) ![0, 0] S1x1.size inb_S1x1_S1x1_0_0) Finset.univ)) $$ H
  iintro H
  rw [wp_ret]
  imodintro
  iapply Hk
  iexists _
  isplitr
  swap
  · iexact H
  · ipureintro
    funext z
    have e : z = (Rect.unit (s := S1x1) ![0, 0] S1x1.size inb_S1x1_S1x1_0_0).emb z := by
      funext a; apply Fin.ext
      match a with
      | 0 => show (z 0).val = 0 + 1 * (z 0).val; omega
      | 1 => show (z 1).val = 0 + 1 * (z 1).val; omega
    conv_lhs => rw [e]
    exact View.read_slice_write_emb (v := m.view) (Rect.unit (s := S1x1) ![0, 0] S1x1.size inb_S1x1_S1x1_0_0) f _ (Finset.mem_univ _)

/-! ## The body -/

/-- What two words hold after the body's optional reset. -/
abbrev reset (i : grid1.Coords) (x : F .f32) : F .f32 := if (i 0).val = 0 then zeroF else x

theorem cond_iff (i : grid1.Coords) :
    (Scalar.cmpi .ne (Scalar.extui (Scalar.cmpi .eq (BitVec.ofNat 32 (i 0).val) 0#32) : BitVec 32) 0#32 = 1#1) ↔ (i 0).val = 0 := by
  have h : (i 0).val < 12 := (i 0).isLt
  revert h
  generalize (i 0).val = n
  intro h
  interval_cases n <;> decide

set_option maxRecDepth 16384 in
/-- The body, from the two blocks and the two words. -/
theorem wp_body (i : grid1.Coords) (a1 : Memref sig .tc .vmem S256x12x207 .f32) (h1 : a1.IsWhole) (a2 : Memref sig .tc .vmem S256x12x207 .f32) (h2 : a2.IsWhole)
    (a3 : Memref sig .tc .smem S1x1 .f32) (h3 : a3.IsWhole) (a4 : Memref sig .tc .smem S1x1 .f32) (h4 : a4.IsWhole)
    (p t : Blk F) (x y : F .f32) (Φ : PUnit → sProp 𝕄) :
    iprop(own c a1 p ∗ own c a2 t ∗ own c a3 (word x) ∗ own c a4 (word y)) ⊢ iprop(
      ((own c a1 p ∗ own c a2 t ∗ own c a3 (word (Scalar.addf (reset i x) (tcSum p t))) ∗ own c a4 (word (Scalar.addf (reset i y) (tcCnt t)))) -∗ Φ ⟨⟩)
      -∗ wp frame (wpE (defs₀ (F := F)) 𝒱₀ (c.tc : Thread nD τ) none) Set.univ (cc1__mae_tc_body i a1 h1 a2 h2 a3 h3 a4 h4) Φ) := by
  rw [cc1__mae_tc_body_eq_skeleton]
  unfold cc1__mae_tc_body_skel
  simp only [wp_bind, wp_pure]
  have tail : iprop(own c a1 p ∗ own c a2 t ∗ own c a3 (word (reset i x)) ∗ own c a4 (word (reset i y))) ⊢ iprop(
      ((own c a1 p ∗ own c a2 t ∗ own c a3 (word (Scalar.addf (reset i x) (tcSum p t))) ∗ own c a4 (word (Scalar.addf (reset i y) (tcCnt t)))) -∗ Φ ⟨⟩)
      -∗ wp frame (wpE (defs₀ (F := F)) 𝒱₀ (c.tc : Thread nD τ) none) Set.univ (do
          let v3 : Vec F S256x12x207 .f32 ← Prog.lift (.load a1 (Rect.unit (s := S256x12x207) ![0, 0, 0] S256x12x207.size inb_S256x12x207_S256x12x207_0_0_0).toLoadRect (View.loadsAt_vmem h_S256x12x207))
          let v4 : Vec F S256x12x207 .f32 ← Prog.lift (.load a2 (Rect.unit (s := S256x12x207) ![0, 0, 0] S256x12x207.size inb_S256x12x207_S256x12x207_0_0_0).toLoadRect (View.loadsAt_vmem h_S256x12x207))
          let v22 : Elt F .f32 ← smemLoad a3 (Rect.unit (s := S1x1) ![0, 0] S1x1.size inb_S1x1_S1x1_0_0) numel1_S1x1 rfl
          let v24 : Elt F .f32 ← smemLoad a3 (Rect.unit (s := S1x1) ![0, 0] S1x1.size inb_S1x1_S1x1_0_0) numel1_S1x1 rfl
          Prog.lift (.store a3 (Rect.unit (s := S1x1) ![0, 0] S1x1.size inb_S1x1_S1x1_0_0) (fun _ => k1_pay2 v3 v4 v22) Finset.univ (View.stores_smem_one rfl numel1_S1x1) (.inl rfl))
          let v25 : Elt F .f32 ← smemLoad a4 (Rect.unit (s := S1x1) ![0, 0] S1x1.size inb_S1x1_S1x1_0_0) numel1_S1x1 rfl
          let v27 : Elt F .f32 ← smemLoad a4 (Rect.unit (s := S1x1) ![0, 0] S1x1.size inb_S1x1_S1x1_0_0) numel1_S1x1 rfl
          Prog.lift (.store a4 (Rect.unit (s := S1x1) ![0, 0] S1x1.size inb_S1x1_S1x1_0_0) (fun _ => k1_pay3 v4 v25) Finset.univ (View.stores_smem_one rfl numel1_S1x1) (.inl rfl))
          pure ⟨⟩ : Prog (TpuEff nD τ sig (Elt F) Λ₀ .tc) PUnit) Φ) := by
    simp only [wp_bind, wp_pure]
    iintro ⟨H1, H2, H3, H4⟩ Hk
    iapply (wp_loadBlk c a1 p) $$ H1
    iintro H1
    iapply (wp_loadBlk c a2 t) $$ H2
    iintro H2
    iapply (wp_loadWord c a3 (reset i x)) $$ H3
    iintro H3
    iapply (wp_loadWord c a3 (reset i x)) $$ H3
    iintro H3
    iapply (wp_storeWord c a3 _ _) $$ H3
    iintro H3
    iapply (wp_loadWord c a4 (reset i y)) $$ H4
    iintro H4
    iapply (wp_loadWord c a4 (reset i y)) $$ H4
    iintro H4
    iapply (wp_storeWord c a4 _ _) $$ H4
    iintro H4
    imodintro
    iapply Hk
    rw [pay2_eq, pay3_eq]
    isplitl [H1]; · iexact H1
    isplitl [H2]; · iexact H2
    isplitl [H3] <;> iassumption
  have tail₀ := tail
  simp only [wp_bind, wp_pure] at tail
  by_cases hc : (i 0).val = 0
  · have hc' := (cond_iff i).mpr hc
    rw [dif_pos hc']
    simp only [wp_bind, wp_pure]
    iintro ⟨H1, H2, H3, H4⟩ Hk
    iapply (wp_loadWord c a3 x) $$ H3
    iintro H3
    iapply (wp_storeWord c a3 _ _) $$ H3
    iintro H3
    iapply (wp_loadWord c a4 y) $$ H4
    iintro H4
    iapply (wp_storeWord c a4 _ _) $$ H4
    iintro H4
    iapply tail $$ [H1 H2 H3 H4]
    · rw [show (reset i x : F .f32) = zeroF from if_pos hc, show (reset i y : F .f32) = zeroF from if_pos hc]
      isplitl [H1]; · iexact H1
      isplitl [H2]; · iexact H2
      isplitl [H3] <;> iassumption
    iexact Hk
  · have hc' := fun h => hc ((cond_iff i).mp h)
    rw [dif_neg hc']
    iintro ⟨H1, H2, H3, H4⟩ Hk
    iapply tail₀ $$ [H1 H2 H3 H4]
    · rw [show (reset i x : F .f32) = x from if_neg hc, show (reset i y : F .f32) = y from if_neg hc]
      isplitl [H1]; · iexact H1
      isplitl [H2]; · iexact H2
      isplitl [H3] <;> iassumption
    iexact Hk

end Rules

end Cert.Proof.Run

end
-- ==== Proof.TcRegion.lean ====
/-
  The TensorCore call: twelve blocks of 256 rows, from row 1024 on, accumulated point by point into two words, which are
  written back at the last point.

  `tcAccS A B n` and `tcAccC B n` are the two words after `n` points. `reg` is the call as the library's region theorem
  takes it, entered from any contents of the core's buffers and left with the two results at the words after twelve points.
-/
module

public import proofs.«01_k».proof.Proof.TcBody
public import Idealize.ShloMosaic.Lib.Pipeline.RegionsLoop
public import Idealize.ShloMosaic.Lib.Pipeline.Frame

@[expose] public section

noncomputable section

namespace Cert.Proof.Run

open Cert.KernelIdeal Cert.KernelIdeal.Gen
open Idealize.ShloMosaic Idealize.ShloMosaic.TcCoe
open Idealize.ShloMosaic.SparseCore.Cfg (HIx)
open Idealize.ShloMosaic.Pipeline (Dat Cfg BodyObligation)
open Idealize.SL Idealize.SL.RA Idealize.SL.BI Idealize.SL.BI.BIBase Idealize.SL.BI.Laws Idealize.SL.ProofMode
open Idealize.SL.Sem
open scoped Idealize.SL.BI

variable {F : FTy → Type} [FloatOps F]

local notation "𝕄" => MM F

/-! ## The values -/

/-- An array. -/
abbrev Arr (F : FTy → Type) : Type := S4096x12x207.Idx → Elt F .f32

/-- Block `n` of the rows from 1024 on. -/
def blkOf (A : Arr F) (n : ℕ) : Blk F :=
  fun x => A (fun | 0 => Fin.ofNat 4096 (1024 + 256 * n + (x 0).val) | 1 => x 1 | 2 => x 2)

/-- The running sum after `n` blocks, -/
def tcAccS (A B : Arr F) : ℕ → F .f32
  | 0 => zeroF
  | n + 1 => Scalar.addf (tcAccS A B n) (tcSum (blkOf A n) (blkOf B n))
/-- and the running count. -/
def tcAccC (B : Arr F) : ℕ → F .f32
  | 0 => zeroF
  | n + 1 => Scalar.addf (tcAccC B n) (tcCnt (blkOf B n))

/-! ## The proof data -/

section Region

variable (bnd : ℕ)
variable (V : (c : Dev nD) → (b : Ref sig .tc) → Buf (Elt F) ((c.tc : Thread nD τ).loc b))

abbrev VA (c : Dev nD) : Arr F := V c main_arg0
abbrev VB (c : Dev nD) : Arr F := V c main_arg1

/-- The (cell, index) pairs recorded so far stay at or below a level. -/
abbrev recs (c : Dev nD) : Set (SemLoc sig × HIx 1) := {p | (K (F := F)).lev ((SparseCore.T c : Thread nD τ), p.1) p.2 ≤ bnd}

/-- The call keeps no invariant beyond the scoped buffers it does not stage. -/
abbrev rest1 (c : Dev nD) : sProp 𝕄 := Pipeline.scopedRest (Ix := HIx 1) (Name := ℕ) (U := UU) (Lvl := ℕ) (Val := Elt F) spec1 c

/-- The call's data: both arrays and both results as found, and what each buffer holds after the body at each point. -/
def dat (c : Dev nD) : Dat τ (Elt F) (HIx 1) ℕ UU ℕ cfg1 c where
  A w := V c (Pipeline.arrRef spec1 w)
  after w t := match w with
    | ⟨0, _⟩ => blkOf (VA V c) t.val
    | ⟨1, _⟩ => blkOf (VB V c) t.val
    | ⟨2, _⟩ => word (tcAccS (VA V c) (VB V c) (t.val + 1))
    | ⟨3, _⟩ => word (tcAccC (VB V c) (t.val + 1))
  Φ _ := rest1 (F := F) c
  q _ := fullShare
  owed _ := 0
  recorded _ := recs (F := F) bnd c

theorem index0 (t : Fin grid1.N) : win1_0.index t 0 = 4 + t.val ∧ win1_0.index t 1 = 0 ∧ win1_0.index t 2 = 0 := by
  rcases fin_N1 t with rfl | rfl | rfl | rfl | rfl | rfl | rfl | rfl | rfl | rfl | rfl | rfl <;> decide
theorem index1 (t : Fin grid1.N) : win1_1.index t 0 = 4 + t.val ∧ win1_1.index t 1 = 0 ∧ win1_1.index t 2 = 0 := by
  rcases fin_N1 t with rfl | rfl | rfl | rfl | rfl | rfl | rfl | rfl | rfl | rfl | rfl | rfl <;> decide
theorem coords0 (t : Fin grid1.N) : (grid1.coords t 0).val = t.val := by
  rcases fin_N1 t with rfl | rfl | rfl | rfl | rfl | rfl | rfl | rfl | rfl | rfl | rfl | rfl <;> decide

/-- The block a fetch stages: rows `1024 + 256 t` on, of the first array -/
theorem block0 (c : Dev nD) (t : Fin cfg1.N) : (dat bnd V c).blockOf 0 t = blkOf (VA V c) t.val := by
  have hN : t.val < 12 := lt_of_lt_of_eq t.isLt N_1
  have hi := index0 t
  funext x
  unfold Dat.blockOf blkOf
  rw [View.read_apply]
  show V c main_arg0 _ = V c main_arg0 _
  congr 1
  funext a
  apply Fin.ext
  have h0 : (x 0).val < 256 := (x 0).isLt
  match a with
  | ⟨0, _⟩ =>
    show win1_0.index t 0 * 256 + 1 * (x 0).val = (1024 + 256 * t.val + (x 0).val) % 4096
    rw [hi.1]; omega
  | ⟨1, _⟩ => show win1_0.index t 1 * 12 + 1 * (x 1).val = (x 1).val; rw [hi.2.1]; omega
  | ⟨2, _⟩ => show win1_0.index t 2 * 207 + 1 * (x 2).val = (x 2).val; rw [hi.2.2]; omega
/-- and of the second. -/
theorem block1 (c : Dev nD) (t : Fin cfg1.N) : (dat bnd V c).blockOf 1 t = blkOf (VB V c) t.val := by
  have hN : t.val < 12 := lt_of_lt_of_eq t.isLt N_1
  have hi := index1 t
  funext x
  unfold Dat.blockOf blkOf
  rw [View.read_apply]
  show V c main_arg1 _ = V c main_arg1 _
  congr 1
  funext a
  apply Fin.ext
  have h0 : (x 0).val < 256 := (x 0).isLt
  match a with
  | ⟨0, _⟩ =>
    show win1_1.index t 0 * 256 + 1 * (x 0).val = (1024 + 256 * t.val + (x 0).val) % 4096
    rw [hi.1]; omega
  | ⟨1, _⟩ => show win1_1.index t 1 * 12 + 1 * (x 1).val = (x 1).val; rw [hi.2.1]; omega
  | ⟨2, _⟩ => show win1_1.index t 2 * 207 + 1 * (x 2).val = (x 2).val; rw [hi.2.2]; omega

/-- What the body finds: the two blocks, -/
theorem before0 (c : Dev nD) (t : Fin cfg1.N) (d) : (dat bnd V c).before 0 t d = blkOf (VA V c) t.val := by
  rw [(dat bnd V c).before_fetched 0 t (fetch1_0 t) d]
  exact block0 bnd V c t
theorem before1 (c : Dev nD) (t : Fin cfg1.N) (d) : (dat bnd V c).before 1 t d = blkOf (VB V c) t.val := by
  rw [(dat bnd V c).before_fetched 1 t (fetch1_1 t) d]
  exact block1 bnd V c t
/-- and, after the first point, the two words as the point before left them. -/
theorem before2 (c : Dev nD) (t : Fin cfg1.N) (ht : t.val ≠ 0) (d) : (dat bnd V c).before 2 t d = word (tcAccS (VA V c) (VB V c) t.val) := by
  have hN : t.val < 12 := lt_of_lt_of_eq t.isLt N_1
  rw [(dat bnd V c).before_out_kept 2 rfl t ht (by
    rw [← Bool.not_eq_true, flush1_2]; show ¬ (t.val - 1) % 12 = 11; omega) (fun _ => rfl) (fun _ _ => rfl) d]
  show word (tcAccS (VA V c) (VB V c) (t.val - 1 + 1)) = _
  rw [Nat.sub_add_cancel (by omega)]
theorem before3 (c : Dev nD) (t : Fin cfg1.N) (ht : t.val ≠ 0) (d) : (dat bnd V c).before 3 t d = word (tcAccC (VB V c) t.val) := by
  have hN : t.val < 12 := lt_of_lt_of_eq t.isLt N_1
  rw [(dat bnd V c).before_out_kept 3 rfl t ht (by
    rw [← Bool.not_eq_true, flush1_3]; show ¬ (t.val - 1) % 12 = 11; omega) (fun _ => rfl) (fun _ _ => rfl) d]
  show word (tcAccC (VB V c) (t.val - 1 + 1)) = _
  rw [Nat.sub_add_cancel (by omega)]

/-- One word holds one value. -/
theorem eq_word (X : S1x1.Idx → Elt F .f32) : X = word (X (fun | 0 => (0 : Fin 1) | 1 => (0 : Fin 1))) := by
  funext z
  congr 1
  funext a
  match a with
  | 0 => exact Fin.ext (Nat.lt_one_iff.mp (z 0).isLt)
  | 1 => exact Fin.ext (Nat.lt_one_iff.mp (z 1).isLt)

/-- The first point resets both words, so what the body adds to is the running value at every point, -/
theorem reset2 (c : Dev nD) (t : Fin cfg1.N) (d) :
    reset (grid1.coords t) ((dat bnd V c).before 2 t d (fun | 0 => (0 : Fin 1) | 1 => (0 : Fin 1))) = tcAccS (VA V c) (VB V c) t.val := by
  unfold reset
  by_cases h : t.val = 0
  · rw [if_pos ((coords0 t).trans h), h]; rfl
  · rw [if_neg (fun h' => h ((coords0 t).symm.trans h')), before2 bnd V c t h]
/-- of either word. -/
theorem reset3 (c : Dev nD) (t : Fin cfg1.N) (d) :
    reset (grid1.coords t) ((dat bnd V c).before 3 t d (fun | 0 => (0 : Fin 1) | 1 => (0 : Fin 1))) = tcAccC (VB V c) t.val := by
  unfold reset
  by_cases h : t.val = 0
  · rw [if_pos ((coords0 t).trans h), h]; rfl
  · rw [if_neg (fun h' => h ((coords0 t).symm.trans h')), before3 bnd V c t h]

/-- The body's obligation at every point. -/
theorem bodyObl (c : Dev nD) : BodyObligation (dat bnd V c) (defs₀ (F := F)) 𝒱₀ (none : HIx 1) Set.univ := fun t => by
  rw [bigSep_W1, bigSep_W1]
  rw [show (dat bnd V c).Φ t.castSucc = (dat bnd V c).Φ t.succ from rfl,
    show (dat bnd V c).owesAt (none : HIx 1) t.succ = (dat bnd V c).owesAt (none : HIx 1) t.castSucc from rfl]
  iintro ⟨HΦ, Howes, ⟨%d0, H0⟩, ⟨%d1, H1⟩, ⟨%d2, H2⟩, ⟨%d3, H3⟩⟩
  rw [before0, before1, eq_word ((dat bnd V c).before 2 t d2), eq_word ((dat bnd V c).before 3 t d3)]
  iapply (wp_body c (grid1.coords t) _ (hstage1_0 ((cfg1.slots t 0).cast nbuf1_0)) _ (hstage1_1 ((cfg1.slots t 1).cast nbuf1_1))
    _ (hstage1_2 ((cfg1.slots t 2).cast nbuf1_2)) _ (hstage1_3 ((cfg1.slots t 3).cast nbuf1_3))
    (blkOf (VA V c) t.val) (blkOf (VB V c) t.val)
    ((dat bnd V c).before 2 t d2 (fun | 0 => (0 : Fin 1) | 1 => (0 : Fin 1)))
    ((dat bnd V c).before 3 t d3 (fun | 0 => (0 : Fin 1) | 1 => (0 : Fin 1))) _) $$ [H0 H1 H2 H3]
  · isplitl [H0]; · iexact H0
    isplitl [H1]; · iexact H1
    isplitl [H2]; · iexact H2
    iexact H3
  rw [reset2, reset3]
  iintro ⟨H0, H1, H2, H3⟩
  isplitl [HΦ]; · iexact HΦ
  isplitl [Howes]; · iexact Howes
  isplitl [H0]; · iexact H0
  isplitl [H1]; · iexact H1
  isplitl [H2]; · iexact H2
  iexact H3

/-! ## The results -/

/-- The two results after the call. -/
def outS (c : Dev nD) : S1x1.Idx → Elt F .f32 := word (tcAccS (VA V c) (VB V c) 12)
def outC (c : Dev nD) : S1x1.Idx → Elt F .f32 := word (tcAccC (VB V c) 12)

theorem flushed2 (c : Dev nD) (t : Fin cfg1.N) (hf : (cfg1.win 2).flush t = true) :
    (dat bnd V c).flushed 2 t = ((cfg1.win 2).blk t).view.read (Elt F) (outS V c) := by
  have hN : t.val < 12 := lt_of_lt_of_eq t.isLt N_1
  have h : t.val = 11 := by have := (flush1_2 t).mp hf; omega
  obtain rfl : t = t1_11 := Fin.ext h
  show (cfg1.win 2).cut (grid1.coords t1_11) (word (tcAccS (VA V c) (VB V c) (11 + 1))) = _
  have hz' : (fun a => win1_2.index t1_11 a * main_v1_0.ty.shape.size a) = fun _ => 0 := funext fun a => by fin_cases a <;> decide
  exact (Memref.read_access_unit_zero (Elt F) main_v1_0 hz' (fun a => by rw [congrFun hz' a]; simp) (outS V c)).symm
theorem flushed3 (c : Dev nD) (t : Fin cfg1.N) (hf : (cfg1.win 3).flush t = true) :
    (dat bnd V c).flushed 3 t = ((cfg1.win 3).blk t).view.read (Elt F) (outC V c) := by
  have hN : t.val < 12 := lt_of_lt_of_eq t.isLt N_1
  have h : t.val = 11 := by have := (flush1_3 t).mp hf; omega
  obtain rfl : t = t1_11 := Fin.ext h
  show (cfg1.win 3).cut (grid1.coords t1_11) (word (tcAccC (VB V c) (11 + 1))) = _
  have hz' : (fun a => win1_3.index t1_11 a * main_v1_1.ty.shape.size a) = fun _ => 0 := funext fun a => by fin_cases a <;> decide
  exact (Memref.read_access_unit_zero (Elt F) main_v1_1 hz' (fun a => by rw [congrFun hz' a]; simp) (outC V c)).symm

theorem final2 (c : Dev nD) : (dat bnd V c).arrAt 2 cfg1.N = outS V c :=
  (dat bnd V c).arrAt_eq_of_cover 2 (outS V c) (flushed2 bnd V c) fun i => ⟨t1_11, (flush1_2 t1_11).mpr rfl, by
    show i ∈ ((View.whole main_v1_0).slice (win1_2.rect t1_11)).set
    rw [View.set_slice_whole, Rect.mem_set_unit]
    intro a
    have h0 : (i 0 : Nat) < 1 := (i 0).isLt
    have h1 : (i 1 : Nat) < 1 := (i 1).isLt
    match a with
    | ⟨0, _⟩ =>
      show win1_2.index t1_11 0 * win1_2.size 0 ≤ (i 0 : Nat) ∧ (i 0 : Nat) < win1_2.index t1_11 0 * win1_2.size 0 + win1_2.xsize (grid1.coords t1_11) 0
      rw [show win1_2.index t1_11 0 * win1_2.size 0 = 0 by decide +kernel, show win1_2.xsize (grid1.coords t1_11) 0 = 1 by decide +kernel]; omega
    | ⟨1, _⟩ =>
      show win1_2.index t1_11 1 * win1_2.size 1 ≤ (i 1 : Nat) ∧ (i 1 : Nat) < win1_2.index t1_11 1 * win1_2.size 1 + win1_2.xsize (grid1.coords t1_11) 1
      rw [show win1_2.index t1_11 1 * win1_2.size 1 = 0 by decide +kernel, show win1_2.xsize (grid1.coords t1_11) 1 = 1 by decide +kernel]; omega⟩
theorem final3 (c : Dev nD) : (dat bnd V c).arrAt 3 cfg1.N = outC V c :=
  (dat bnd V c).arrAt_eq_of_cover 3 (outC V c) (flushed3 bnd V c) fun i => ⟨t1_11, (flush1_3 t1_11).mpr rfl, by
    show i ∈ ((View.whole main_v1_1).slice (win1_3.rect t1_11)).set
    rw [View.set_slice_whole, Rect.mem_set_unit]
    intro a
    have h0 : (i 0 : Nat) < 1 := (i 0).isLt
    have h1 : (i 1 : Nat) < 1 := (i 1).isLt
    match a with
    | ⟨0, _⟩ =>
      show win1_3.index t1_11 0 * win1_3.size 0 ≤ (i 0 : Nat) ∧ (i 0 : Nat) < win1_3.index t1_11 0 * win1_3.size 0 + win1_3.xsize (grid1.coords t1_11) 0
      rw [show win1_3.index t1_11 0 * win1_3.size 0 = 0 by decide +kernel, show win1_3.xsize (grid1.coords t1_11) 0 = 1 by decide +kernel]; omega
    | ⟨1, _⟩ =>
      show win1_3.index t1_11 1 * win1_3.size 1 ≤ (i 1 : Nat) ∧ (i 1 : Nat) < win1_3.index t1_11 1 * win1_3.size 1 + win1_3.xsize (grid1.coords t1_11) 1
      rw [show win1_3.index t1_11 1 * win1_3.size 1 = 0 by decide +kernel, show win1_3.xsize (grid1.coords t1_11) 1 = 1 by decide +kernel]; omega⟩

/-! ## The region -/

abbrev adm (F : FTy → Type) [FloatOps F] : (p : Fin 1) → (pcfgs (F := F) p).Adm := fun p => (cfgs p).toPCfg_adm

/-- The one call's data, as the family the library asks for. -/
def pdats : (p : Fin 1) → (c : Dev nD) → Dat τ (Elt F) (HIx 1) ℕ UU ℕ (Pipeline.pin (pcfgs (F := F)) (adm F) p) c
  | ⟨0, _⟩ => fun c => dat bnd V c

/-- What the thread owes around the call: nothing, its recorded waits at or below the level. -/
abbrev owesBelow (c : Dev nD) : sProp 𝕄 :=
  iprop(∃ W, ⌜(K (F := F)).WBelow (SparseCore.T c) W bnd⌝ ∗ owes (SparseCore.T c : Thread nD τ) (0 : CellTallies nD τ sig (HIx 1)) W)

variable (Vp : (c : Dev nD) → (b : Ref sig .tc) → Buf (Elt F) ((c.tc : Thread nD τ).loc b))

set_option backward.isDefEq.respectTransparency.types false in
/-- The call, from the core's buffers at `V` to the same buffers with the two results written. -/
def reg (h2 : ∀ c, Vp c main_v1_0 = outS V c) (h3 : ∀ c, Vp c main_v1_1 = outC V c)
    (hne : ∀ c (b : Ref sig .tc), b ≠ main_v1_0 → b ≠ main_v1_1 → Vp c b = V c b) :
    Pipeline.RegionSeg (pcfgs (F := F)) (adm F) (pdats bnd V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (bodyObl bnd V c).loose
  hwaits := Pipeline.hwaits_of_owed_zero _ _ _ _ (K (F := F)).L (K (F := F)).lev 0 fun _ _ => rfl
  pre c := iprop(unscopedBufs c (V c) ∗ owesBelow bnd c)
  post c := iprop(unscopedBufs c (Vp c) ∗ owesBelow bnd c)
  X _ := BI.emp
  Y _ := BI.emp
  Z c := Pipeline.unscopedRest (Ix := HIx 1) (Name := ℕ) (U := UU) (Lvl := ℕ) spec1 c (V c)
  hentry c := by
    rw [Pipeline.ownSems0_none]
    have hs := Pipeline.arrays_of_unscopedBufs (p := 0) (pcfgs (F := F)) (adm F) (pdats bnd V) launch1.win launch1.arr_whole c
      ((pdats bnd V 0 c).share_full fun _ => rfl) (V c) fun _ => rfl
    iintro ⟨⟨Hub, %W, %hW, HO⟩, -, -⟩
    ihave H := hs $$ Hub
    icases H with ⟨Ha, Hrest⟩
    imodintro
    isplitl [Ha]; · iexact Ha
    isplitr
    · unfold Pipeline.prefHeld
      rw [show (Finset.univ : Finset (Fin 0)) = ∅ from rfl, bigSep_empty]
      iempintro
    isplitl [HO]
    · unfold Pipeline.Dat.owesAt Pipeline.owesWithin
      iexists W
      isplitr; · ipureintro; exact fun p hp => Or.inl (hW p hp)
      iexact HO
    isplitr; · iempintro
    iexact Hrest
  hin c := by
    rw [show (pdats bnd V 0 c).Φ 0 = rest1 (F := F) c from rfl]
    iintro ⟨-, -, Hr⟩; iexact Hr
  hout c := by
    rw [Pipeline.ownSems0_none, show (pdats bnd V 0 c).Φ (Fin.last _) = rest1 (F := F) c from rfl]
    iintro Hr
    isplitr; · iempintro
    isplitr; · iempintro
    iexact Hr
  hexit c := by
    have hj := Pipeline.unscopedBufs_of_arrays (p := 0) (pcfgs (F := F)) (adm F) (Ix := HIx 1) (Name := ℕ) (U := UU) (Lvl := ℕ)
      launch1.win launch1.arr_whole c (pdats bnd V) ((pdats bnd V 0 c).share_full fun _ => rfl) (V c) (Vp c)
      ((pdats bnd V 0 c).arrAt · cfg1.N)
      (fun w => by
        fin_cases w
        · exact ((pdats bnd V 0 c).arrAt_in 0 rfl _).trans (hne c main_arg0 (by decide) (by decide)).symm
        · exact ((pdats bnd V 0 c).arrAt_in 1 rfl _).trans (hne c main_arg1 (by decide) (by decide)).symm
        · exact (final2 bnd V c).trans (h2 c).symm
        · exact (final3 bnd V c).trans (h3 c).symm)
      (fun b hb => hne c b (fun h => hb (h ▸ Finset.mem_image.mpr ⟨2, Finset.mem_univ _, rfl⟩))
        (fun h => hb (h ▸ Finset.mem_image.mpr ⟨3, Finset.mem_univ _, rfl⟩)))
    iintro ⟨Ha, HO, -, Hrest⟩
    imodintro
    isplitl [Ha Hrest]
    · iapply hj; isplitl [Ha] <;> iassumption
    unfold Pipeline.Dat.owesAt Pipeline.owesWithin
    icases HO with ⟨%W, %hW, HO⟩
    iexists W
    isplitr
    · ipureintro
      intro p hp
      rcases hW hp with h | ⟨w, s, rfl⟩
      · exact h
      · exact Nat.zero_le _
    iexact HO

end Region

end Cert.Proof.Run

end
-- ==== Proof.HostTail.lean ====
/-
  What @main does after its two calls: the four partial results added up, the two quotients' guard, the quotient.

  `loss` is the value left in the result, of the SparseCore's sums and counts and the TensorCore's two words.
-/
module

public import proofs.«01_k».proof.Proof.Setup
public import Idealize.ShloMosaic.Lib.StableHlo.Run

@[expose] public section

noncomputable section

namespace Cert.Proof.Run

open Cert.KernelIdeal Cert.KernelIdeal.Gen
open Idealize.ShloMosaic
open Idealize.SL.Sem

variable {F : FTy → Type} [FloatOps F]

/-- A scalar tensor, and the partial results. -/
abbrev Sca (F : FTy → Type) : Type := S_.Idx → Elt F .f32
abbrev Part (F : FTy → Type) : Type := S32x2x16.Idx → Elt F .f32

/-- The host's operations, in order. -/
def tailOps : List (HloOp τ sig (Elt F)) :=
  [ StableHlo.unary main_v0_0 main_v2 ((extractStridedSlice S32x1x16 ![0, 0, 0] · Facts₀.slices_S32x2x16_S32x1x16_0_0_0) : (⟨S32x2x16, .f32⟩ : BufTy).Contents (Elt F) → (⟨S32x1x16, .f32⟩ : BufTy).Contents (Elt F)),
    StableHlo.reshape main_v2 main_v3 (rfl : (.f32 : EltTy) = .f32) Facts₀.shapeCasts_S32x1x16_S32x16,
    StableHlo.nullary main_cst (constant S_ .f32 0x00000000#32),
    StableHlo.binary main_v3 main_cst main_v4 ((fun x v => Host.reduceAdd x v Facts₀.reducesTo_S32x16_S_d0_1 Facts₀.h_S_) : (⟨S32x16, .f32⟩ : BufTy).Contents (Elt F) → (⟨S_, .f32⟩ : BufTy).Contents (Elt F) → (⟨S_, .f32⟩ : BufTy).Contents (Elt F)),
    StableHlo.unary main_v0_0 main_v5 ((extractStridedSlice S32x1x15 ![0, 1, 1] · Facts₀.slices_S32x2x16_S32x1x15_0_1_1) : (⟨S32x2x16, .f32⟩ : BufTy).Contents (Elt F) → (⟨S32x1x15, .f32⟩ : BufTy).Contents (Elt F)),
    StableHlo.reshape main_v5 main_v6 (rfl : (.f32 : EltTy) = .f32) Facts₀.shapeCasts_S32x1x15_S32x15,
    StableHlo.nullary main_cst_0 (constant S_ .f32 0x00000000#32),
    StableHlo.binary main_v6 main_cst_0 main_v7 ((fun x v => Host.reduceAdd x v Facts₀.reducesTo_S32x15_S_d0_1 Facts₀.h_S_) : (⟨S32x15, .f32⟩ : BufTy).Contents (Elt F) → (⟨S_, .f32⟩ : BufTy).Contents (Elt F) → (⟨S_, .f32⟩ : BufTy).Contents (Elt F)),
    StableHlo.binary main_v4 main_v7 main_v8 (addf : (⟨S_, .f32⟩ : BufTy).Contents (Elt F) → (⟨S_, .f32⟩ : BufTy).Contents (Elt F) → (⟨S_, .f32⟩ : BufTy).Contents (Elt F)),
    StableHlo.reshape main_v1_0 main_v9 (rfl : (.f32 : EltTy) = .f32) Facts₀.shapeCasts_S1x1_S_,
    StableHlo.binary main_v8 main_v9 main_v10 (addf : (⟨S_, .f32⟩ : BufTy).Contents (Elt F) → (⟨S_, .f32⟩ : BufTy).Contents (Elt F) → (⟨S_, .f32⟩ : BufTy).Contents (Elt F)),
    StableHlo.unary main_v0_1 main_v11 ((extractStridedSlice S32x1x16 ![0, 0, 0] · Facts₀.slices_S32x2x16_S32x1x16_0_0_0) : (⟨S32x2x16, .f32⟩ : BufTy).Contents (Elt F) → (⟨S32x1x16, .f32⟩ : BufTy).Contents (Elt F)),
    StableHlo.reshape main_v11 main_v12 (rfl : (.f32 : EltTy) = .f32) Facts₀.shapeCasts_S32x1x16_S32x16,
    StableHlo.nullary main_cst_1 (constant S_ .f32 0x00000000#32),
    StableHlo.binary main_v12 main_cst_1 main_v13 ((fun x v => Host.reduceAdd x v Facts₀.reducesTo_S32x16_S_d0_1 Facts₀.h_S_) : (⟨S32x16, .f32⟩ : BufTy).Contents (Elt F) → (⟨S_, .f32⟩ : BufTy).Contents (Elt F) → (⟨S_, .f32⟩ : BufTy).Contents (Elt F)),
    StableHlo.unary main_v0_1 main_v14 ((extractStridedSlice S32x1x15 ![0, 1, 1] · Facts₀.slices_S32x2x16_S32x1x15_0_1_1) : (⟨S32x2x16, .f32⟩ : BufTy).Contents (Elt F) → (⟨S32x1x15, .f32⟩ : BufTy).Contents (Elt F)),
    StableHlo.reshape main_v14 main_v15 (rfl : (.f32 : EltTy) = .f32) Facts₀.shapeCasts_S32x1x15_S32x15,
    StableHlo.nullary main_cst_2 (constant S_ .f32 0x00000000#32),
    StableHlo.binary main_v15 main_cst_2 main_v16 ((fun x v => Host.reduceAdd x v Facts₀.reducesTo_S32x15_S_d0_1 Facts₀.h_S_) : (⟨S32x15, .f32⟩ : BufTy).Contents (Elt F) → (⟨S_, .f32⟩ : BufTy).Contents (Elt F) → (⟨S_, .f32⟩ : BufTy).Contents (Elt F)),
    StableHlo.binary main_v13 main_v16 main_v17 (addf : (⟨S_, .f32⟩ : BufTy).Contents (Elt F) → (⟨S_, .f32⟩ : BufTy).Contents (Elt F) → (⟨S_, .f32⟩ : BufTy).Contents (Elt F)),
    StableHlo.reshape main_v1_1 main_v18 (rfl : (.f32 : EltTy) = .f32) Facts₀.shapeCasts_S1x1_S_,
    StableHlo.binary main_v17 main_v18 main_v19 (addf : (⟨S_, .f32⟩ : BufTy).Contents (Elt F) → (⟨S_, .f32⟩ : BufTy).Contents (Elt F) → (⟨S_, .f32⟩ : BufTy).Contents (Elt F)),
    StableHlo.nullary main_cst_3 (constant S_ .f32 0x00000000#32),
    StableHlo.binary main_v19 main_cst_3 main_v20 (cmpf .oeq : (⟨S_, .f32⟩ : BufTy).Contents (Elt F) → (⟨S_, .f32⟩ : BufTy).Contents (Elt F) → (⟨S_, .i1⟩ : BufTy).Contents (Elt F)),
    StableHlo.nullary main_cst_4 (constant S_ .f32 0x3F800000#32),
    StableHlo.binary main_v19 main_cst_4 main_v21 (maximumf : (⟨S_, .f32⟩ : BufTy).Contents (Elt F) → (⟨S_, .f32⟩ : BufTy).Contents (Elt F) → (⟨S_, .f32⟩ : BufTy).Contents (Elt F)),
    StableHlo.binary main_v10 main_v21 main_v22 (Host.divf : (⟨S_, .f32⟩ : BufTy).Contents (Elt F) → (⟨S_, .f32⟩ : BufTy).Contents (Elt F) → (⟨S_, .f32⟩ : BufTy).Contents (Elt F)),
    StableHlo.nullary main_cst_5 (constant S_ .f32 0x00000000#32),
    StableHlo.ternary main_v20 main_cst_5 main_v22 main_v23 (select : (⟨S_, .i1⟩ : BufTy).Contents (Elt F) → (⟨S_, .f32⟩ : BufTy).Contents (Elt F) → (⟨S_, .f32⟩ : BufTy).Contents (Elt F) → (⟨S_, .f32⟩ : BufTy).Contents (Elt F)) ]

/-- @main is its two calls and those operations. -/
theorem main_eq (d : Dev nD) : main (F := F) d = (do
    sc.run d 0
    Prog.lift (.customCall (SparseCore.inner (Pipeline.entry 0)) ())
    StableHlo.seq tailOps) := rfl

/-! ## The value -/

def zeroS : Sca F := constant S_ .f32 0x00000000#32
def oneS : Sca F := constant S_ .f32 0x3F800000#32

/-- The first rows of a partial result added up, -/
def headSum (X : Part F) : Sca F :=
  Host.reduceAdd (shapeCast S32x16 (extractStridedSlice S32x1x16 ![0, 0, 0] X Facts₀.slices_S32x2x16_S32x1x16_0_0_0) Facts₀.shapeCasts_S32x1x16_S32x16) zeroS
    Facts₀.reducesTo_S32x16_S_d0_1 Facts₀.h_S_
/-- and the second rows, their first lanes left out. -/
def tailSum (X : Part F) : Sca F :=
  Host.reduceAdd (shapeCast S32x15 (extractStridedSlice S32x1x15 ![0, 1, 1] X Facts₀.slices_S32x2x16_S32x1x15_0_1_1) Facts₀.shapeCasts_S32x1x15_S32x15) zeroS
    Facts₀.reducesTo_S32x15_S_d0_1 Facts₀.h_S_

/-- A partial result and a word, added up. -/
def totalOf (X : Part F) (w : S1x1.Idx → Elt F .f32) : Sca F :=
  addf (addf (headSum X) (tailSum X)) (shapeCast S_ w Facts₀.shapeCasts_S1x1_S_)

/-- The loss of a total and a count. -/
def lossOf (s c : Sca F) : Sca F := select (cmpf .oeq c zeroS) zeroS (Host.divf s (maximumf c oneS))

theorem after_v23 (V : Valuation τ sig (Elt F)) :
    StableHlo.after tailOps V (Proc.devRef .tc main_v23)
      = lossOf (totalOf (V (Proc.devRef .tc main_v0_0)) (V (Proc.devRef .tc main_v1_0))) (totalOf (V (Proc.devRef .tc main_v0_1)) (V (Proc.devRef .tc main_v1_1))) := by
  unfold tailOps
  after_results_simp
  rfl

/-- Every buffer the operations touch is the TensorCore's, and none is scoped. -/
abbrev ucRefs : Finset (DevRef τ sig) := (StableHlo.tcRefs τ sig).filter fun b => ¬ b.isScoped

theorem tail_writes : (tailOps (F := F)).map HloOp.writes = [main_v2, main_v3, main_cst, main_v4, main_v5, main_v6, main_cst_0, main_v7, main_v8, main_v9, main_v10,
    main_v11, main_v12, main_cst_1, main_v13, main_v14, main_v15, main_cst_2, main_v16, main_v17, main_v18, main_v19, main_cst_3, main_v20, main_cst_4, main_v21,
    main_v22, main_cst_5, main_v23].map fun r => {Proc.devRef (τ := τ) .tc r} := rfl

theorem after_arg0 (V : Valuation τ sig (Elt F)) : StableHlo.after tailOps V (Proc.devRef .tc main_arg0) = V (Proc.devRef .tc main_arg0) :=
  StableHlo.after_of_writes_sub tailOps V (StableHlo.forall_writes_sub_of_map tail_writes) (by decide)
theorem after_arg1 (V : Valuation τ sig (Elt F)) : StableHlo.after tailOps V (Proc.devRef .tc main_arg1) = V (Proc.devRef .tc main_arg1) :=
  StableHlo.after_of_writes_sub tailOps V (StableHlo.forall_writes_sub_of_map tail_writes) (by decide)

theorem tail_tc : (tailOps (F := F)).Forall fun op => op.bufs ⊆ StableHlo.tcRefs τ sig :=
  ⟨StableHlo.unary_bufs_sub .., StableHlo.reshape_bufs_sub .., StableHlo.nullary_bufs_sub .., StableHlo.binary_bufs_sub ..,
    StableHlo.unary_bufs_sub .., StableHlo.reshape_bufs_sub .., StableHlo.nullary_bufs_sub .., StableHlo.binary_bufs_sub ..,
    StableHlo.binary_bufs_sub .., StableHlo.reshape_bufs_sub .., StableHlo.binary_bufs_sub ..,
    StableHlo.unary_bufs_sub .., StableHlo.reshape_bufs_sub .., StableHlo.nullary_bufs_sub .., StableHlo.binary_bufs_sub ..,
    StableHlo.unary_bufs_sub .., StableHlo.reshape_bufs_sub .., StableHlo.nullary_bufs_sub .., StableHlo.binary_bufs_sub ..,
    StableHlo.binary_bufs_sub .., StableHlo.reshape_bufs_sub .., StableHlo.binary_bufs_sub ..,
    StableHlo.nullary_bufs_sub .., StableHlo.binary_bufs_sub .., StableHlo.nullary_bufs_sub .., StableHlo.binary_bufs_sub ..,
    StableHlo.binary_bufs_sub .., StableHlo.nullary_bufs_sub .., StableHlo.ternary_bufs_sub ..⟩

theorem tail_bufs : ∀ op ∈ tailOps (F := F), op.bufs ⊆ ucRefs := fun op hop b hb =>
  Finset.mem_filter.mpr ⟨List.forall_iff_forall_mem.mp tail_tc op hop hb, by rw [op.no_scoped b hb]; exact Bool.false_ne_true⟩

theorem tail_fresh : (tailOps (F := F)).Forall fun op => op.fresh = ∅ := StableHlo.forall_fresh_of_map rfl

end Cert.Proof.Run

end
-- ==== Proof.Main.lean ====
/-
  @main on a device's TensorCore, and the whole program's run: the SparseCore call, the TensorCore call, the host's
  operations, carrying what each leaves. Stated over any float values, so that it is at once both programs' run.
-/
module

public import proofs.«01_k».proof.Proof.Split
public import proofs.«01_k».proof.Proof.TcRegion
public import proofs.«01_k».proof.Proof.HostTail

@[expose] public section

noncomputable section

namespace Cert.Proof.Run

open Cert.KernelIdeal Cert.KernelIdeal.Gen
open Idealize.ShloMosaic Idealize.ShloMosaic.TcCoe
open Idealize.ShloMosaic.SparseCore.Cfg (HIx)
open Idealize.ShloMosaic.Rounds
open Idealize.ShloMosaic.Pipeline (cellsGhost toksInit)
open Idealize.SL Idealize.SL.RA Idealize.SL.BI Idealize.SL.BI.BIBase Idealize.SL.BI.Laws Idealize.SL.ProofMode
open Idealize.SL.Sem
open scoped Idealize.SL.BI

variable {F : FTy → Type} [FloatOps F]

local notation "𝕄" => MM F

variable (m : (ℓ : Loc nD τ sig) → Buf (Elt F) ℓ) (ρ : Dev nD → PrngReg)

/-! ## What the buffers hold -/

abbrev ref (r : Ref sig .tc) : DevRef τ sig := Proc.devRef .tc r

/-- At the launch, -/
def V0 (d : Dev nD) : Valuation τ sig (Elt F) := fun b => m (d, b)
/-- after the SparseCore call, -/
def V1 (d : Dev nD) : Valuation τ sig (Elt F) :=
  Function.update (Function.update (V0 m d) (ref main_v0_0) (sumsOut (F := F) (m (aLoc d)) (m (bLoc d)))) (ref main_v0_1) (cntsOut (F := F) (m (aLoc d)) (m (bLoc d)))
/-- after the TensorCore call, -/
def V2 (d : Dev nD) : Valuation τ sig (Elt F) :=
  Function.update (Function.update (V1 m d) (ref main_v1_0) (word (tcAccS (m (aLoc d)) (m (bLoc d)) 12))) (ref main_v1_1) (word (tcAccC (F := F) (m (bLoc d)) 12))
/-- and at the end. -/
def V3 (d : Dev nD) : Valuation τ sig (Elt F) := StableHlo.after tailOps (V2 m d)

/-- The value claimed of the result. -/
def lossVal (A B : Arr F) : Sca F :=
  lossOf (totalOf (sumsOut A B) (word (tcAccS A B 12))) (totalOf (cntsOut A B) (word (tcAccC B 12)))

theorem ref_ne {r s : Ref sig .tc} (h : r ≠ s) : ref r ≠ ref s := StableHlo.devRef_ne_of_ne h

theorem V1_of_ne (d : Dev nD) {r : Ref sig .tc} (h0 : r ≠ main_v0_0) (h1 : r ≠ main_v0_1) : V1 m d (ref r) = m ((SparseCore.T d).loc r) := by
  unfold V1
  rw [Function.update_of_ne (ref_ne h1), Function.update_of_ne (ref_ne h0)]
  rfl
theorem V2_of_ne (d : Dev nD) {r : Ref sig .tc} (h0 : r ≠ main_v1_0) (h1 : r ≠ main_v1_1) : V2 m d (ref r) = V1 m d (ref r) := by
  unfold V2
  rw [Function.update_of_ne (ref_ne h1), Function.update_of_ne (ref_ne h0)]
theorem V1_s (d : Dev nD) : V1 m d (ref main_v0_0) = sumsOut (F := F) (m (aLoc d)) (m (bLoc d)) := by
  unfold V1
  rw [Function.update_of_ne (ref_ne (by decide)), Function.update_self]
theorem V1_c (d : Dev nD) : V1 m d (ref main_v0_1) = cntsOut (F := F) (m (aLoc d)) (m (bLoc d)) := by
  unfold V1
  rw [Function.update_self]
theorem V2_s (d : Dev nD) : V2 m d (ref main_v1_0) = word (tcAccS (m (aLoc d)) (m (bLoc d)) 12) := by
  unfold V2
  rw [Function.update_of_ne (ref_ne (by decide)), Function.update_self]
theorem V2_c (d : Dev nD) : V2 m d (ref main_v1_1) = word (tcAccC (F := F) (m (bLoc d)) 12) := by
  unfold V2
  rw [Function.update_self]

theorem V3_arg0 (d : Dev nD) : V3 m d (ref main_arg0) = m (aLoc d) := by
  unfold V3
  rw [after_arg0, V2_of_ne m d (by decide) (by decide), V1_of_ne m d (by decide) (by decide)]
theorem V3_arg1 (d : Dev nD) : V3 m d (ref main_arg1) = m (bLoc d) := by
  unfold V3
  rw [after_arg1, V2_of_ne m d (by decide) (by decide), V1_of_ne m d (by decide) (by decide)]
theorem V3_v23 (d : Dev nD) : V3 m d (ref main_v23) = lossVal (F := F) (m (aLoc d)) (m (bLoc d)) := by
  unfold V3
  rw [after_v23, V2_s, V2_c, V2_of_ne m d (r := main_v0_0) (by decide) (by decide), V2_of_ne m d (r := main_v0_1) (by decide) (by decide), V1_s, V1_c]
  rfl

/-! ## The buffers, held -/

omit [FloatOps F] in
theorem held_eq (d : Dev nD) (W : Valuation τ sig (Elt F)) :
    (unscopedBufs d (fun b => W (ref b)) : sProp 𝕄) = StableHlo.held (SparseCore.T d) ucRefs W := by
  unfold unscopedBufs StableHlo.held ucRefs StableHlo.tcRefs
  rw [Finset.filter_map, bigSep_map]
  rfl

/-- The four buffers the SparseCore call is handed. -/
abbrev S4 : Finset (DevRef τ sig) := {ref main_arg0, ref main_arg1, ref main_v0_0, ref main_v0_1}

theorem mem_uc {r : Ref sig .tc} (h : r.isScoped = false) : ref r ∈ ucRefs :=
  Finset.mem_filter.mpr ⟨StableHlo.devRef_mem_tcRefs r, by rw [show (ref r).isScoped = r.isScoped from rfl, h]; exact Bool.false_ne_true⟩

theorem S4_sub : S4 ⊆ ucRefs := by
  intro b hb
  simp only [S4, Finset.mem_insert, Finset.mem_singleton] at hb
  rcases hb with rfl | rfl | rfl | rfl <;> exact mem_uc (by decide)

omit [FloatOps F] in
theorem held_S4 (d : Dev nD) (W : Valuation τ sig (Elt F)) : (StableHlo.held (SparseCore.T d) S4 W : sProp 𝕄)
    = iprop((aLoc d ↦{fullShare} W (ref main_arg0)) ∗ (bLoc d ↦{fullShare} W (ref main_arg1)) ∗ (sLoc d ↦{fullShare} W (ref main_v0_0))
      ∗ (cLoc d ↦{fullShare} W (ref main_v0_1))) := by
  unfold StableHlo.held S4
  rw [SparseCore.bigSep_insert' (by decide), SparseCore.bigSep_insert' (by decide), SparseCore.bigSep_insert' (by decide), bigSep_singleton]

/-- The rest is as the SparseCore call found it. -/
theorem held_rest (d : Dev nD) : (StableHlo.held (SparseCore.T d) (ucRefs \ S4) (V1 m d) : sProp 𝕄) = StableHlo.held (SparseCore.T d) (ucRefs \ S4) (V0 m d) :=
  StableHlo.held_congr _ fun b hb => by
    have h := (Finset.mem_sdiff.mp hb).2
    simp only [S4, Finset.mem_insert, Finset.mem_singleton, not_or] at h
    unfold V1
    rw [Function.update_of_ne h.2.2.2, Function.update_of_ne h.2.2.1]

/-! ## The launch's ghost state -/

def u₀ (F : FTy → Type) [FloatOps F] : UU :=
  (initOf (K (F := F)).hsCells (K (F := F)).hsToks,
    (initOf (Pipeline.cells cfgs cellOf_inj) (Pipeline.launchToks cfgs cellOf_inj), 1))

/-- What the TensorCore's thread takes of it. -/
def G (d : Dev nD) : sProp 𝕄 := iprop(cellsGhost cfgs EP 0 d ∗ toksInit cfgs EP 0 d)

omit [FloatOps F] in
theorem emps {I : Type} (s : Finset I) : (bigSep s fun _ => iprop(emp)) = (iprop(emp) : sProp 𝕄) := bigSep_emp_const s

theorem hu₀ : (ownU (u₀ F) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    (initOf (Pipeline.cells cfgs cellOf_inj) (Pipeline.launchToks cfgs cellOf_inj), (1 : Counters))) $$ Hu
  icases H with ⟨HH, HR⟩
  ihave HR' := (own_pair_emb embR (initOf (Pipeline.cells cfgs cellOf_inj) (Pipeline.launchToks cfgs cellOf_inj)) (1 : Counters)) $$ HR
  icases HR' with ⟨HP, -⟩
  imod (Pipeline.fund_ghost cfgs EP cellOf_inj) $$ HP with ⟨Hc, Ht⟩
  imodintro
  isplitl [HH]; · iexact HH
  isplitl [Hc Ht]
  · rw [show (bigSep Finset.univ fun d : Dev nD => G (F := F) d)
        = (iprop((bigSep Finset.univ fun d : Dev nD => bigSep Finset.univ fun p => cellsGhost cfgs EP p d)
          ∗ (bigSep Finset.univ fun d : Dev nD => bigSep Finset.univ fun p => toksInit cfgs EP p d)) : sProp 𝕄) from by
      rw [← bigSep_sep']
      refine bigSep_congr fun d _ => ?_
      rw [bigSep_univ_of_subsingleton (0 : Fin 1), bigSep_univ_of_subsingleton (0 : Fin 1)]
      rfl]
    isplitl [Hc] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The TensorCore call -/

/-- The TensorCore call's step, from the buffers as the SparseCore call left them. -/
theorem wp_tc (d : Dev nD) (Φ : PUnit → sProp 𝕄) [∀ e, Nonempty (Elt F e)] :
    iprop(boundary (SparseCore.T d) ∗ StableHlo.held (SparseCore.T d) ucRefs (V1 m d) ∗ owesBelow (F := F) 8 d
        ∗ levAts (K (F := F)).L (K (F := F)).lev ∗ G (F := F) d)
      ⊢ iprop((iprop(boundary (SparseCore.T d) ∗ StableHlo.held (SparseCore.T d) ucRefs (V2 m d) ∗ owesBelow (F := F) 8 d) -∗ Φ ⟨⟩)
        -∗ wp frame (wpE ((K (F := F)).defs (D (F := F))) 𝒱 (SparseCore.T d) none) Set.univ
          (Prog.lift (.customCall (SparseCore.inner (Pipeline.entry 0)) ())) Φ) := by
  have hS : ∀ c, V2 m c (ref main_v1_0) = outS (fun c b => V1 m c (ref b)) c := fun c => by
    rw [V2_s]; unfold outS VA VB; dsimp only; rw [V1_of_ne m c (by decide) (by decide), V1_of_ne m c (by decide) (by decide)]
  have hC : ∀ c, V2 m c (ref main_v1_1) = outC (fun c b => V1 m c (ref b)) c := fun c => by
    rw [V2_c]; unfold outC VB; dsimp only; rw [V1_of_ne m c (by decide) (by decide)]
  obtain ⟨R, hpre, hpost⟩ : ∃ R : Pipeline.RegionSeg (pcfgs (F := F)) (adm F) (pdats (F := F) 8 fun c b => V1 m c (ref b)) (none : HIx 1) defs₀ 𝒱₀
      (K (F := F)).L (K (F := F)).lev 0,
      R.pre d = (iprop(unscopedBufs d (fun b => V1 m d (ref b)) ∗ owesBelow (F := F) 8 d) : sProp 𝕄)
        ∧ R.post d = (iprop(unscopedBufs d (fun b => V2 m d (ref b)) ∗ owesBelow (F := F) 8 d) : sProp 𝕄) :=
    ⟨reg (F := F) 8 (fun c b => V1 m c (ref b)) (fun c b => V2 m c (ref b)) hS hC fun c b h0 h1 => V2_of_ne m c h0 h1, rfl, rfl⟩
  rw [held_eq] at hpre hpost
  have hr := Pipeline.RegionSeg.wp (pcfgs (F := F)) (adm F) (pdats (F := F) 8 fun c b => V1 m c (ref b)) (none : HIx 1) cellOf_inj EP defs₀ 𝒱₀
    (K (F := F)).L (K (F := F)).lev R d none (by simp) (fun _ => .ret ⟨⟩) Φ
  rw [hpre, hpost] at hr
  have hl := (K (F := F)).wp_liftProg (D (F := F)) 𝒱 (SparseCore.T d) Set.univ none (Prog.lift (.customCall (Pipeline.entry 0) ())) Φ
  unfold G
  iintro ⟨Hb, Hh, HO, Hlev, Hg, Ht⟩ Hk
  iapply hl
  iapply hr
  isplitl [Hk]
  · iintro ⟨Hb, Hp⟩
    rw [wp_ret]
    imodintro
    icases Hp with ⟨Hh, HO⟩
    iapply Hk
    isplitl [Hb]; · iexact Hb
    isplitl [Hh] <;> iassumption
  isplitl [Hb]; · iexact Hb
  isplitl [Hh HO]
  · isplitl [Hh] <;> iassumption
  isplitl [Hlev]; · iexact Hlev
  isplitl [Hg] <;> iassumption

end Cert.Proof.Run

end
-- ==== Proof.MainRun.lean ====
/-
  The whole program's run: @main on a device's TensorCore, and what every launch memory comes to.
-/
module

public import proofs.«01_k».proof.Proof.Main

@[expose] public section

noncomputable section

namespace Cert.Proof.Run

open Cert.KernelIdeal Cert.KernelIdeal.Gen
open Idealize.ShloMosaic Idealize.ShloMosaic.TcCoe
open Idealize.ShloMosaic.SparseCore.Cfg (HIx)
open Idealize.ShloMosaic.Rounds
open Idealize.ShloMosaic.Pipeline (cellsGhost toksInit)
open Idealize.SL Idealize.SL.RA Idealize.SL.BI Idealize.SL.BI.BIBase Idealize.SL.BI.Laws Idealize.SL.ProofMode
open Idealize.SL.Sem
open scoped Idealize.SL.BI

variable {F : FTy → Type} [FloatOps F]

local notation "𝕄" => MM F

variable (m : (ℓ : Loc nD τ sig) → Buf (Elt F) ℓ) (ρ : Dev nD → PrngReg)

/-! ## The SparseCore call -/

/-- The SparseCore call's step: from the buffers at the launch to the buffers with the partial results in. -/
theorem wp_sc (κ : GSem nD τ sig → ℕ) (d : Dev nD) (Φ : PUnit → sProp 𝕄) :
    iprop((K (F := F)).ctx EH (P m) κ ∗ (K (F := F)).tcSt EH d 0 ∗ StableHlo.held (SparseCore.T d) ucRefs (V0 m d))
      ⊢ iprop((iprop((K (F := F)).tcSt EH d 1 ∗ StableHlo.held (SparseCore.T d) ucRefs (V1 m d)) -∗ Φ ⟨⟩)
        -∗ wp frame (wpE ((K (F := F)).defs (D (F := F))) 𝒱 (SparseCore.T d) none) Set.univ ((K (F := F)).run d 0) Φ) := by
  iintro ⟨#Hctx, Hst, Hh⟩ Hk
  ihave Hs := (Entails.of_eq (StableHlo.held_sub_split (SparseCore.T d) S4_sub (V0 m d))) $$ Hh
  icases Hs with ⟨H4, Hr⟩
  ihave H4' := (Entails.of_eq (held_S4 (F := F) d (V0 m d))) $$ H4
  icases H4' with ⟨Ha, Hb, Hs, Hc⟩
  iapply ((K (F := F)).wp_run (D (F := F)) 𝒱 (EH := EH) (P := P m) κ d 0)
  isplitr; · iexact Hctx
  isplitl [Hst]; · iexact Hst
  isplitl [Ha Hb Hs Hc]
  · rw [st0_eq]
    isplitl [Ha Hb]
    · isplitl [Ha]; · iexact Ha
      iexact Hb
    isplitl [Hs]; · iexact Hs
    iexact Hc
  iintro ⟨Hst, Hdn⟩
  ihave Hdn' := (Entails.of_eq (dn0_eq m d)) $$ Hdn
  icases Hdn' with ⟨⟨Ha, Hb⟩, Hs, Hc⟩
  iapply Hk
  isplitl [Hst]; · iexact Hst
  rw [StableHlo.held_sub_split (SparseCore.T d) S4_sub (V1 m d), held_S4, held_rest, V1_s, V1_c, V1_of_ne m d (by decide) (by decide), V1_of_ne m d (by decide) (by decide)]
  isplitr [Hr]
  · isplitl [Ha]; · iexact Ha
    isplitl [Hb]; · iexact Hb
    isplitl [Hs]; · iexact Hs
    iexact Hc
  iexact Hr

/-! ## @main -/

/-- What is read at the end. -/
abbrev FIN (d : Dev nD) : sProp 𝕄 := StableHlo.held (SparseCore.T d) ucRefs (V3 m d)

/-- The TensorCore's state after the SparseCore call: it owes nothing, and what it records is below the call's bound. -/
theorem tcSt_one (d : Dev nD) : ∃ R : sProp 𝕄, (K (F := F)).tcSt EH d 1 = (iprop(owesBelow (F := F) 8 d ∗ R) : sProp 𝕄) := by
  unfold SparseCore.Cfg.tcSt owesBelow
  rw [(K (F := F)).Otc_end d le_rfl]
  exact ⟨_, rfl⟩

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  have hheld : (unscopedBufs d (fun b => m ((SparseCore.T d).loc b)) : sProp 𝕄) = StableHlo.held (SparseCore.T d) ucRefs (V0 m d) :=
    held_eq d (V0 m d)
  obtain ⟨R, hR⟩ := tcSt_one (F := F) d
  unfold SparseCore.Cfg.tcRes SparseCore.Cfg.tcEnd
  rw [main_eq, hheld, wp_bind]
  iintro ⟨#Hctx, Hst, ⟨Hb, Hh, Hts, -⟩, HG⟩
  iapply (wp_sc m κ d _) $$ [Hst Hh]
  · isplitr; · iexact Hctx
    isplitl [Hst] <;> iassumption
  iintro ⟨Hst, Hh⟩
  rw [wp_bind]
  ihave Hst' := (Entails.of_eq hR) $$ Hst
  icases Hst' with ⟨HO, Hst⟩
  iapply (wp_tc m d _) $$ [Hb Hh HO HG]
  · isplitl [Hb]; · iexact Hb
    isplitl [Hh]; · iexact Hh
    isplitl [HO]
    · iexact HO
    isplitr
    · iapply SparseCore.Cfg.ctx_levAts; iexact Hctx
    iexact HG
  iintro ⟨Hb, Hh, HO⟩
  rw [← bind_pure (StableHlo.seq tailOps)]
  iapply (StableHlo.wp_seq (defs := (K (F := F)).defs (D (F := F))) 𝒱 (bd := none) (E := Set.univ) d ucRefs Pure.pure tailOps tail_bufs (List.forall_iff_forall_mem.mp tail_fresh) (V2 m d)) $$ [Hb Hh]
  · isplitl [Hb] <;> iassumption
  iintro ⟨Hb, Hh⟩
  rw [wp_pure]
  imodintro
  isplitl [HO Hst]
  · iapply (Entails.of_eq hR.symm)
    isplitl [HO] <;> iassumption
  isplitl [Hh]
  · unfold FIN V3
    iexact Hh
  isplitl [Hb] <;> iassumption

/-- What a memory at the end is. -/
def fq (d : Dev nD) (s' : Phys nD τ sig (Elt F)) : Prop :=
  s'.mem.mem (aLoc d) = m (aLoc d) ∧ s'.mem.mem (bLoc d) = m (bLoc d)
    ∧ s'.mem.mem ((SparseCore.T d).loc main_v23) = lossVal (F := F) (m (aLoc d)) (m (bLoc d))

/-- The buffers read at the end. -/
abbrev S3 : Finset (DevRef τ sig) := {ref main_arg0, ref main_arg1, ref main_v23}

theorem S3_sub : S3 ⊆ ucRefs := by
  intro b hb
  simp only [S3, Finset.mem_insert, Finset.mem_singleton] at hb
  rcases hb with rfl | rfl | rfl <;> exact mem_uc (by decide)

theorem held_S3 (d : Dev nD) : (StableHlo.held (SparseCore.T d) S3 (V3 m d) : sProp 𝕄)
    = iprop((aLoc d ↦{fullShare} m (aLoc d)) ∗ (bLoc d ↦{fullShare} m (bLoc d))
      ∗ ((SparseCore.T d).loc main_v23 ↦{fullShare} lossVal (F := F) (m (aLoc d)) (m (bLoc d)))) := by
  rw [← V3_v23 m d, ← V3_arg0 m d, ← V3_arg1 m d]
  unfold StableHlo.held S3
  rw [SparseCore.bigSep_insert' (by decide), SparseCore.bigSep_insert' (by decide), bigSep_singleton]

theorem hfin (d : Dev nD) (s' : Phys nD τ sig (Elt F)) : iprop(FIN m d ∗ SI s') ⊢ (⌜fq m d s'⌝ : sProp 𝕄) := by
  unfold FIN
  rw [StableHlo.held_sub_split (SparseCore.T d) S3_sub (V3 m d), held_S3]
  iintro ⟨⟨⟨Ha, Hb, Hv⟩, -⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := (SparseCore.T d).loc main_v23) (I := Finset.univ) (q := fullShare)
    (f := lossVal (F := F) (m (aLoc d)) (m (bLoc d)))) $$ [HSI Hv]
  · isplitl [HSI] <;> iassumption
  icases H with %h3
  ipureintro
  exact ⟨funext fun i => h1 i (Finset.mem_univ i), funext fun i => h2 i (Finset.mem_univ i), funext fun i => h3 i (Finset.mem_univ i)⟩

/-! ## The run -/

/-- What every run comes to: the arguments as they were, the result at its value, every semaphore at zero. -/
def QC : PUnit × MemSt nD τ sig (Elt F) → Prop := fun r =>
  (∀ c : Dev nD, r.2.mem (aLoc c) = m (aLoc c) ∧ r.2.mem (bLoc c) = m (bLoc c)
    ∧ r.2.mem ((SparseCore.T c).loc main_v23) = lossVal (F := F) (m (aLoc c)) (m (bLoc c))) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m scFacts)
    (fun q _ => match q with | 0 => SparseCore.Cfg.VecSplit.of_plain (vecSplit m))
    m ρ main (G (F := F)) (FIN m) (u₀ F) (sep_elim_left.trans (hu₀ m)) (hmain m ρ) (fq m) (hfin m) (QC m) (fun _ h hz => ⟨h, hz⟩)

end Cert.Proof.Run

end
-- ==== Proof.Cells.lean ====
/-
  The kernel's arithmetic at the ideal instance, element by element: what one target counts for, what one pair adds,
  and an array's elements read by natural coordinates, so that the sums below are sums over ranges.
-/
module

public import proofs.«01_k».proof.Proof.Main
public import Idealize.ShloMosaic.Lib.Pointwise

@[expose] public section

noncomputable section

namespace Cert.Proof.Run

open Cert.KernelIdeal Cert.KernelIdeal.Gen
open Idealize.ShloMosaic
open scoped BigOperators

/-! ## One element -/

/-- What a pair of elements adds to the sum: the absolute difference, unless the target is minus infinity. -/
def mdiff (p t : EReal) : EReal := if t = ⊥ then 0 else max (p - t) (-(p - t))
/-- What a target adds to the count. -/
def mone (p t : EReal) : EReal := if t = ⊥ then 0 else 1

theorem ninf_f32 : Ideal.ofBits .f32 0xFF800000#32 = ⊥ := by
  simp [Ideal.ofBits, Ideal.ieee]

theorem dsum_apply (p t : V16 Ideal) (x : S16.Idx) : dsum p t x = mdiff (p x) (t x) := by
  unfold dsum mdiff
  pointwise
  rw [ninf_f32, Ideal.absf_def]
  by_cases h : t x = ⊥
  · rw [if_neg (by rw [h]; exact lt_irrefl _), if_pos h]
  · rw [if_pos (bot_lt_iff_ne_bot.mpr h), if_neg h]

theorem dcnt_apply (p t : V16 Ideal) (x : S16.Idx) : dcnt t x = mone (p x) (t x) := by
  unfold dcnt mone
  pointwise
  rw [ninf_f32]
  by_cases h : t x = ⊥
  · rw [if_neg (by rw [h]; exact lt_irrefl _), if_pos h]
  · rw [if_pos (bot_lt_iff_ne_bot.mpr h), if_neg h]

/-! ## Arrays by natural coordinates -/

/-- An array's element, -/
def arr (A : Arr Ideal) (r c l : ℕ) : EReal := A (ix3 (Fin.ofNat 4096 r) (Fin.ofNat 12 c) (Fin.ofNat 207 l))
/-- a chunk's, -/
def chk (P : Chunk Ideal) (r c l : ℕ) : EReal := P (ix3 (Fin.ofNat 4 r) (Fin.ofNat 12 c) (Fin.ofNat 207 l))
/-- and a block's. -/
def blk (P : Blk Ideal) (r c l : ℕ) : EReal := P (ix3 (Fin.ofNat 256 r) (Fin.ofNat 12 c) (Fin.ofNat 207 l))

theorem ofNat_val (n : ℕ) [NeZero n] (x : Fin n) : Fin.ofNat n x.val = x := Fin.ext (Nat.mod_eq_of_lt x.isLt)

theorem arr_ix (A : Arr Ideal) (r : Fin 4096) (c : Fin 12) (l : Fin 207) : A (ix3 r c l) = arr A r.val c.val l.val := by
  unfold arr
  rw [ofNat_val, ofNat_val, ofNat_val]
theorem blk_ix (A : Blk Ideal) (r : Fin 256) (c : Fin 12) (l : Fin 207) : A (ix3 r c l) = blk A r.val c.val l.val := by
  unfold blk
  rw [ofNat_val, ofNat_val, ofNat_val]

/-- A chunk's rows are the array's from its first row on, -/
theorem chk_rowsFrom (A : Arr Ideal) (n r c l : ℕ) (hr : r < 4) : chk (rowsFrom A n) r c l = arr A (n + r) c l := by
  unfold chk arr rowsFrom
  congr 1
  funext a
  fin_cases a
  · show Fin.ofNat 4096 (n + r % 4) = Fin.ofNat 4096 (n + r)
    rw [Nat.mod_eq_of_lt hr]
  · rfl
  · rfl
/-- and a block's. -/
theorem blk_blkOf (A : Arr Ideal) (n r c l : ℕ) (hr : r < 256) : blk (blkOf A n) r c l = arr A (1024 + 256 * n + r) c l := by
  unfold blk arr blkOf
  congr 1
  funext a
  fin_cases a
  · show Fin.ofNat 4096 (1024 + 256 * n + r % 256) = Fin.ofNat 4096 (1024 + 256 * n + r)
    rw [Nat.mod_eq_of_lt hr]
  · rfl
  · rfl

/-- A vector's lane is the chunk's element at the vector's start plus the lane. -/
theorem lanes_apply (P : Chunk Ideal) (r : Fin 4) (c : Fin 12) (k : Fin 13) (x : Fin 16) :
    lanes P r c k (ix1 x) = chk P r.val c.val (voff k.val + x.val) := by
  have hx := x.isLt
  have hv := voff_le k
  unfold lanes chk
  pointwise
  congr 1
  rw [ofNat_val, ofNat_val, ix3_inj]
  refine ⟨Fin.ext (iv_small r), Fin.ext rfl, Fin.ext ?_⟩
  show voff k.val + x.val = (voff k.val + x.val) % 207
  rw [Nat.mod_eq_of_lt (by omega)]

/-! ## Sums over ranges -/

/-- A sum in blocks. -/
theorem sum_blocks (f : ℕ → EReal) (k n : ℕ) :
    ∑ i ∈ Finset.range n, ∑ j ∈ Finset.range k, f (k * i + j) = ∑ j ∈ Finset.range (k * n), f j := by
  induction n with
  | zero => simp
  | succ n ih => rw [Finset.sum_range_succ, ih, Nat.mul_succ, Finset.sum_range_add]

/-- What a row adds up to, element by element. -/
def rowCells (g : EReal → EReal → EReal) (A B : Arr Ideal) (r : ℕ) : EReal :=
  ∑ c ∈ Finset.range 12, ∑ l ∈ Finset.range 207, g (arr A r c l) (arr B r c l)

/-- A sum over an array is a sum over its rows. -/
theorem sum_arr (g : EReal → EReal → EReal) (A B : Arr Ideal) :
    ∑ r : Fin 4096, ∑ c : Fin 12, ∑ l : Fin 207, g (A (ix3 r c l)) (B (ix3 r c l)) = ∑ r ∈ Finset.range 4096, rowCells g A B r := by
  unfold rowCells
  rw [Finset.sum_range]
  refine Finset.sum_congr rfl fun r _ => ?_
  rw [Finset.sum_range]
  refine Finset.sum_congr rfl fun c _ => ?_
  rw [Finset.sum_range]
  exact Finset.sum_congr rfl fun l _ => by rw [arr_ix A, arr_ix B]

/-- A sum over a block is a sum over its 256 rows. -/
theorem sum_blk (g : EReal → EReal → EReal) (A B : Arr Ideal) (n : ℕ) :
    ∑ r : Fin 256, ∑ c : Fin 12, ∑ l : Fin 207, g (blkOf A n (ix3 r c l)) (blkOf B n (ix3 r c l))
      = ∑ r ∈ Finset.range 256, rowCells g A B (1024 + 256 * n + r) := by
  unfold rowCells
  rw [Finset.sum_range]
  refine Finset.sum_congr rfl fun r _ => ?_
  rw [Finset.sum_range]
  refine Finset.sum_congr rfl fun c _ => ?_
  rw [Finset.sum_range]
  exact Finset.sum_congr rfl fun l _ => by rw [blk_ix (blkOf A n), blk_ix (blkOf B n), blk_blkOf _ _ _ _ _ r.isLt, blk_blkOf _ _ _ _ _ r.isLt]

end Cert.Proof.Run

end
-- ==== Proof.ScSum.lean ====
/-
  What a subcore adds up, at the ideal instance: its lanes' sums, the last vector's first lane left out, are its rows'
  elements each once. Stated once for what the sums and the counts both are: a quantity to which vector `k` adds its
  lanes' parts.
-/
module

public import proofs.«01_k».proof.Proof.Cells

@[expose] public section

noncomputable section

namespace Cert.Proof.Run

open Cert.KernelIdeal Cert.KernelIdeal.Gen
open Idealize.ShloMosaic
open scoped BigOperators

/-- A vector's part: all its lanes, but of the last vector, which overlaps the one before in a lane, all but the first. -/
def part (k : ℕ) (f : Fin 16 → EReal) : EReal := if k = 12 then ∑ x : Fin 15, f ⟨1 + x.val, by omega⟩ else ∑ x : Fin 16, f x

/-- What the host adds up of a subcore's sums, -/
def sumTot (a : Acc Ideal) : EReal :=
  (∑ x : Fin 16, addf (addf a.1 a.2.1) a.2.2.1 (ix1 x)) + ∑ x : Fin 15, a.2.2.2.2.2.2.1 (ix1 ⟨1 + x.val, by omega⟩)
/-- and of its counts. -/
def cntTot (a : Acc Ideal) : EReal :=
  (∑ x : Fin 16, addf (addf a.2.2.2.1 a.2.2.2.2.1) a.2.2.2.2.2.1 (ix1 x)) + ∑ x : Fin 15, a.2.2.2.2.2.2.2 (ix1 ⟨1 + x.val, by omega⟩)

theorem sumTot_bump (k : ℕ) (a : Acc Ideal) (p t : V16 Ideal) :
    sumTot (bump k a p t) = sumTot a + part k fun x => mdiff (p (ix1 x)) (t (ix1 x)) := by
  obtain ⟨s0, s1, s2, c0, c1, c2, st, ct⟩ := a
  unfold sumTot bump part
  split_ifs <;> (simp only [addf_apply, Ideal.addf_def, dsum_apply, Finset.sum_add_distrib]; abel)
theorem cntTot_bump (k : ℕ) (a : Acc Ideal) (p t : V16 Ideal) :
    cntTot (bump k a p t) = cntTot a + part k fun x => mone (p (ix1 x)) (t (ix1 x)) := by
  obtain ⟨s0, s1, s2, c0, c1, c2, st, ct⟩ := a
  unfold cntTot bump part
  split_ifs <;> (simp only [addf_apply, Ideal.addf_def, dcnt_apply p, Finset.sum_add_distrib]; abel)

theorem sumTot_zeros : sumTot zeros = 0 := by
  unfold sumTot zeros
  pointwise
  simp
theorem cntTot_zeros : cntTot zeros = 0 := by
  unfold cntTot zeros
  pointwise
  simp

/-- Steps that each add to a quantity. -/
theorem foldl_tot {X I : Type} (T : X → EReal) (f : X → I → X) (w : I → EReal) (h : ∀ a i, T (f a i) = T a + w i) (l : List I) (a : X) :
    T (l.foldl f a) = T a + (l.map w).sum := by
  induction l generalizing a with
  | nil => simp
  | cons i l ih => rw [List.foldl_cons, ih, h, List.map_cons, List.sum_cons, add_assoc]

/-- The thirteen vectors' parts are the sublane's 207 elements. -/
theorem sum_vecs (f : ℕ → EReal) : (vecs.map fun k : Fin 13 => part k.val fun x => f (voff k.val + x.val)).sum = ∑ l ∈ Finset.range 207, f l := by
  have hp : ∀ k : ℕ, k < 12 → (part k fun x => f (voff k + x.val)) = ∑ x ∈ Finset.range 16, f (16 * k + x) := fun k hk => by
    unfold part voff
    rw [if_neg (by omega), if_neg (by omega), Finset.sum_range]
  have hl : (part 12 fun x => f (voff 12 + x.val)) = ∑ x ∈ Finset.range 15, f (192 + x) := by
    unfold part voff
    rw [if_pos rfl, if_pos rfl, Finset.sum_range]
    exact Finset.sum_congr rfl fun x _ => congrArg f (by show 191 + (1 + x.val) = 192 + x.val; omega)
  have hs : ∀ v : ℕ → EReal, (vecs.map fun k : Fin 13 => v k.val).sum = (∑ k ∈ Finset.range 12, v k) + v 12 := fun v => by
    simp only [vecs, List.map_cons, List.map_nil, List.sum_cons, List.sum_nil, Finset.sum_range_succ, Finset.sum_range_zero]
    show v 0 + (v 1 + (v 2 + (v 3 + (v 4 + (v 5 + (v 6 + (v 7 + (v 8 + (v 9 + (v 10 + (v 11 + (v 12 + 0)))))))))))) = _
    abel
  rw [hs fun k => part k fun x => f (voff k + x.val), hl, Finset.sum_congr rfl fun k hk => hp k (Finset.mem_range.mp hk), sum_blocks f 16 12,
    show 207 = 16 * 12 + 15 from rfl, Finset.sum_range_add]

theorem sum_subs (v : ℕ → EReal) : (subs.map fun c : Fin 12 => v c.val).sum = ∑ c ∈ Finset.range 12, v c := by
  simp only [subs, List.map_cons, List.map_nil, List.sum_cons, List.sum_nil, Finset.sum_range_succ, Finset.sum_range_zero]
  show v 0 + (v 1 + (v 2 + (v 3 + (v 4 + (v 5 + (v 6 + (v 7 + (v 8 + (v 9 + (v 10 + (v 11 + 0))))))))))) = _
  abel

theorem sum_rows (v : ℕ → EReal) : (((List.finRange 4).take 4).map fun r : Fin 4 => v r.val).sum = ∑ r ∈ Finset.range 4, v r := by
  rw [Finset.sum_range, List.take_of_length_le (by simp), Fin.sum_univ_def]

section Steps

variable (T : Acc Ideal → EReal) (g : EReal → EReal → EReal)
variable (hT : ∀ k a p t, T (bump k a p t) = T a + part k fun x => g (p (ix1 x)) (t (ix1 x)))
include hT

theorem tot_sub (P Q : Chunk Ideal) (r : Fin 4) (c : Fin 12) (a : Acc Ideal) :
    T (subV P Q r c a) = T a + ∑ l ∈ Finset.range 207, g (chk P r.val c.val l) (chk Q r.val c.val l) := by
  unfold subV
  rw [foldl_tot T _ (fun k : Fin 13 => part k.val fun x => g (chk P r.val c.val (voff k.val + x.val)) (chk Q r.val c.val (voff k.val + x.val)))
    (fun a k => by unfold stepV; rw [hT]; simp only [lanes_apply]), sum_vecs fun l => g (chk P r.val c.val l) (chk Q r.val c.val l)]

theorem tot_row (P Q : Chunk Ideal) (r : Fin 4) (a : Acc Ideal) :
    T (rowV P Q r a) = T a + ∑ c ∈ Finset.range 12, ∑ l ∈ Finset.range 207, g (chk P r.val c l) (chk Q r.val c l) := by
  unfold rowV
  rw [foldl_tot T _ _ (fun a c => tot_sub T g hT P Q r c a),
    sum_subs fun c => ∑ l ∈ Finset.range 207, g (chk P r.val c l) (chk Q r.val c l)]

theorem tot_chunk (P Q : Chunk Ideal) (a : Acc Ideal) :
    T (chunkV P Q a) = T a + ∑ r ∈ Finset.range 4, ∑ c ∈ Finset.range 12, ∑ l ∈ Finset.range 207, g (chk P r c l) (chk Q r c l) := by
  unfold chunkV rowsV
  rw [foldl_tot T _ _ (fun a r => tot_row T g hT P Q r a),
    sum_rows fun r => ∑ c ∈ Finset.range 12, ∑ l ∈ Finset.range 207, g (chk P r c l) (chk Q r c l)]

/-- After `n` chunks a subcore has its first `4 n` rows. -/
theorem tot_chunks (h0 : T zeros = 0) (A B : Arr Ideal) (w n : ℕ) :
    T (chunksV A B w n) = ∑ j ∈ Finset.range (4 * n), rowCells g A B (base w + j) := by
  rw [← sum_blocks (fun j => rowCells g A B (base w + j)) 4 n]
  induction n with
  | zero => simpa [chunksV] using h0
  | succ n ih =>
    rw [Finset.sum_range_succ, ← ih]
    show T (chunkV _ _ _) = _
    rw [tot_chunk T g hT]
    congr 1
    refine Finset.sum_congr rfl fun r hr => ?_
    have hr' := Finset.mem_range.mp hr
    unfold rowCells
    refine Finset.sum_congr rfl fun c _ => Finset.sum_congr rfl fun l _ => ?_
    rw [chk_rowsFrom A _ r c l hr', chk_rowsFrom B _ r c l hr', add_assoc]

/-- All 32 subcores have the first 1024 rows. -/
theorem tot_all (h0 : T zeros = 0) (A B : Arr Ideal) :
    ∑ w : Fin 32, T (chunksV A B w.val 8) = ∑ j ∈ Finset.range 1024, rowCells g A B j := by
  rw [← Finset.sum_range fun w => T (chunksV A B w 8), ← sum_blocks (rowCells g A B) 32 32]
  exact Finset.sum_congr rfl fun w _ => tot_chunks T g hT h0 A B w 8

end Steps

end Cert.Proof.Run

end
-- ==== Proof.Totals.lean ====
/-
  Both calls' partial results added up, at the ideal instance: the sums over all rows.
-/
module

public import proofs.«01_k».proof.Proof.ScSum

@[expose] public section

noncomputable section

namespace Cert.Proof.Run

open Cert.KernelIdeal Cert.KernelIdeal.Gen
open Idealize.ShloMosaic
open scoped BigOperators

/-! ## The SparseCore call's part -/

theorem heads (X : Part Ideal) (j : S_.Idx) : headSum X j = ∑ w : Fin 32, ∑ x : Fin 16, X (ix3 w 0 x) := by
  unfold headSum zeroS
  pointwise
theorem tails (X : Part Ideal) (j : S_.Idx) : tailSum X j = ∑ w : Fin 32, ∑ x : Fin 15, X (ix3 w 1 ⟨1 + x.val, by omega⟩) := by
  unfold tailSum zeroS
  pointwise

theorem lane_ix (x : Fin 16) (f : S16.Idx → EReal) (y : S16.Idx) (h : (y 0).val = x.val) : f y = f (ix1 x) :=
  congrArg f (funext fun a => by fin_cases a; exact Fin.ext h)

theorem sumRows_head (a : Acc Ideal) (y : S2x16.Idx) (x : Fin 16) (h0 : (y 0).val = 0) (h1 : (y 1).val = x.val) :
    sumRows a y = addf (addf a.1 a.2.1) a.2.2.1 (ix1 x) :=
  (if_pos h0).trans (lane_ix x (addf (addf a.1 a.2.1) a.2.2.1) _ h1)
theorem sumRows_tail (a : Acc Ideal) (y : S2x16.Idx) (x : Fin 16) (h0 : (y 0).val ≠ 0) (h1 : (y 1).val = x.val) :
    sumRows a y = a.2.2.2.2.2.2.1 (ix1 x) :=
  (if_neg h0).trans (lane_ix x a.2.2.2.2.2.2.1 _ h1)
theorem sumsOut_head (A B : Arr Ideal) (w : Fin 32) (x : Fin 16) :
    sumsOut A B (ix3 w 0 x) = addf (addf (chunksV A B w.val 8).1 (chunksV A B w.val 8).2.1) (chunksV A B w.val 8).2.2.1 (ix1 x) :=
  sumRows_head (chunksV A B w.val 8) _ x rfl rfl
theorem sumsOut_tail (A B : Arr Ideal) (w : Fin 32) (x : Fin 16) :
    sumsOut A B (ix3 w 1 x) = (chunksV A B w.val 8).2.2.2.2.2.2.1 (ix1 x) :=
  sumRows_tail (chunksV A B w.val 8) _ x Nat.one_ne_zero rfl
theorem cntRows_head (a : Acc Ideal) (y : S2x16.Idx) (x : Fin 16) (h0 : (y 0).val = 0) (h1 : (y 1).val = x.val) :
    cntRows a y = addf (addf a.2.2.2.1 a.2.2.2.2.1) a.2.2.2.2.2.1 (ix1 x) :=
  (if_pos h0).trans (lane_ix x (addf (addf a.2.2.2.1 a.2.2.2.2.1) a.2.2.2.2.2.1) _ h1)
theorem cntRows_tail (a : Acc Ideal) (y : S2x16.Idx) (x : Fin 16) (h0 : (y 0).val ≠ 0) (h1 : (y 1).val = x.val) :
    cntRows a y = a.2.2.2.2.2.2.2 (ix1 x) :=
  (if_neg h0).trans (lane_ix x a.2.2.2.2.2.2.2 _ h1)
theorem cntsOut_head (A B : Arr Ideal) (w : Fin 32) (x : Fin 16) :
    cntsOut A B (ix3 w 0 x) = addf (addf (chunksV A B w.val 8).2.2.2.1 (chunksV A B w.val 8).2.2.2.2.1) (chunksV A B w.val 8).2.2.2.2.2.1 (ix1 x) :=
  cntRows_head (chunksV A B w.val 8) _ x rfl rfl
theorem cntsOut_tail (A B : Arr Ideal) (w : Fin 32) (x : Fin 16) :
    cntsOut A B (ix3 w 1 x) = (chunksV A B w.val 8).2.2.2.2.2.2.2 (ix1 x) :=
  cntRows_tail (chunksV A B w.val 8) _ x Nat.one_ne_zero rfl

theorem sc_sums (A B : Arr Ideal) (j : S_.Idx) :
    headSum (sumsOut A B) j + tailSum (sumsOut A B) j = ∑ r ∈ Finset.range 1024, rowCells mdiff A B r := by
  rw [heads, tails, ← Finset.sum_add_distrib, ← tot_all sumTot mdiff sumTot_bump sumTot_zeros]
  refine Finset.sum_congr rfl fun w _ => ?_
  simp only [sumsOut_head, sumsOut_tail, sumTot]
theorem sc_cnts (A B : Arr Ideal) (j : S_.Idx) :
    headSum (cntsOut A B) j + tailSum (cntsOut A B) j = ∑ r ∈ Finset.range 1024, rowCells mone A B r := by
  rw [heads, tails, ← Finset.sum_add_distrib, ← tot_all cntTot mone cntTot_bump cntTot_zeros]
  refine Finset.sum_congr rfl fun w _ => ?_
  simp only [cntsOut_head, cntsOut_tail, cntTot]

/-! ## The TensorCore call's part -/

theorem tcTotal_eq (v : Blk Ideal) : tcTotal v = ∑ r : Fin 256, ∑ c : Fin 12, ∑ l : Fin 207, v (ix3 r c l) := by
  unfold tcTotal
  pointwise
  rw [Ideal.reduceAdd_total _ (by decide)]
  refine (Equiv.sum_comp (Shape.reshapeEquiv shapeCasts_S256x12x207_S1x256x12x207) v).trans ?_
  exact sum_idx3 v

theorem tcSum_eq (A B : Arr Ideal) (n : ℕ) :
    tcSum (blkOf A n) (blkOf B n) = ∑ r ∈ Finset.range 256, rowCells mdiff A B (1024 + 256 * n + r) := by
  unfold tcSum
  rw [tcTotal_eq, ← sum_blk]
  refine Finset.sum_congr rfl fun r _ => Finset.sum_congr rfl fun c _ => Finset.sum_congr rfl fun l _ => ?_
  unfold tcMask mdiff
  pointwise
  rw [ninf_f32, Ideal.absf_def, ite_not]
theorem tcCnt_eq (A B : Arr Ideal) (n : ℕ) :
    tcCnt (blkOf B n) = ∑ r ∈ Finset.range 256, rowCells mone A B (1024 + 256 * n + r) := by
  unfold tcCnt
  rw [tcTotal_eq, ← sum_blk]
  refine Finset.sum_congr rfl fun r _ => Finset.sum_congr rfl fun c _ => Finset.sum_congr rfl fun l _ => ?_
  unfold tcMask mone
  pointwise
  rw [ninf_f32, ite_not]

theorem zeroF_ideal : (zeroF : Ideal .f32) = 0 := by
  unfold zeroF
  pointwise

/-- Blocks that add up rows in turn. -/
theorem acc_rows (h : ℕ → EReal) (T : ℕ → EReal) (h0 : T 0 = 0) (hs : ∀ n, T (n + 1) = T n + ∑ r ∈ Finset.range 256, h (1024 + 256 * n + r)) (n : ℕ) :
    (∑ r ∈ Finset.range 1024, h r) + T n = ∑ r ∈ Finset.range (1024 + 256 * n), h r := by
  induction n with
  | zero => rw [h0, add_zero]
  | succ n ih => rw [hs, ← add_assoc, ih, Nat.mul_succ, ← Nat.add_assoc, Finset.sum_range_add _ (1024 + 256 * n) 256]

/-! ## The whole -/

/-- The kernel's total is the sum over all rows, -/
theorem total_sums (A B : Arr Ideal) (j : S_.Idx) :
    totalOf (sumsOut A B) (word (tcAccS A B 12)) j = ∑ r ∈ Finset.range 4096, rowCells mdiff A B r := by
  show (headSum (sumsOut A B) j + tailSum (sumsOut A B) j) + tcAccS A B 12 = _
  rw [sc_sums]
  exact acc_rows (rowCells mdiff A B) (tcAccS A B) zeroF_ideal
    (fun n => (congrArg (fun x : EReal => tcAccS A B n + x) (tcSum_eq A B n))) 12
/-- and its count. -/
theorem total_cnts (A B : Arr Ideal) (j : S_.Idx) :
    totalOf (cntsOut A B) (word (tcAccC B 12)) j = ∑ r ∈ Finset.range 4096, rowCells mone A B r := by
  show (headSum (cntsOut A B) j + tailSum (cntsOut A B) j) + tcAccC B 12 = _
  rw [sc_cnts]
  exact acc_rows (rowCells mone A B) (tcAccC B) zeroF_ideal
    (fun n => (congrArg (fun x : EReal => tcAccC B n + x) (tcCnt_eq A B n))) 12

end Cert.Proof.Run

end
-- ==== Proof.Reference.lean ====
/-
  The reference at the ideal instance: its two sums over the whole arrays are the sums over all rows that the kernel's
  partial results come to, so that the two losses are one value.
-/
module

public import proofs.«01_k».proof.Proof.Totals
public import proofs.«01_k».proof.Proof.Gen.ReferenceIdeal.Run

@[expose] public section

noncomputable section

namespace Cert.Proof.Run

open Cert.KernelIdeal Cert.KernelIdeal.Gen
open Idealize.ShloMosaic
open scoped BigOperators

/-- The reference's mask. -/
def refMask (B : Arr Ideal) : FVec Ideal S4096x12x207 .f32 :=
  uitofp .f32 (cmpf (F := Ideal) (φ := .f32) .une B (broadcastInDim S4096x12x207 ![] Cert.ReferenceIdeal.Gen.facts.bcast_S_S4096x12x207 (constant S_ .f32 0xFF800000#32)))
/-- The reference's total, -/
def refSum (A B : Arr Ideal) : Sca Ideal :=
  Host.reduceAdd (mulf (Host.absf (subf (φ := .f32) A B)) (refMask B)) (constant S_ .f32 0x00000000#32) Cert.ReferenceIdeal.Gen.facts.reducesTo_S4096x12x207_S_d0_1_2 Cert.ReferenceIdeal.Gen.facts.h_S_
/-- and its count. -/
def refCnt (B : Arr Ideal) : Sca Ideal :=
  Host.reduceAdd (refMask B) (constant S_ .f32 0x00000000#32) Cert.ReferenceIdeal.Gen.facts.reducesTo_S4096x12x207_S_d0_1_2 Cert.ReferenceIdeal.Gen.facts.h_S_

theorem refMask_apply (A B : Arr Ideal) (i : S4096x12x207.Idx) : refMask B i = mone (A i) (B i) := by
  unfold refMask mone
  pointwise
  rw [ninf_f32]
  by_cases h : B i = ⊥
  · rw [if_pos h, decide_eq_false (not_not.mpr h)]
    show ((((0 : ℕ) : ℝ)) : EReal) = 0
    simp
  · rw [if_neg h, decide_eq_true h]
    show ((((1 : ℕ) : ℝ)) : EReal) = 1
    simp

theorem refSum_eq (A B : Arr Ideal) (j : S_.Idx) : refSum A B j = ∑ r ∈ Finset.range 4096, rowCells mdiff A B r := by
  rw [← sum_arr]
  unfold refSum
  pointwise
  refine Finset.sum_congr rfl fun r _ => Finset.sum_congr rfl fun c _ => Finset.sum_congr rfl fun l _ => ?_
  rw [refMask_apply A, Ideal.absf_def]
  unfold mdiff mone
  split_ifs
  · exact mul_zero _
  · exact mul_one _

theorem refCnt_eq (A B : Arr Ideal) (j : S_.Idx) : refCnt B j = ∑ r ∈ Finset.range 4096, rowCells mone A B r := by
  rw [← sum_arr]
  unfold refCnt
  pointwise
  exact Finset.sum_congr rfl fun r _ => Finset.sum_congr rfl fun c _ => Finset.sum_congr rfl fun l _ => refMask_apply A B _

/-- The kernel's value is the reference's. -/
theorem loss_eq (A B : Arr Ideal) : lossVal A B = lossOf (refSum A B) (refCnt B) := by
  have hs : totalOf (sumsOut A B) (word (tcAccS A B 12)) = refSum A B := funext fun j => (total_sums A B j).trans (refSum_eq A B j).symm
  have hc : totalOf (cntsOut A B) (word (tcAccC B 12)) = refCnt B := funext fun j => (total_cnts A B j).trans (refCnt_eq A B j).symm
  unfold lossVal
  rw [hs, hc]

end Cert.Proof.Run

end
-- ==== Proof.lean ====
/-
  The proof of `Cert.Claim`: the kernel as printed and its idealization both run to the end, their arguments as they were
  and every semaphore at zero; so does the reference; and at the ideal instance the kernel's result is the reference's.

    Proof/Body       the vector subcore's kernel cut into chunks, rows and vectors
    Proof/Setup      the program's labels, threads and ghost state
    Proof/Values     what a subcore adds up, as a function of the two arrays
    Proof/ChunkRun, Streams, RowRun, TileRun
                     a subcore's run: the double-buffered copies, the chunks added up, the results copied out
    Proof/Launch     what the call hands to each subcore and gets back
    Proof/Split      the arrays shared out over all subcores, and put together again
    Proof/TcBody, TcRegion
                     the TensorCore's call on the rows the SparseCores leave
    Proof/HostTail   the host's operations behind both calls
    Proof/Main, MainRun
                     @main and the whole run, over any float values
    Proof/Cells, ScSum, Totals, Reference
                     the sums at the ideal instance: the kernel's value is the reference's
-/
module

public import proofs.«01_k».proof.Defs
public import proofs.«01_k».proof.Proof.MainRun
public import proofs.«01_k».proof.Proof.Reference
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Lib.Pipeline.Regions
public import Idealize.ShloMosaic.Init
public import Idealize.ShloMosaic.Lib.Quiescent

@[expose] public section

noncomputable section

namespace Cert.Proof

open Idealize.ShloMosaic Idealize.SL.Sem
open Cert.Proof.Run (run_main lossVal loss_eq)

/-- The kernel's frame claim, said of the idealization's text at bit-exact floats. -/
def FrameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (Cert.KernelIdeal.threads (F := Bits)) ⟨m, fun _ => 0, g⟩ (fun r => (∀ c : Dev Cert.KernelIdeal.nD,
      r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
      ∧ r.2.sem = fun _ => 0)

/-- The two programs have the same text: what is said of one is said of the other. -/
theorem frame_kernel_eq : Cert.quiescent_Kernel = FrameBits := by chain_rfl

/-- The kernel as printed: its text is its idealization's, whose run is over any float values. -/
theorem frame_kernel : Cert.quiescent_Kernel := frame_kernel_eq.mpr fun m ρ _ =>
  (θ_run Cert.KernelIdeal.defs _ _).mono (fun _ h => ⟨fun c => ⟨(h.1 c).1, (h.1 c).2.1⟩, h.2⟩) (run_main (F := Bits) m ρ)

theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference is host operations only: it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal := trivial

/-- The kernel's loss is the reference's, at the ideal instance. -/
theorem algebraic : Cert.algebraic_KernelIdeal_ReferenceIdeal := by
  intro m ρ m' ρ' _ hagree
  refine ⟨fun c => lossVal (F := Ideal) (m (Cert.Proof.Run.aLoc c)) (m (Cert.Proof.Run.bLoc c)), ?_, ?_⟩
  · exact (θ_run Cert.KernelIdeal.defs _ _).mono (fun _ h c => ⟨(h.1 c).2.2, (h.1 c).1, (h.1 c).2.1⟩) (run_main (F := Ideal) m ρ)
  · refine (θ_run Cert.ReferenceIdeal.defs _ _).mono (fun _ h c => ⟨(h c).1.trans ?_, (h c).2⟩) (Cert.ReferenceIdeal.Value.run (F := Ideal) m' ρ')
    rw [(hagree c).1, (hagree c).2]
    exact (loss_eq _ _).symm

theorem claim : Cert.Claim :=
  ⟨Cert.Kernel.Gen.facts, Cert.KernelIdeal.Gen.facts, Cert.ReferenceIdeal.Gen.facts,
    frame_kernel, frame_kernelIdeal, frame_reference, preserves, algebraic⟩

end Cert.Proof

end
